-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_boxes [hPre_finite_boxes : Cert.Pre_finite_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_boxes [hPre_finite_boxes : Cert.Pre_finite_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_boxes [hKernelIdeal : Cert.KernelIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_boxes [hReferenceIdeal : Cert.ReferenceIdeal.Facts] [hPre_finite_boxes : Cert.Pre_finite_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_boxes [hKernelIdeal : Cert.KernelIdeal.Facts] [hReferenceIdeal : Cert.ReferenceIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v705) = v0 c
          ∧ r.2.mem ((c.tc : Thread Cert.ReferenceIdeal.nD Cert.ReferenceIdeal.τ).loc Cert.ReferenceIdeal.main_v706) = v1 c
          ∧ r.2.mem ((c.tc : Thread Cert.ReferenceIdeal.nD Cert.ReferenceIdeal.τ).loc Cert.ReferenceIdeal.main_v707) = v2 c
          ∧ r.2.mem ((c.tc : Thread Cert.ReferenceIdeal.nD Cert.ReferenceIdeal.τ).loc Cert.ReferenceIdeal.main_v709) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_boxes : Cert.Pre_finite_boxes.Facts),
    quiescent_Kernel (hKernel := hKernel)
    ∧ quiescent_KernelIdeal (hKernelIdeal := hKernelIdeal)
    ∧ quiescent_KernelIdeal_pre_finite_boxes (hKernelIdeal := hKernelIdeal) (hPre_finite_boxes := hPre_finite_boxes)
    ∧ quiescent_ReferenceIdeal (hReferenceIdeal := hReferenceIdeal)
    ∧ quiescent_ReferenceIdeal_pre_finite_boxes (hReferenceIdeal := hReferenceIdeal) (hPre_finite_boxes := hPre_finite_boxes)
    ∧ preserves_Kernel_KernelIdeal
    ∧ algebraic_KernelIdeal_ReferenceIdeal_pre_finite_boxes (hKernelIdeal := hKernelIdeal) (hReferenceIdeal := hReferenceIdeal) (hPre_finite_boxes := hPre_finite_boxes)
-- ==== Pre_finite_boxes.lean ====
abbrev S4x20000x1x4 : Shape := ⟨4, ![4, 20000, 1, 4]⟩
abbrev S4x20000x80 : Shape := ⟨3, ![4, 20000, 80]⟩
abbrev S_ : Shape := ⟨0, ![]⟩

class Facts : Prop where
  bcast_S_S4x20000x1x4 : S_.BroadcastsInDim S4x20000x1x4 (![] : Fin 0 → Fin S4x20000x1x4.rank)

variable [Facts]

def fn {F : FTy → Type} [FloatOps F] (main_arg0 : FVec F S4x20000x1x4 .f32) (main_arg1 : FVec F S4x20000x80 .f32) : IVec S4x20000x1x4 1 :=
  let main_cst : FVec F S_ .f32 := constant S_ .f32 0xFF800000#32
  let main_v0 : FVec F S4x20000x1x4 .f32 := broadcastInDim S4x20000x1x4 ![] bcast_S_S4x20000x1x4 main_cst
  let main_v1 : IVec S4x20000x1x4 1 := cmpf .ogt main_arg0 main_v0
  let main_cst_0 : FVec F S_ .f32 := constant S_ .f32 0x7F800000#32
  let main_v2 : FVec F S4x20000x1x4 .f32 := broadcastInDim S4x20000x1x4 ![] bcast_S_S4x20000x1x4 main_cst_0
  let main_v3 : IVec S4x20000x1x4 1 := cmpf .olt main_arg0 main_v2
  let main_v4 : IVec S4x20000x1x4 1 := andi main_v1 main_v3
  main_v4
-- ==== Kernel.lean ====
abbrev S4x20000x1x4 : Shape := ⟨4, ![4, 20000, 1, 4]⟩
abbrev S4x20000x80 : Shape := ⟨3, ![4, 20000, 80]⟩
abbrev S4x20000x4 : Shape := ⟨3, ![4, 20000, 4]⟩
abbrev S4x4x20000 : Shape := ⟨3, ![4, 4, 20000]⟩
abbrev S4x80x20000 : Shape := ⟨3, ![4, 80, 20000]⟩
abbrev S4x80x8 : Shape := ⟨3, ![4, 80, 8]⟩
abbrev S1x4x20000 : Shape := ⟨3, ![1, 4, 20000]⟩
abbrev S1x40x20000 : Shape := ⟨3, ![1, 40, 20000]⟩
abbrev S1x40x8 : Shape := ⟨3, ![1, 40, 8]⟩
abbrev S4x20000 : Shape := ⟨2, ![4, 20000]⟩
abbrev S1x20000 : Shape := ⟨2, ![1, 20000]⟩
abbrev S40x20000 : Shape := ⟨2, ![40, 20000]⟩
abbrev S40 : Shape := ⟨1, ![40]⟩
abbrev S40x1 : Shape := ⟨2, ![40, 1]⟩
abbrev S40x8 : Shape := ⟨2, ![40, 8]⟩
abbrev S4x8x4 : Shape := ⟨3, ![4, 8, 4]⟩
abbrev S4x1x8 : Shape := ⟨3, ![4, 1, 8]⟩
abbrev S4x1x1 : Shape := ⟨3, ![4, 1, 1]⟩
abbrev S1x80x8 : Shape := ⟨3, ![1, 80, 8]⟩
abbrev S1x8x4 : Shape := ⟨3, ![1, 8, 4]⟩
abbrev S1x1x8 : Shape := ⟨3, ![1, 1, 8]⟩
abbrev S1x1x1 : Shape := ⟨3, ![1, 1, 1]⟩
abbrev S80x8 : Shape := ⟨2, ![80, 8]⟩
abbrev S1 : Shape := ⟨1, ![1]⟩
abbrev S1x1 : Shape := ⟨2, ![1, 1]⟩
abbrev S1x4 : Shape := ⟨2, ![1, 4]⟩
abbrev S8x4 : Shape := ⟨2, ![8, 4]⟩
abbrev S1x8 : Shape := ⟨2, ![1, 8]⟩
abbrev S4x8 : Shape := ⟨2, ![4, 8]⟩
abbrev S4 : Shape := ⟨1, ![4]⟩

abbrev nBuf : Space → Nat
  | .hbm => 17
  | .vmem => 32
  | .smem => 0
  | _ => 0

abbrev bufTy : (tb : Table) → Fin (tcTables nBuf tb) → BufTy
  | .hbm, ⟨0, _⟩ => ⟨S4x20000x1x4, .f32⟩
  | .hbm, ⟨1, _⟩ => ⟨S4x20000x80, .f32⟩
  | .hbm, ⟨2, _⟩ => ⟨S4x20000x4, .f32⟩
  | .hbm, ⟨3, _⟩ => ⟨S4x4x20000, .f32⟩
  | .hbm, ⟨4, _⟩ => ⟨S4x80x20000, .f32⟩
  | .hbm, ⟨5, _⟩ => ⟨S4x80x8, .f32⟩
  | .hbm, ⟨6, _⟩ => ⟨S4x80x8, .f32⟩
  | .hbm, ⟨7, _⟩ => ⟨S4x80x8, .f32⟩
  | .hbm, ⟨8, _⟩ => ⟨S4x80x8, .f32⟩
  | .hbm, ⟨9, _⟩ => ⟨S4x80x8, .f32⟩
  | .hbm, ⟨10, _⟩ => ⟨S4x8x4, .f32⟩
  | .hbm, ⟨11, _⟩ => ⟨S4x1x8, .f32⟩
  | .hbm, ⟨12, _⟩ => ⟨S4x1x8, .i32⟩
  | .hbm, ⟨13, _⟩ => ⟨S4x1x1, .i32⟩
  | .hbm, ⟨14, _⟩ => ⟨S4x8, .f32⟩
  | .hbm, ⟨15, _⟩ => ⟨S4x8, .i32⟩
  | .hbm, ⟨16, _⟩ => ⟨S4, .i32⟩
  | .local _ .vmem, ⟨0, _⟩ => ⟨S1x4x20000, .f32⟩
  | .local _ .vmem, ⟨1, _⟩ => ⟨S1x4x20000, .f32⟩
  | .local _ .vmem, ⟨2, _⟩ => ⟨S1x40x20000, .f32⟩
  | .local _ .vmem, ⟨3, _⟩ => ⟨S1x40x20000, .f32⟩
  | .local _ .vmem, ⟨4, _⟩ => ⟨S1x40x8, .f32⟩
  | .local _ .vmem, ⟨5, _⟩ => ⟨S1x40x8, .f32⟩
  | .local _ .vmem, ⟨6, _⟩ => ⟨S1x40x8, .f32⟩
  | .local _ .vmem, ⟨7, _⟩ => ⟨S1x40x8, .f32⟩
  | .local _ .vmem, ⟨8, _⟩ => ⟨S1x40x8, .f32⟩
  | .local _ .vmem, ⟨9, _⟩ => ⟨S1x40x8, .f32⟩
  | .local _ .vmem, ⟨10, _⟩ => ⟨S1x40x8, .f32⟩
  | .local _ .vmem, ⟨11, _⟩ => ⟨S1x40x8, .f32⟩
  | .local _ .vmem, ⟨12, _⟩ => ⟨S1x40x8, .f32⟩
  | .local _ .vmem, ⟨13, _⟩ => ⟨S1x40x8, .f32⟩
  | .local _ .vmem, ⟨14, _⟩ => ⟨S1x80x8, .f32⟩
  | .local _ .vmem, ⟨15, _⟩ => ⟨S1x80x8, .f32⟩
  | .local _ .vmem, ⟨16, _⟩ => ⟨S1x80x8, .f32⟩
  | .local _ .vmem, ⟨17, _⟩ => ⟨S1x80x8, .f32⟩
  | .local _ .vmem, ⟨18, _⟩ => ⟨S1x80x8, .f32⟩
  | .local _ .vmem, ⟨19, _⟩ => ⟨S1x80x8, .f32⟩
  | .local _ .vmem, ⟨20, _⟩ => ⟨S1x80x8, .f32⟩
  | .local _ .vmem, ⟨21, _⟩ => ⟨S1x80x8, .f32⟩
  | .local _ .vmem, ⟨22, _⟩ => ⟨S1x80x8, .f32⟩
  | .local _ .vmem, ⟨23, _⟩ => ⟨S1x80x8, .f32⟩
  | .local _ .vmem, ⟨24, _⟩ => ⟨S1x8x4, .f32⟩
  | .local _ .vmem, ⟨25, _⟩ => ⟨S1x8x4, .f32⟩
  | .local _ .vmem, ⟨26, _⟩ => ⟨S1x1x8, .f32⟩
  | .local _ .vmem, ⟨27, _⟩ => ⟨S1x1x8, .f32⟩
  | .local _ .vmem, ⟨28, _⟩ => ⟨S1x1x8, .i32⟩
  | .local _ .vmem, ⟨29, _⟩ => ⟨S1x1x8, .i32⟩
  | .local _ .vmem, ⟨30, _⟩ => ⟨S1x1x1, .i32⟩
  | .local _ .vmem, ⟨31, _⟩ => ⟨S1x1x1, .i32⟩
  | _, _ => ⟨S4x20000x1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x40x20000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x40x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x40x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x40x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x40x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x80x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x80x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x80x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x80x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x80x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x8x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x8 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x8 .i32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x1 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S4x20000x1x4 : Shape := ⟨4, ![4, 20000, 1, 4]⟩
abbrev S4x20000x80 : Shape := ⟨3, ![4, 20000, 80]⟩
abbrev S4x20000x4 : Shape := ⟨3, ![4, 20000, 4]⟩
abbrev S4x20000x1 : Shape := ⟨3, ![4, 20000, 1]⟩
abbrev S4x20000 : Shape := ⟨2, ![4, 20000]⟩
abbrev S4x80x20000 : Shape := ⟨3, ![4, 80, 20000]⟩
abbrev S_ : Shape := ⟨0, ![]⟩
abbrev S4 : Shape := ⟨1, ![4]⟩
abbrev S4x1 : Shape := ⟨2, ![4, 1]⟩
abbrev S4x80 : Shape := ⟨2, ![4, 80]⟩
abbrev S4x80x1 : Shape := ⟨3, ![4, 80, 1]⟩
abbrev S4x80x1x1 : Shape := ⟨4, ![4, 80, 1, 1]⟩
abbrev S1 : Shape := ⟨1, ![1]⟩
abbrev S1x1x1x1 : Shape := ⟨4, ![1, 1, 1, 1]⟩
abbrev S4x80x2 : Shape := ⟨3, ![4, 80, 2]⟩
abbrev S4x80x4 : Shape := ⟨3, ![4, 80, 4]⟩
abbrev S4x80x1x4 : Shape := ⟨4, ![4, 80, 1, 4]⟩
abbrev S4x1x20000x4 : Shape := ⟨4, ![4, 1, 20000, 4]⟩
abbrev S4x80x1x2 : Shape := ⟨4, ![4, 80, 1, 2]⟩
abbrev S4x1x20000x2 : Shape := ⟨4, ![4, 1, 20000, 2]⟩
abbrev S4x80x20000x2 : Shape := ⟨4, ![4, 80, 20000, 2]⟩
abbrev S4x80x20000x1 : Shape := ⟨4, ![4, 80, 20000, 1]⟩
abbrev S4x1x20000x1 : Shape := ⟨4, ![4, 1, 20000, 1]⟩
abbrev S4x1x20000 : Shape := ⟨3, ![4, 1, 20000]⟩
abbrev S4x80x8 : Shape := ⟨3, ![4, 80, 8]⟩
abbrev S4x640 : Shape := ⟨2, ![4, 640]⟩
abbrev S4x80x8x4 : Shape := ⟨4, ![4, 80, 8, 4]⟩
abbrev S4x640x4 : Shape := ⟨3, ![4, 640, 4]⟩
abbrev S80 : Shape := ⟨1, ![80]⟩
abbrev S80x1 : Shape := ⟨2, ![80, 1]⟩
abbrev S80x8 : Shape := ⟨2, ![80, 8]⟩
abbrev S640 : Shape := ⟨1, ![640]⟩
abbrev S1x640 : Shape := ⟨2, ![1, 640]⟩
abbrev S4x8 : Shape := ⟨2, ![4, 8]⟩
abbrev S4x8x1 : Shape := ⟨3, ![4, 8, 1]⟩
abbrev S1x1x1 : Shape := ⟨3, ![1, 1, 1]⟩
abbrev S4x8x4 : Shape := ⟨3, ![4, 8, 4]⟩

abbrev nBuf : Space → Nat
  | .hbm => 1147
  | .vmem => 0
  | .smem => 0
  | _ => 0

abbrev hbmTy0_0 (i : Nat) : BufTy := match i % 128 with
  | 0 => ⟨S4x20000x1x4, .f32⟩
  | 1 => ⟨S4x20000x80, .f32⟩
  | 2 => ⟨S4x20000x4, .f32⟩
  | 3 => ⟨S4x20000x1, .f32⟩
  | 4 => ⟨S4x20000, .f32⟩
  | 5 => ⟨S4x20000x1, .f32⟩
  | 6 => ⟨S4x20000, .f32⟩
  | 7 => ⟨S4x20000, .f32⟩
  | 8 => ⟨S4x20000x1, .f32⟩
  | 9 => ⟨S4x20000, .f32⟩
  | 10 => ⟨S4x20000x1, .f32⟩
  | 11 => ⟨S4x20000, .f32⟩
  | 12 => ⟨S4x20000, .f32⟩
  | 13 => ⟨S4x20000x1, .f32⟩
  | 14 => ⟨S4x20000, .f32⟩
  | 15 => ⟨S4x20000x1, .f32⟩
  | 16 => ⟨S4x20000, .f32⟩
  | 17 => ⟨S4x20000, .f32⟩
  | 18 => ⟨S4x20000x1, .f32⟩
  | 19 => ⟨S4x20000, .f32⟩
  | 20 => ⟨S4x20000x1, .f32⟩
  | 21 => ⟨S4x20000, .f32⟩
  | 22 => ⟨S4x20000, .f32⟩
  | 23 => ⟨S4x20000x1, .f32⟩
  | 24 => ⟨S4x20000x1, .f32⟩
  | 25 => ⟨S4x20000x1, .f32⟩
  | 26 => ⟨S4x20000x1, .f32⟩
  | 27 => ⟨S4x20000x4, .f32⟩
  | 28 => ⟨S4x80x20000, .f32⟩
  | 29 => ⟨S_, .f32⟩
  | 30 => ⟨S4x80x20000, .f32⟩
  | 31 => ⟨S4x80x20000, .i1⟩
  | 32 => ⟨S_, .f32⟩
  | 33 => ⟨S_, .f32⟩
  | 34 => ⟨S4x80x20000, .f32⟩
  | 35 => ⟨S4x80x20000, .f32⟩
  | 36 => ⟨S4, .i32⟩
  | 37 => ⟨S4x1, .i32⟩
  | 38 => ⟨S4x80x20000, .i32⟩
  | 39 => ⟨S_, .f32⟩
  | 40 => ⟨S_, .i32⟩
  | 41 => ⟨S4x80, .f32⟩
  | 42 => ⟨S4x80, .i32⟩
  | 43 => ⟨S4x80x1, .i32⟩
  | 44 => ⟨S_, .i32⟩
  | 45 => ⟨S4x80x1, .i32⟩
  | 46 => ⟨S4x80x1, .i1⟩
  | 47 => ⟨S_, .i32⟩
  | 48 => ⟨S4x80x1, .i32⟩
  | 49 => ⟨S4x80x1, .i32⟩
  | 50 => ⟨S4x80x1, .i32⟩
  | 51 => ⟨S4x80x1x1, .i32⟩
  | 52 => ⟨S1, .i32⟩
  | 53 => ⟨S_, .i32⟩
  | 54 => ⟨S4x80x1x1, .i32⟩
  | 55 => ⟨S4x80x1x1, .i1⟩
  | 56 => ⟨S1x1x1x1, .i32⟩
  | 57 => ⟨S4x80x1x1, .i32⟩
  | 58 => ⟨S4x80x1x1, .i1⟩
  | 59 => ⟨S4x80x1x1, .i1⟩
  | 60 => ⟨S_, .i1⟩
  | 61 => ⟨S4x80x1, .i1⟩
  | 62 => ⟨S4x80x1, .f32⟩
  | 63 => ⟨S_, .f32⟩
  | 64 => ⟨S4x80x1, .f32⟩
  | 65 => ⟨S4x80x1, .f32⟩
  | 66 => ⟨S4x80, .f32⟩
  | 67 => ⟨S_, .f32⟩
  | 68 => ⟨S4x80, .f32⟩
  | 69 => ⟨S4x80, .i1⟩
  | 70 => ⟨S_, .i32⟩
  | 71 => ⟨S4x1, .i32⟩
  | 72 => ⟨S4x1, .i1⟩
  | 73 => ⟨S_, .i32⟩
  | 74 => ⟨S4x1, .i32⟩
  | 75 => ⟨S4x1, .i32⟩
  | 76 => ⟨S4x1, .i32⟩
  | 77 => ⟨S_, .i32⟩
  | 78 => ⟨S4x80, .i32⟩
  | 79 => ⟨S4x80, .i1⟩
  | 80 => ⟨S_, .i32⟩
  | 81 => ⟨S4x80, .i32⟩
  | 82 => ⟨S4x80, .i32⟩
  | 83 => ⟨S4x80, .i32⟩
  | 84 => ⟨S4x80, .i32⟩
  | 85 => ⟨S4x80x1, .i32⟩
  | 86 => ⟨S4x80x1, .i32⟩
  | 87 => ⟨S4x80x2, .i32⟩
  | 88 => ⟨S4x80x4, .f32⟩
  | 89 => ⟨S_, .f32⟩
  | 90 => ⟨S_, .f32⟩
  | 91 => ⟨S4x80, .f32⟩
  | 92 => ⟨S4x80, .f32⟩
  | 93 => ⟨S4x80x1, .i1⟩
  | 94 => ⟨S_, .f32⟩
  | 95 => ⟨S_, .f32⟩
  | 96 => ⟨S4x80x4, .i1⟩
  | 97 => ⟨S4x80x4, .f32⟩
  | 98 => ⟨S4x80x4, .f32⟩
  | 99 => ⟨S4x80x1x4, .f32⟩
  | 100 => ⟨S4x1x20000x4, .f32⟩
  | 101 => ⟨S4x80x1x2, .f32⟩
  | 102 => ⟨S4x1x20000x2, .f32⟩
  | 103 => ⟨S4x80x20000x2, .f32⟩
  | 104 => ⟨S4x80x20000x2, .f32⟩
  | 105 => ⟨S4x80x20000x2, .f32⟩
  | 106 => ⟨S4x80x1x2, .f32⟩
  | 107 => ⟨S4x1x20000x2, .f32⟩
  | 108 => ⟨S4x80x20000x2, .f32⟩
  | 109 => ⟨S4x80x20000x2, .f32⟩
  | 110 => ⟨S4x80x20000x2, .f32⟩
  | 111 => ⟨S4x80x20000x2, .f32⟩
  | 112 => ⟨S_, .f32⟩
  | 113 => ⟨S4x80x20000x2, .f32⟩
  | 114 => ⟨S4x80x20000x2, .f32⟩
  | 115 => ⟨S4x80x20000x1, .f32⟩
  | 116 => ⟨S4x80x20000, .f32⟩
  | 117 => ⟨S4x80x20000x1, .f32⟩
  | 118 => ⟨S4x80x20000, .f32⟩
  | 119 => ⟨S4x80x20000, .f32⟩
  | 120 => ⟨S4x80x1x1, .f32⟩
  | 121 => ⟨S4x80x1, .f32⟩
  | 122 => ⟨S4x80x1x1, .f32⟩
  | 123 => ⟨S4x80x1, .f32⟩
  | 124 => ⟨S4x80x1, .f32⟩
  | 125 => ⟨S4x80x1x1, .f32⟩
  | 126 => ⟨S4x80x1, .f32⟩
  | 127 => ⟨S4x80x1x1, .f32⟩
  | _ => ⟨S4x20000x1x4, .f32⟩

abbrev hbmTy0_1 (i : Nat) : BufTy := match i % 128 with
  | 0 => ⟨S4x80x1, .f32⟩
  | 1 => ⟨S4x80x1, .f32⟩
  | 2 => ⟨S4x80x1, .f32⟩
  | 3 => ⟨S4x1x20000x1, .f32⟩
  | 4 => ⟨S4x1x20000, .f32⟩
  | 5 => ⟨S4x1x20000x1, .f32⟩
  | 6 => ⟨S4x1x20000, .f32⟩
  | 7 => ⟨S4x1x20000, .f32⟩
  | 8 => ⟨S4x1x20000x1, .f32⟩
  | 9 => ⟨S4x1x20000, .f32⟩
  | 10 => ⟨S4x1x20000x1, .f32⟩
  | 11 => ⟨S4x1x20000, .f32⟩
  | 12 => ⟨S4x1x20000, .f32⟩
  | 13 => ⟨S4x1x20000, .f32⟩
  | 14 => ⟨S4x80x20000, .f32⟩
  | 15 => ⟨S4x80x20000, .f32⟩
  | 16 => ⟨S4x80x20000, .f32⟩
  | 17 => ⟨S4x80x20000, .f32⟩
  | 18 => ⟨S_, .f32⟩
  | 19 => ⟨S4x80x20000, .f32⟩
  | 20 => ⟨S4x80x20000, .i1⟩
  | 21 => ⟨S4x80x20000, .f32⟩
  | 22 => ⟨S_, .f32⟩
  | 23 => ⟨S_, .f32⟩
  | 24 => ⟨S4x80x20000, .f32⟩
  | 25 => ⟨S4x80x20000, .f32⟩
  | 26 => ⟨S_, .f32⟩
  | 27 => ⟨S4x80x20000, .f32⟩
  | 28 => ⟨S4x80x20000, .i1⟩
  | 29 => ⟨S4x80x1, .i1⟩
  | 30 => ⟨S4x80x20000, .i1⟩
  | 31 => ⟨S4x80x20000, .i1⟩
  | 32 => ⟨S_, .f32⟩
  | 33 => ⟨S_, .f32⟩
  | 34 => ⟨S4x80x20000, .f32⟩
  | 35 => ⟨S4x80x20000, .f32⟩
  | 36 => ⟨S4x80x20000, .i32⟩
  | 37 => ⟨S_, .f32⟩
  | 38 => ⟨S_, .i32⟩
  | 39 => ⟨S4x80, .f32⟩
  | 40 => ⟨S4x80, .i32⟩
  | 41 => ⟨S4x80x1, .i32⟩
  | 42 => ⟨S_, .i32⟩
  | 43 => ⟨S4x80x1, .i32⟩
  | 44 => ⟨S4x80x1, .i1⟩
  | 45 => ⟨S_, .i32⟩
  | 46 => ⟨S4x80x1, .i32⟩
  | 47 => ⟨S4x80x1, .i32⟩
  | 48 => ⟨S4x80x1, .i32⟩
  | 49 => ⟨S4x80x1x1, .i32⟩
  | 50 => ⟨S1, .i32⟩
  | 51 => ⟨S_, .i32⟩
  | 52 => ⟨S4x80x1x1, .i32⟩
  | 53 => ⟨S4x80x1x1, .i1⟩
  | 54 => ⟨S1x1x1x1, .i32⟩
  | 55 => ⟨S4x80x1x1, .i32⟩
  | 56 => ⟨S4x80x1x1, .i1⟩
  | 57 => ⟨S4x80x1x1, .i1⟩
  | 58 => ⟨S_, .i1⟩
  | 59 => ⟨S4x80x1, .i1⟩
  | 60 => ⟨S4x80x1, .f32⟩
  | 61 => ⟨S_, .f32⟩
  | 62 => ⟨S4x80x1, .f32⟩
  | 63 => ⟨S4x80x1, .f32⟩
  | 64 => ⟨S4x80, .f32⟩
  | 65 => ⟨S_, .f32⟩
  | 66 => ⟨S4x80, .f32⟩
  | 67 => ⟨S4x80, .i1⟩
  | 68 => ⟨S_, .i32⟩
  | 69 => ⟨S4x1, .i32⟩
  | 70 => ⟨S4x1, .i1⟩
  | 71 => ⟨S_, .i32⟩
  | 72 => ⟨S4x1, .i32⟩
  | 73 => ⟨S4x1, .i32⟩
  | 74 => ⟨S4x1, .i32⟩
  | 75 => ⟨S_, .i32⟩
  | 76 => ⟨S4x80, .i32⟩
  | 77 => ⟨S4x80, .i1⟩
  | 78 => ⟨S_, .i32⟩
  | 79 => ⟨S4x80, .i32⟩
  | 80 => ⟨S4x80, .i32⟩
  | 81 => ⟨S4x80, .i32⟩
  | 82 => ⟨S4x80, .i32⟩
  | 83 => ⟨S4x80x1, .i32⟩
  | 84 => ⟨S4x80x1, .i32⟩
  | 85 => ⟨S4x80x2, .i32⟩
  | 86 => ⟨S4x80x4, .f32⟩
  | 87 => ⟨S_, .f32⟩
  | 88 => ⟨S_, .f32⟩
  | 89 => ⟨S4x80, .f32⟩
  | 90 => ⟨S4x80, .f32⟩
  | 91 => ⟨S4x80x1, .i1⟩
  | 92 => ⟨S_, .f32⟩
  | 93 => ⟨S_, .f32⟩
  | 94 => ⟨S4x80x4, .i1⟩
  | 95 => ⟨S4x80x4, .f32⟩
  | 96 => ⟨S4x80x4, .f32⟩
  | 97 => ⟨S4x80x1x4, .f32⟩
  | 98 => ⟨S4x1x20000x4, .f32⟩
  | 99 => ⟨S4x80x1x2, .f32⟩
  | 100 => ⟨S4x1x20000x2, .f32⟩
  | 101 => ⟨S4x80x20000x2, .f32⟩
  | 102 => ⟨S4x80x20000x2, .f32⟩
  | 103 => ⟨S4x80x20000x2, .f32⟩
  | 104 => ⟨S4x80x1x2, .f32⟩
  | 105 => ⟨S4x1x20000x2, .f32⟩
  | 106 => ⟨S4x80x20000x2, .f32⟩
  | 107 => ⟨S4x80x20000x2, .f32⟩
  | 108 => ⟨S4x80x20000x2, .f32⟩
  | 109 => ⟨S4x80x20000x2, .f32⟩
  | 110 => ⟨S_, .f32⟩
  | 111 => ⟨S4x80x20000x2, .f32⟩
  | 112 => ⟨S4x80x20000x2, .f32⟩
  | 113 => ⟨S4x80x20000x1, .f32⟩
  | 114 => ⟨S4x80x20000, .f32⟩
  | 115 => ⟨S4x80x20000x1, .f32⟩
  | 116 => ⟨S4x80x20000, .f32⟩
  | 117 => ⟨S4x80x20000, .f32⟩
  | 118 => ⟨S4x80x1x1, .f32⟩
  | 119 => ⟨S4x80x1, .f32⟩
  | 120 => ⟨S4x80x1x1, .f32⟩
  | 121 => ⟨S4x80x1, .f32⟩
  | 122 => ⟨S4x80x1, .f32⟩
  | 123 => ⟨S4x80x1x1, .f32⟩
  | 124 => ⟨S4x80x1, .f32⟩
  | 125 => ⟨S4x80x1x1, .f32⟩
  | 126 => ⟨S4x80x1, .f32⟩
  | 127 => ⟨S4x80x1, .f32⟩
  | _ => ⟨S4x20000x1x4, .f32⟩

abbrev hbmTy0_2 (i : Nat) : BufTy := match i % 128 with
  | 0 => ⟨S4x80x1, .f32⟩
  | 1 => ⟨S4x1x20000x1, .f32⟩
  | 2 => ⟨S4x1x20000, .f32⟩
  | 3 => ⟨S4x1x20000x1, .f32⟩
  | 4 => ⟨S4x1x20000, .f32⟩
  | 5 => ⟨S4x1x20000, .f32⟩
  | 6 => ⟨S4x1x20000x1, .f32⟩
  | 7 => ⟨S4x1x20000, .f32⟩
  | 8 => ⟨S4x1x20000x1, .f32⟩
  | 9 => ⟨S4x1x20000, .f32⟩
  | 10 => ⟨S4x1x20000, .f32⟩
  | 11 => ⟨S4x1x20000, .f32⟩
  | 12 => ⟨S4x80x20000, .f32⟩
  | 13 => ⟨S4x80x20000, .f32⟩
  | 14 => ⟨S4x80x20000, .f32⟩
  | 15 => ⟨S4x80x20000, .f32⟩
  | 16 => ⟨S_, .f32⟩
  | 17 => ⟨S4x80x20000, .f32⟩
  | 18 => ⟨S4x80x20000, .i1⟩
  | 19 => ⟨S4x80x20000, .f32⟩
  | 20 => ⟨S_, .f32⟩
  | 21 => ⟨S_, .f32⟩
  | 22 => ⟨S4x80x20000, .f32⟩
  | 23 => ⟨S4x80x20000, .f32⟩
  | 24 => ⟨S_, .f32⟩
  | 25 => ⟨S4x80x20000, .f32⟩
  | 26 => ⟨S4x80x20000, .i1⟩
  | 27 => ⟨S4x80x1, .i1⟩
  | 28 => ⟨S4x80x20000, .i1⟩
  | 29 => ⟨S4x80x20000, .i1⟩
  | 30 => ⟨S_, .f32⟩
  | 31 => ⟨S_, .f32⟩
  | 32 => ⟨S4x80x20000, .f32⟩
  | 33 => ⟨S4x80x20000, .f32⟩
  | 34 => ⟨S4x80x20000, .i32⟩
  | 35 => ⟨S_, .f32⟩
  | 36 => ⟨S_, .i32⟩
  | 37 => ⟨S4x80, .f32⟩
  | 38 => ⟨S4x80, .i32⟩
  | 39 => ⟨S4x80x1, .i32⟩
  | 40 => ⟨S_, .i32⟩
  | 41 => ⟨S4x80x1, .i32⟩
  | 42 => ⟨S4x80x1, .i1⟩
  | 43 => ⟨S_, .i32⟩
  | 44 => ⟨S4x80x1, .i32⟩
  | 45 => ⟨S4x80x1, .i32⟩
  | 46 => ⟨S4x80x1, .i32⟩
  | 47 => ⟨S4x80x1x1, .i32⟩
  | 48 => ⟨S1, .i32⟩
  | 49 => ⟨S_, .i32⟩
  | 50 => ⟨S4x80x1x1, .i32⟩
  | 51 => ⟨S4x80x1x1, .i1⟩
  | 52 => ⟨S1x1x1x1, .i32⟩
  | 53 => ⟨S4x80x1x1, .i32⟩
  | 54 => ⟨S4x80x1x1, .i1⟩
  | 55 => ⟨S4x80x1x1, .i1⟩
  | 56 => ⟨S_, .i1⟩
  | 57 => ⟨S4x80x1, .i1⟩
  | 58 => ⟨S4x80x1, .f32⟩
  | 59 => ⟨S_, .f32⟩
  | 60 => ⟨S4x80x1, .f32⟩
  | 61 => ⟨S4x80x1, .f32⟩
  | 62 => ⟨S4x80, .f32⟩
  | 63 => ⟨S_, .f32⟩
  | 64 => ⟨S4x80, .f32⟩
  | 65 => ⟨S4x80, .i1⟩
  | 66 => ⟨S_, .i32⟩
  | 67 => ⟨S4x1, .i32⟩
  | 68 => ⟨S4x1, .i1⟩
  | 69 => ⟨S_, .i32⟩
  | 70 => ⟨S4x1, .i32⟩
  | 71 => ⟨S4x1, .i32⟩
  | 72 => ⟨S4x1, .i32⟩
  | 73 => ⟨S_, .i32⟩
  | 74 => ⟨S4x80, .i32⟩
  | 75 => ⟨S4x80, .i1⟩
  | 76 => ⟨S_, .i32⟩
  | 77 => ⟨S4x80, .i32⟩
  | 78 => ⟨S4x80, .i32⟩
  | 79 => ⟨S4x80, .i32⟩
  | 80 => ⟨S4x80, .i32⟩
  | 81 => ⟨S4x80x1, .i32⟩
  | 82 => ⟨S4x80x1, .i32⟩
  | 83 => ⟨S4x80x2, .i32⟩
  | 84 => ⟨S4x80x4, .f32⟩
  | 85 => ⟨S_, .f32⟩
  | 86 => ⟨S_, .f32⟩
  | 87 => ⟨S4x80, .f32⟩
  | 88 => ⟨S4x80, .f32⟩
  | 89 => ⟨S4x80x1, .i1⟩
  | 90 => ⟨S_, .f32⟩
  | 91 => ⟨S_, .f32⟩
  | 92 => ⟨S4x80x4, .i1⟩
  | 93 => ⟨S4x80x4, .f32⟩
  | 94 => ⟨S4x80x4, .f32⟩
  | 95 => ⟨S4x80x1x4, .f32⟩
  | 96 => ⟨S4x1x20000x4, .f32⟩
  | 97 => ⟨S4x80x1x2, .f32⟩
  | 98 => ⟨S4x1x20000x2, .f32⟩
  | 99 => ⟨S4x80x20000x2, .f32⟩
  | 100 => ⟨S4x80x20000x2, .f32⟩
  | 101 => ⟨S4x80x20000x2, .f32⟩
  | 102 => ⟨S4x80x1x2, .f32⟩
  | 103 => ⟨S4x1x20000x2, .f32⟩
  | 104 => ⟨S4x80x20000x2, .f32⟩
  | 105 => ⟨S4x80x20000x2, .f32⟩
  | 106 => ⟨S4x80x20000x2, .f32⟩
  | 107 => ⟨S4x80x20000x2, .f32⟩
  | 108 => ⟨S_, .f32⟩
  | 109 => ⟨S4x80x20000x2, .f32⟩
  | 110 => ⟨S4x80x20000x2, .f32⟩
  | 111 => ⟨S4x80x20000x1, .f32⟩
  | 112 => ⟨S4x80x20000, .f32⟩
  | 113 => ⟨S4x80x20000x1, .f32⟩
  | 114 => ⟨S4x80x20000, .f32⟩
  | 115 => ⟨S4x80x20000, .f32⟩
  | 116 => ⟨S4x80x1x1, .f32⟩
  | 117 => ⟨S4x80x1, .f32⟩
  | 118 => ⟨S4x80x1x1, .f32⟩
  | 119 => ⟨S4x80x1, .f32⟩
  | 120 => ⟨S4x80x1, .f32⟩
  | 121 => ⟨S4x80x1x1, .f32⟩
  | 122 => ⟨S4x80x1, .f32⟩
  | 123 => ⟨S4x80x1x1, .f32⟩
  | 124 => ⟨S4x80x1, .f32⟩
  | 125 => ⟨S4x80x1, .f32⟩
  | 126 => ⟨S4x80x1, .f32⟩
  | 127 => ⟨S4x1x20000x1, .f32⟩
  | _ => ⟨S4x20000x1x4, .f32⟩

abbrev hbmTy0_3 (i : Nat) : BufTy := match i % 128 with
  | 0 => ⟨S4x1x20000, .f32⟩
  | 1 => ⟨S4x1x20000x1, .f32⟩
  | 2 => ⟨S4x1x20000, .f32⟩
  | 3 => ⟨S4x1x20000, .f32⟩
  | 4 => ⟨S4x1x20000x1, .f32⟩
  | 5 => ⟨S4x1x20000, .f32⟩
  | 6 => ⟨S4x1x20000x1, .f32⟩
  | 7 => ⟨S4x1x20000, .f32⟩
  | 8 => ⟨S4x1x20000, .f32⟩
  | 9 => ⟨S4x1x20000, .f32⟩
  | 10 => ⟨S4x80x20000, .f32⟩
  | 11 => ⟨S4x80x20000, .f32⟩
  | 12 => ⟨S4x80x20000, .f32⟩
  | 13 => ⟨S4x80x20000, .f32⟩
  | 14 => ⟨S_, .f32⟩
  | 15 => ⟨S4x80x20000, .f32⟩
  | 16 => ⟨S4x80x20000, .i1⟩
  | 17 => ⟨S4x80x20000, .f32⟩
  | 18 => ⟨S_, .f32⟩
  | 19 => ⟨S_, .f32⟩
  | 20 => ⟨S4x80x20000, .f32⟩
  | 21 => ⟨S4x80x20000, .f32⟩
  | 22 => ⟨S_, .f32⟩
  | 23 => ⟨S4x80x20000, .f32⟩
  | 24 => ⟨S4x80x20000, .i1⟩
  | 25 => ⟨S4x80x1, .i1⟩
  | 26 => ⟨S4x80x20000, .i1⟩
  | 27 => ⟨S4x80x20000, .i1⟩
  | 28 => ⟨S_, .f32⟩
  | 29 => ⟨S_, .f32⟩
  | 30 => ⟨S4x80x20000, .f32⟩
  | 31 => ⟨S4x80x20000, .f32⟩
  | 32 => ⟨S4x80x20000, .i32⟩
  | 33 => ⟨S_, .f32⟩
  | 34 => ⟨S_, .i32⟩
  | 35 => ⟨S4x80, .f32⟩
  | 36 => ⟨S4x80, .i32⟩
  | 37 => ⟨S4x80x1, .i32⟩
  | 38 => ⟨S_, .i32⟩
  | 39 => ⟨S4x80x1, .i32⟩
  | 40 => ⟨S4x80x1, .i1⟩
  | 41 => ⟨S_, .i32⟩
  | 42 => ⟨S4x80x1, .i32⟩
  | 43 => ⟨S4x80x1, .i32⟩
  | 44 => ⟨S4x80x1, .i32⟩
  | 45 => ⟨S4x80x1x1, .i32⟩
  | 46 => ⟨S1, .i32⟩
  | 47 => ⟨S_, .i32⟩
  | 48 => ⟨S4x80x1x1, .i32⟩
  | 49 => ⟨S4x80x1x1, .i1⟩
  | 50 => ⟨S1x1x1x1, .i32⟩
  | 51 => ⟨S4x80x1x1, .i32⟩
  | 52 => ⟨S4x80x1x1, .i1⟩
  | 53 => ⟨S4x80x1x1, .i1⟩
  | 54 => ⟨S_, .i1⟩
  | 55 => ⟨S4x80x1, .i1⟩
  | 56 => ⟨S4x80x1, .f32⟩
  | 57 => ⟨S_, .f32⟩
  | 58 => ⟨S4x80x1, .f32⟩
  | 59 => ⟨S4x80x1, .f32⟩
  | 60 => ⟨S4x80, .f32⟩
  | 61 => ⟨S_, .f32⟩
  | 62 => ⟨S4x80, .f32⟩
  | 63 => ⟨S4x80, .i1⟩
  | 64 => ⟨S_, .i32⟩
  | 65 => ⟨S4x1, .i32⟩
  | 66 => ⟨S4x1, .i1⟩
  | 67 => ⟨S_, .i32⟩
  | 68 => ⟨S4x1, .i32⟩
  | 69 => ⟨S4x1, .i32⟩
  | 70 => ⟨S4x1, .i32⟩
  | 71 => ⟨S_, .i32⟩
  | 72 => ⟨S4x80, .i32⟩
  | 73 => ⟨S4x80, .i1⟩
  | 74 => ⟨S_, .i32⟩
  | 75 => ⟨S4x80, .i32⟩
  | 76 => ⟨S4x80, .i32⟩
  | 77 => ⟨S4x80, .i32⟩
  | 78 => ⟨S4x80, .i32⟩
  | 79 => ⟨S4x80x1, .i32⟩
  | 80 => ⟨S4x80x1, .i32⟩
  | 81 => ⟨S4x80x2, .i32⟩
  | 82 => ⟨S4x80x4, .f32⟩
  | 83 => ⟨S_, .f32⟩
  | 84 => ⟨S_, .f32⟩
  | 85 => ⟨S4x80, .f32⟩
  | 86 => ⟨S4x80, .f32⟩
  | 87 => ⟨S4x80x1, .i1⟩
  | 88 => ⟨S_, .f32⟩
  | 89 => ⟨S_, .f32⟩
  | 90 => ⟨S4x80x4, .i1⟩
  | 91 => ⟨S4x80x4, .f32⟩
  | 92 => ⟨S4x80x4, .f32⟩
  | 93 => ⟨S4x80x1x4, .f32⟩
  | 94 => ⟨S4x1x20000x4, .f32⟩
  | 95 => ⟨S4x80x1x2, .f32⟩
  | 96 => ⟨S4x1x20000x2, .f32⟩
  | 97 => ⟨S4x80x20000x2, .f32⟩
  | 98 => ⟨S4x80x20000x2, .f32⟩
  | 99 => ⟨S4x80x20000x2, .f32⟩
  | 100 => ⟨S4x80x1x2, .f32⟩
  | 101 => ⟨S4x1x20000x2, .f32⟩
  | 102 => ⟨S4x80x20000x2, .f32⟩
  | 103 => ⟨S4x80x20000x2, .f32⟩
  | 104 => ⟨S4x80x20000x2, .f32⟩
  | 105 => ⟨S4x80x20000x2, .f32⟩
  | 106 => ⟨S_, .f32⟩
  | 107 => ⟨S4x80x20000x2, .f32⟩
  | 108 => ⟨S4x80x20000x2, .f32⟩
  | 109 => ⟨S4x80x20000x1, .f32⟩
  | 110 => ⟨S4x80x20000, .f32⟩
  | 111 => ⟨S4x80x20000x1, .f32⟩
  | 112 => ⟨S4x80x20000, .f32⟩
  | 113 => ⟨S4x80x20000, .f32⟩
  | 114 => ⟨S4x80x1x1, .f32⟩
  | 115 => ⟨S4x80x1, .f32⟩
  | 116 => ⟨S4x80x1x1, .f32⟩
  | 117 => ⟨S4x80x1, .f32⟩
  | 118 => ⟨S4x80x1, .f32⟩
  | 119 => ⟨S4x80x1x1, .f32⟩
  | 120 => ⟨S4x80x1, .f32⟩
  | 121 => ⟨S4x80x1x1, .f32⟩
  | 122 => ⟨S4x80x1, .f32⟩
  | 123 => ⟨S4x80x1, .f32⟩
  | 124 => ⟨S4x80x1, .f32⟩
  | 125 => ⟨S4x1x20000x1, .f32⟩
  | 126 => ⟨S4x1x20000, .f32⟩
  | 127 => ⟨S4x1x20000x1, .f32⟩
  | _ => ⟨S4x20000x1x4, .f32⟩

abbrev hbmTy0_4 (i : Nat) : BufTy := match i % 128 with
  | 0 => ⟨S4x1x20000, .f32⟩
  | 1 => ⟨S4x1x20000, .f32⟩
  | 2 => ⟨S4x1x20000x1, .f32⟩
  | 3 => ⟨S4x1x20000, .f32⟩
  | 4 => ⟨S4x1x20000x1, .f32⟩
  | 5 => ⟨S4x1x20000, .f32⟩
  | 6 => ⟨S4x1x20000, .f32⟩
  | 7 => ⟨S4x1x20000, .f32⟩
  | 8 => ⟨S4x80x20000, .f32⟩
  | 9 => ⟨S4x80x20000, .f32⟩
  | 10 => ⟨S4x80x20000, .f32⟩
  | 11 => ⟨S4x80x20000, .f32⟩
  | 12 => ⟨S_, .f32⟩
  | 13 => ⟨S4x80x20000, .f32⟩
  | 14 => ⟨S4x80x20000, .i1⟩
  | 15 => ⟨S4x80x20000, .f32⟩
  | 16 => ⟨S_, .f32⟩
  | 17 => ⟨S_, .f32⟩
  | 18 => ⟨S4x80x20000, .f32⟩
  | 19 => ⟨S4x80x20000, .f32⟩
  | 20 => ⟨S_, .f32⟩
  | 21 => ⟨S4x80x20000, .f32⟩
  | 22 => ⟨S4x80x20000, .i1⟩
  | 23 => ⟨S4x80x1, .i1⟩
  | 24 => ⟨S4x80x20000, .i1⟩
  | 25 => ⟨S4x80x20000, .i1⟩
  | 26 => ⟨S_, .f32⟩
  | 27 => ⟨S_, .f32⟩
  | 28 => ⟨S4x80x20000, .f32⟩
  | 29 => ⟨S4x80x20000, .f32⟩
  | 30 => ⟨S4x80x20000, .i32⟩
  | 31 => ⟨S_, .f32⟩
  | 32 => ⟨S_, .i32⟩
  | 33 => ⟨S4x80, .f32⟩
  | 34 => ⟨S4x80, .i32⟩
  | 35 => ⟨S4x80x1, .i32⟩
  | 36 => ⟨S_, .i32⟩
  | 37 => ⟨S4x80x1, .i32⟩
  | 38 => ⟨S4x80x1, .i1⟩
  | 39 => ⟨S_, .i32⟩
  | 40 => ⟨S4x80x1, .i32⟩
  | 41 => ⟨S4x80x1, .i32⟩
  | 42 => ⟨S4x80x1, .i32⟩
  | 43 => ⟨S4x80x1x1, .i32⟩
  | 44 => ⟨S1, .i32⟩
  | 45 => ⟨S_, .i32⟩
  | 46 => ⟨S4x80x1x1, .i32⟩
  | 47 => ⟨S4x80x1x1, .i1⟩
  | 48 => ⟨S1x1x1x1, .i32⟩
  | 49 => ⟨S4x80x1x1, .i32⟩
  | 50 => ⟨S4x80x1x1, .i1⟩
  | 51 => ⟨S4x80x1x1, .i1⟩
  | 52 => ⟨S_, .i1⟩
  | 53 => ⟨S4x80x1, .i1⟩
  | 54 => ⟨S4x80x1, .f32⟩
  | 55 => ⟨S_, .f32⟩
  | 56 => ⟨S4x80x1, .f32⟩
  | 57 => ⟨S4x80x1, .f32⟩
  | 58 => ⟨S4x80, .f32⟩
  | 59 => ⟨S_, .f32⟩
  | 60 => ⟨S4x80, .f32⟩
  | 61 => ⟨S4x80, .i1⟩
  | 62 => ⟨S_, .i32⟩
  | 63 => ⟨S4x1, .i32⟩
  | 64 => ⟨S4x1, .i1⟩
  | 65 => ⟨S_, .i32⟩
  | 66 => ⟨S4x1, .i32⟩
  | 67 => ⟨S4x1, .i32⟩
  | 68 => ⟨S4x1, .i32⟩
  | 69 => ⟨S_, .i32⟩
  | 70 => ⟨S4x80, .i32⟩
  | 71 => ⟨S4x80, .i1⟩
  | 72 => ⟨S_, .i32⟩
  | 73 => ⟨S4x80, .i32⟩
  | 74 => ⟨S4x80, .i32⟩
  | 75 => ⟨S4x80, .i32⟩
  | 76 => ⟨S4x80, .i32⟩
  | 77 => ⟨S4x80x1, .i32⟩
  | 78 => ⟨S4x80x1, .i32⟩
  | 79 => ⟨S4x80x2, .i32⟩
  | 80 => ⟨S4x80x4, .f32⟩
  | 81 => ⟨S_, .f32⟩
  | 82 => ⟨S_, .f32⟩
  | 83 => ⟨S4x80, .f32⟩
  | 84 => ⟨S4x80, .f32⟩
  | 85 => ⟨S4x80x1, .i1⟩
  | 86 => ⟨S_, .f32⟩
  | 87 => ⟨S_, .f32⟩
  | 88 => ⟨S4x80x4, .i1⟩
  | 89 => ⟨S4x80x4, .f32⟩
  | 90 => ⟨S4x80x4, .f32⟩
  | 91 => ⟨S4x80x1x4, .f32⟩
  | 92 => ⟨S4x1x20000x4, .f32⟩
  | 93 => ⟨S4x80x1x2, .f32⟩
  | 94 => ⟨S4x1x20000x2, .f32⟩
  | 95 => ⟨S4x80x20000x2, .f32⟩
  | 96 => ⟨S4x80x20000x2, .f32⟩
  | 97 => ⟨S4x80x20000x2, .f32⟩
  | 98 => ⟨S4x80x1x2, .f32⟩
  | 99 => ⟨S4x1x20000x2, .f32⟩
  | 100 => ⟨S4x80x20000x2, .f32⟩
  | 101 => ⟨S4x80x20000x2, .f32⟩
  | 102 => ⟨S4x80x20000x2, .f32⟩
  | 103 => ⟨S4x80x20000x2, .f32⟩
  | 104 => ⟨S_, .f32⟩
  | 105 => ⟨S4x80x20000x2, .f32⟩
  | 106 => ⟨S4x80x20000x2, .f32⟩
  | 107 => ⟨S4x80x20000x1, .f32⟩
  | 108 => ⟨S4x80x20000, .f32⟩
  | 109 => ⟨S4x80x20000x1, .f32⟩
  | 110 => ⟨S4x80x20000, .f32⟩
  | 111 => ⟨S4x80x20000, .f32⟩
  | 112 => ⟨S4x80x1x1, .f32⟩
  | 113 => ⟨S4x80x1, .f32⟩
  | 114 => ⟨S4x80x1x1, .f32⟩
  | 115 => ⟨S4x80x1, .f32⟩
  | 116 => ⟨S4x80x1, .f32⟩
  | 117 => ⟨S4x80x1x1, .f32⟩
  | 118 => ⟨S4x80x1, .f32⟩
  | 119 => ⟨S4x80x1x1, .f32⟩
  | 120 => ⟨S4x80x1, .f32⟩
  | 121 => ⟨S4x80x1, .f32⟩
  | 122 => ⟨S4x80x1, .f32⟩
  | 123 => ⟨S4x1x20000x1, .f32⟩
  | 124 => ⟨S4x1x20000, .f32⟩
  | 125 => ⟨S4x1x20000x1, .f32⟩
  | 126 => ⟨S4x1x20000, .f32⟩
  | 127 => ⟨S4x1x20000, .f32⟩
  | _ => ⟨S4x20000x1x4, .f32⟩

abbrev hbmTy0_5 (i : Nat) : BufTy := match i % 128 with
  | 0 => ⟨S4x1x20000x1, .f32⟩
  | 1 => ⟨S4x1x20000, .f32⟩
  | 2 => ⟨S4x1x20000x1, .f32⟩
  | 3 => ⟨S4x1x20000, .f32⟩
  | 4 => ⟨S4x1x20000, .f32⟩
  | 5 => ⟨S4x1x20000, .f32⟩
  | 6 => ⟨S4x80x20000, .f32⟩
  | 7 => ⟨S4x80x20000, .f32⟩
  | 8 => ⟨S4x80x20000, .f32⟩
  | 9 => ⟨S4x80x20000, .f32⟩
  | 10 => ⟨S_, .f32⟩
  | 11 => ⟨S4x80x20000, .f32⟩
  | 12 => ⟨S4x80x20000, .i1⟩
  | 13 => ⟨S4x80x20000, .f32⟩
  | 14 => ⟨S_, .f32⟩
  | 15 => ⟨S_, .f32⟩
  | 16 => ⟨S4x80x20000, .f32⟩
  | 17 => ⟨S4x80x20000, .f32⟩
  | 18 => ⟨S_, .f32⟩
  | 19 => ⟨S4x80x20000, .f32⟩
  | 20 => ⟨S4x80x20000, .i1⟩
  | 21 => ⟨S4x80x1, .i1⟩
  | 22 => ⟨S4x80x20000, .i1⟩
  | 23 => ⟨S4x80x20000, .i1⟩
  | 24 => ⟨S_, .f32⟩
  | 25 => ⟨S_, .f32⟩
  | 26 => ⟨S4x80x20000, .f32⟩
  | 27 => ⟨S4x80x20000, .f32⟩
  | 28 => ⟨S4x80x20000, .i32⟩
  | 29 => ⟨S_, .f32⟩
  | 30 => ⟨S_, .i32⟩
  | 31 => ⟨S4x80, .f32⟩
  | 32 => ⟨S4x80, .i32⟩
  | 33 => ⟨S4x80x1, .i32⟩
  | 34 => ⟨S_, .i32⟩
  | 35 => ⟨S4x80x1, .i32⟩
  | 36 => ⟨S4x80x1, .i1⟩
  | 37 => ⟨S_, .i32⟩
  | 38 => ⟨S4x80x1, .i32⟩
  | 39 => ⟨S4x80x1, .i32⟩
  | 40 => ⟨S4x80x1, .i32⟩
  | 41 => ⟨S4x80x1x1, .i32⟩
  | 42 => ⟨S1, .i32⟩
  | 43 => ⟨S_, .i32⟩
  | 44 => ⟨S4x80x1x1, .i32⟩
  | 45 => ⟨S4x80x1x1, .i1⟩
  | 46 => ⟨S1x1x1x1, .i32⟩
  | 47 => ⟨S4x80x1x1, .i32⟩
  | 48 => ⟨S4x80x1x1, .i1⟩
  | 49 => ⟨S4x80x1x1, .i1⟩
  | 50 => ⟨S_, .i1⟩
  | 51 => ⟨S4x80x1, .i1⟩
  | 52 => ⟨S4x80x1, .f32⟩
  | 53 => ⟨S_, .f32⟩
  | 54 => ⟨S4x80x1, .f32⟩
  | 55 => ⟨S4x80x1, .f32⟩
  | 56 => ⟨S4x80, .f32⟩
  | 57 => ⟨S_, .f32⟩
  | 58 => ⟨S4x80, .f32⟩
  | 59 => ⟨S4x80, .i1⟩
  | 60 => ⟨S_, .i32⟩
  | 61 => ⟨S4x1, .i32⟩
  | 62 => ⟨S4x1, .i1⟩
  | 63 => ⟨S_, .i32⟩
  | 64 => ⟨S4x1, .i32⟩
  | 65 => ⟨S4x1, .i32⟩
  | 66 => ⟨S4x1, .i32⟩
  | 67 => ⟨S_, .i32⟩
  | 68 => ⟨S4x80, .i32⟩
  | 69 => ⟨S4x80, .i1⟩
  | 70 => ⟨S_, .i32⟩
  | 71 => ⟨S4x80, .i32⟩
  | 72 => ⟨S4x80, .i32⟩
  | 73 => ⟨S4x80, .i32⟩
  | 74 => ⟨S4x80, .i32⟩
  | 75 => ⟨S4x80x1, .i32⟩
  | 76 => ⟨S4x80x1, .i32⟩
  | 77 => ⟨S4x80x2, .i32⟩
  | 78 => ⟨S4x80x4, .f32⟩
  | 79 => ⟨S_, .f32⟩
  | 80 => ⟨S_, .f32⟩
  | 81 => ⟨S4x80, .f32⟩
  | 82 => ⟨S4x80, .f32⟩
  | 83 => ⟨S4x80x1, .i1⟩
  | 84 => ⟨S_, .f32⟩
  | 85 => ⟨S_, .f32⟩
  | 86 => ⟨S4x80x4, .i1⟩
  | 87 => ⟨S4x80x4, .f32⟩
  | 88 => ⟨S4x80x4, .f32⟩
  | 89 => ⟨S4x80x1x4, .f32⟩
  | 90 => ⟨S4x1x20000x4, .f32⟩
  | 91 => ⟨S4x80x1x2, .f32⟩
  | 92 => ⟨S4x1x20000x2, .f32⟩
  | 93 => ⟨S4x80x20000x2, .f32⟩
  | 94 => ⟨S4x80x20000x2, .f32⟩
  | 95 => ⟨S4x80x20000x2, .f32⟩
  | 96 => ⟨S4x80x1x2, .f32⟩
  | 97 => ⟨S4x1x20000x2, .f32⟩
  | 98 => ⟨S4x80x20000x2, .f32⟩
  | 99 => ⟨S4x80x20000x2, .f32⟩
  | 100 => ⟨S4x80x20000x2, .f32⟩
  | 101 => ⟨S4x80x20000x2, .f32⟩
  | 102 => ⟨S_, .f32⟩
  | 103 => ⟨S4x80x20000x2, .f32⟩
  | 104 => ⟨S4x80x20000x2, .f32⟩
  | 105 => ⟨S4x80x20000x1, .f32⟩
  | 106 => ⟨S4x80x20000, .f32⟩
  | 107 => ⟨S4x80x20000x1, .f32⟩
  | 108 => ⟨S4x80x20000, .f32⟩
  | 109 => ⟨S4x80x20000, .f32⟩
  | 110 => ⟨S4x80x1x1, .f32⟩
  | 111 => ⟨S4x80x1, .f32⟩
  | 112 => ⟨S4x80x1x1, .f32⟩
  | 113 => ⟨S4x80x1, .f32⟩
  | 114 => ⟨S4x80x1, .f32⟩
  | 115 => ⟨S4x80x1x1, .f32⟩
  | 116 => ⟨S4x80x1, .f32⟩
  | 117 => ⟨S4x80x1x1, .f32⟩
  | 118 => ⟨S4x80x1, .f32⟩
  | 119 => ⟨S4x80x1, .f32⟩
  | 120 => ⟨S4x80x1, .f32⟩
  | 121 => ⟨S4x1x20000x1, .f32⟩
  | 122 => ⟨S4x1x20000, .f32⟩
  | 123 => ⟨S4x1x20000x1, .f32⟩
  | 124 => ⟨S4x1x20000, .f32⟩
  | 125 => ⟨S4x1x20000, .f32⟩
  | 126 => ⟨S4x1x20000x1, .f32⟩
  | 127 => ⟨S4x1x20000, .f32⟩
  | _ => ⟨S4x20000x1x4, .f32⟩

abbrev hbmTy0_6 (i : Nat) : BufTy := match i % 128 with
  | 0 => ⟨S4x1x20000x1, .f32⟩
  | 1 => ⟨S4x1x20000, .f32⟩
  | 2 => ⟨S4x1x20000, .f32⟩
  | 3 => ⟨S4x1x20000, .f32⟩
  | 4 => ⟨S4x80x20000, .f32⟩
  | 5 => ⟨S4x80x20000, .f32⟩
  | 6 => ⟨S4x80x20000, .f32⟩
  | 7 => ⟨S4x80x20000, .f32⟩
  | 8 => ⟨S_, .f32⟩
  | 9 => ⟨S4x80x20000, .f32⟩
  | 10 => ⟨S4x80x20000, .i1⟩
  | 11 => ⟨S4x80x20000, .f32⟩
  | 12 => ⟨S_, .f32⟩
  | 13 => ⟨S_, .f32⟩
  | 14 => ⟨S4x80x20000, .f32⟩
  | 15 => ⟨S4x80x20000, .f32⟩
  | 16 => ⟨S_, .f32⟩
  | 17 => ⟨S4x80x20000, .f32⟩
  | 18 => ⟨S4x80x20000, .i1⟩
  | 19 => ⟨S4x80x1, .i1⟩
  | 20 => ⟨S4x80x20000, .i1⟩
  | 21 => ⟨S4x80x20000, .i1⟩
  | 22 => ⟨S_, .f32⟩
  | 23 => ⟨S_, .f32⟩
  | 24 => ⟨S4x80x20000, .f32⟩
  | 25 => ⟨S4x80x20000, .f32⟩
  | 26 => ⟨S4x80x20000, .i32⟩
  | 27 => ⟨S_, .f32⟩
  | 28 => ⟨S_, .i32⟩
  | 29 => ⟨S4x80, .f32⟩
  | 30 => ⟨S4x80, .i32⟩
  | 31 => ⟨S4x80x1, .i32⟩
  | 32 => ⟨S_, .i32⟩
  | 33 => ⟨S4x80x1, .i32⟩
  | 34 => ⟨S4x80x1, .i1⟩
  | 35 => ⟨S_, .i32⟩
  | 36 => ⟨S4x80x1, .i32⟩
  | 37 => ⟨S4x80x1, .i32⟩
  | 38 => ⟨S4x80x1, .i32⟩
  | 39 => ⟨S4x80x1x1, .i32⟩
  | 40 => ⟨S1, .i32⟩
  | 41 => ⟨S_, .i32⟩
  | 42 => ⟨S4x80x1x1, .i32⟩
  | 43 => ⟨S4x80x1x1, .i1⟩
  | 44 => ⟨S1x1x1x1, .i32⟩
  | 45 => ⟨S4x80x1x1, .i32⟩
  | 46 => ⟨S4x80x1x1, .i1⟩
  | 47 => ⟨S4x80x1x1, .i1⟩
  | 48 => ⟨S_, .i1⟩
  | 49 => ⟨S4x80x1, .i1⟩
  | 50 => ⟨S4x80x1, .f32⟩
  | 51 => ⟨S_, .f32⟩
  | 52 => ⟨S4x80x1, .f32⟩
  | 53 => ⟨S4x80x1, .f32⟩
  | 54 => ⟨S4x80, .f32⟩
  | 55 => ⟨S_, .f32⟩
  | 56 => ⟨S4x80, .f32⟩
  | 57 => ⟨S4x80, .i1⟩
  | 58 => ⟨S_, .i32⟩
  | 59 => ⟨S4x1, .i32⟩
  | 60 => ⟨S4x1, .i1⟩
  | 61 => ⟨S_, .i32⟩
  | 62 => ⟨S4x1, .i32⟩
  | 63 => ⟨S4x1, .i32⟩
  | 64 => ⟨S4x1, .i32⟩
  | 65 => ⟨S_, .i32⟩
  | 66 => ⟨S4x80, .i32⟩
  | 67 => ⟨S4x80, .i1⟩
  | 68 => ⟨S_, .i32⟩
  | 69 => ⟨S4x80, .i32⟩
  | 70 => ⟨S4x80, .i32⟩
  | 71 => ⟨S4x80, .i32⟩
  | 72 => ⟨S4x80, .i32⟩
  | 73 => ⟨S4x80x1, .i32⟩
  | 74 => ⟨S4x80x1, .i32⟩
  | 75 => ⟨S4x80x2, .i32⟩
  | 76 => ⟨S4x80x4, .f32⟩
  | 77 => ⟨S_, .f32⟩
  | 78 => ⟨S_, .f32⟩
  | 79 => ⟨S4x80, .f32⟩
  | 80 => ⟨S4x80, .f32⟩
  | 81 => ⟨S4x80x1, .i1⟩
  | 82 => ⟨S_, .f32⟩
  | 83 => ⟨S_, .f32⟩
  | 84 => ⟨S4x80x4, .i1⟩
  | 85 => ⟨S4x80x4, .f32⟩
  | 86 => ⟨S4x80x4, .f32⟩
  | 87 => ⟨S4x80x1x4, .f32⟩
  | 88 => ⟨S4x1x20000x4, .f32⟩
  | 89 => ⟨S4x80x1x2, .f32⟩
  | 90 => ⟨S4x1x20000x2, .f32⟩
  | 91 => ⟨S4x80x20000x2, .f32⟩
  | 92 => ⟨S4x80x20000x2, .f32⟩
  | 93 => ⟨S4x80x20000x2, .f32⟩
  | 94 => ⟨S4x80x1x2, .f32⟩
  | 95 => ⟨S4x1x20000x2, .f32⟩
  | 96 => ⟨S4x80x20000x2, .f32⟩
  | 97 => ⟨S4x80x20000x2, .f32⟩
  | 98 => ⟨S4x80x20000x2, .f32⟩
  | 99 => ⟨S4x80x20000x2, .f32⟩
  | 100 => ⟨S_, .f32⟩
  | 101 => ⟨S4x80x20000x2, .f32⟩
  | 102 => ⟨S4x80x20000x2, .f32⟩
  | 103 => ⟨S4x80x20000x1, .f32⟩
  | 104 => ⟨S4x80x20000, .f32⟩
  | 105 => ⟨S4x80x20000x1, .f32⟩
  | 106 => ⟨S4x80x20000, .f32⟩
  | 107 => ⟨S4x80x20000, .f32⟩
  | 108 => ⟨S4x80x1x1, .f32⟩
  | 109 => ⟨S4x80x1, .f32⟩
  | 110 => ⟨S4x80x1x1, .f32⟩
  | 111 => ⟨S4x80x1, .f32⟩
  | 112 => ⟨S4x80x1, .f32⟩
  | 113 => ⟨S4x80x1x1, .f32⟩
  | 114 => ⟨S4x80x1, .f32⟩
  | 115 => ⟨S4x80x1x1, .f32⟩
  | 116 => ⟨S4x80x1, .f32⟩
  | 117 => ⟨S4x80x1, .f32⟩
  | 118 => ⟨S4x80x1, .f32⟩
  | 119 => ⟨S4x1x20000x1, .f32⟩
  | 120 => ⟨S4x1x20000, .f32⟩
  | 121 => ⟨S4x1x20000x1, .f32⟩
  | 122 => ⟨S4x1x20000, .f32⟩
  | 123 => ⟨S4x1x20000, .f32⟩
  | 124 => ⟨S4x1x20000x1, .f32⟩
  | 125 => ⟨S4x1x20000, .f32⟩
  | 126 => ⟨S4x1x20000x1, .f32⟩
  | 127 => ⟨S4x1x20000, .f32⟩
  | _ => ⟨S4x20000x1x4, .f32⟩

abbrev hbmTy0_7 (i : Nat) : BufTy := match i % 128 with
  | 0 => ⟨S4x1x20000, .f32⟩
  | 1 => ⟨S4x1x20000, .f32⟩
  | 2 => ⟨S4x80x20000, .f32⟩
  | 3 => ⟨S4x80x20000, .f32⟩
  | 4 => ⟨S4x80x20000, .f32⟩
  | 5 => ⟨S4x80x20000, .f32⟩
  | 6 => ⟨S_, .f32⟩
  | 7 => ⟨S4x80x20000, .f32⟩
  | 8 => ⟨S4x80x20000, .i1⟩
  | 9 => ⟨S4x80x20000, .f32⟩
  | 10 => ⟨S_, .f32⟩
  | 11 => ⟨S_, .f32⟩
  | 12 => ⟨S4x80x20000, .f32⟩
  | 13 => ⟨S4x80x20000, .f32⟩
  | 14 => ⟨S_, .f32⟩
  | 15 => ⟨S4x80x20000, .f32⟩
  | 16 => ⟨S4x80x20000, .i1⟩
  | 17 => ⟨S4x80x1, .i1⟩
  | 18 => ⟨S4x80x20000, .i1⟩
  | 19 => ⟨S4x80x20000, .i1⟩
  | 20 => ⟨S_, .f32⟩
  | 21 => ⟨S_, .f32⟩
  | 22 => ⟨S4x80x20000, .f32⟩
  | 23 => ⟨S4x80x20000, .f32⟩
  | 24 => ⟨S4x80x20000, .i32⟩
  | 25 => ⟨S_, .f32⟩
  | 26 => ⟨S_, .i32⟩
  | 27 => ⟨S4x80, .f32⟩
  | 28 => ⟨S4x80, .i32⟩
  | 29 => ⟨S4x80x1, .i32⟩
  | 30 => ⟨S_, .i32⟩
  | 31 => ⟨S4x80x1, .i32⟩
  | 32 => ⟨S4x80x1, .i1⟩
  | 33 => ⟨S_, .i32⟩
  | 34 => ⟨S4x80x1, .i32⟩
  | 35 => ⟨S4x80x1, .i32⟩
  | 36 => ⟨S4x80x1, .i32⟩
  | 37 => ⟨S4x80x1x1, .i32⟩
  | 38 => ⟨S1, .i32⟩
  | 39 => ⟨S_, .i32⟩
  | 40 => ⟨S4x80x1x1, .i32⟩
  | 41 => ⟨S4x80x1x1, .i1⟩
  | 42 => ⟨S1x1x1x1, .i32⟩
  | 43 => ⟨S4x80x1x1, .i32⟩
  | 44 => ⟨S4x80x1x1, .i1⟩
  | 45 => ⟨S4x80x1x1, .i1⟩
  | 46 => ⟨S_, .i1⟩
  | 47 => ⟨S4x80x1, .i1⟩
  | 48 => ⟨S4x80x1, .f32⟩
  | 49 => ⟨S_, .f32⟩
  | 50 => ⟨S4x80x1, .f32⟩
  | 51 => ⟨S4x80x1, .f32⟩
  | 52 => ⟨S4x80, .f32⟩
  | 53 => ⟨S_, .f32⟩
  | 54 => ⟨S4x80, .f32⟩
  | 55 => ⟨S4x80, .i1⟩
  | 56 => ⟨S_, .i32⟩
  | 57 => ⟨S4x1, .i32⟩
  | 58 => ⟨S4x1, .i1⟩
  | 59 => ⟨S_, .i32⟩
  | 60 => ⟨S4x1, .i32⟩
  | 61 => ⟨S4x1, .i32⟩
  | 62 => ⟨S4x1, .i32⟩
  | 63 => ⟨S_, .i32⟩
  | 64 => ⟨S4x80, .i32⟩
  | 65 => ⟨S4x80, .i1⟩
  | 66 => ⟨S_, .i32⟩
  | 67 => ⟨S4x80, .i32⟩
  | 68 => ⟨S4x80, .i32⟩
  | 69 => ⟨S4x80, .i32⟩
  | 70 => ⟨S4x80, .i32⟩
  | 71 => ⟨S4x80x1, .i32⟩
  | 72 => ⟨S4x80x1, .i32⟩
  | 73 => ⟨S4x80x2, .i32⟩
  | 74 => ⟨S4x80x4, .f32⟩
  | 75 => ⟨S_, .f32⟩
  | 76 => ⟨S_, .f32⟩
  | 77 => ⟨S4x80, .f32⟩
  | 78 => ⟨S4x80, .f32⟩
  | 79 => ⟨S4x80x1, .i1⟩
  | 80 => ⟨S_, .f32⟩
  | 81 => ⟨S_, .f32⟩
  | 82 => ⟨S4x80x4, .i1⟩
  | 83 => ⟨S4x80x4, .f32⟩
  | 84 => ⟨S4x80x4, .f32⟩
  | 85 => ⟨S4x80x1x4, .f32⟩
  | 86 => ⟨S4x1x20000x4, .f32⟩
  | 87 => ⟨S4x80x1x2, .f32⟩
  | 88 => ⟨S4x1x20000x2, .f32⟩
  | 89 => ⟨S4x80x20000x2, .f32⟩
  | 90 => ⟨S4x80x20000x2, .f32⟩
  | 91 => ⟨S4x80x20000x2, .f32⟩
  | 92 => ⟨S4x80x1x2, .f32⟩
  | 93 => ⟨S4x1x20000x2, .f32⟩
  | 94 => ⟨S4x80x20000x2, .f32⟩
  | 95 => ⟨S4x80x20000x2, .f32⟩
  | 96 => ⟨S4x80x20000x2, .f32⟩
  | 97 => ⟨S4x80x20000x2, .f32⟩
  | 98 => ⟨S_, .f32⟩
  | 99 => ⟨S4x80x20000x2, .f32⟩
  | 100 => ⟨S4x80x20000x2, .f32⟩
  | 101 => ⟨S4x80x20000x1, .f32⟩
  | 102 => ⟨S4x80x20000, .f32⟩
  | 103 => ⟨S4x80x20000x1, .f32⟩
  | 104 => ⟨S4x80x20000, .f32⟩
  | 105 => ⟨S4x80x20000, .f32⟩
  | 106 => ⟨S4x80x1x1, .f32⟩
  | 107 => ⟨S4x80x1, .f32⟩
  | 108 => ⟨S4x80x1x1, .f32⟩
  | 109 => ⟨S4x80x1, .f32⟩
  | 110 => ⟨S4x80x1, .f32⟩
  | 111 => ⟨S4x80x1x1, .f32⟩
  | 112 => ⟨S4x80x1, .f32⟩
  | 113 => ⟨S4x80x1x1, .f32⟩
  | 114 => ⟨S4x80x1, .f32⟩
  | 115 => ⟨S4x80x1, .f32⟩
  | 116 => ⟨S4x80x1, .f32⟩
  | 117 => ⟨S4x1x20000x1, .f32⟩
  | 118 => ⟨S4x1x20000, .f32⟩
  | 119 => ⟨S4x1x20000x1, .f32⟩
  | 120 => ⟨S4x1x20000, .f32⟩
  | 121 => ⟨S4x1x20000, .f32⟩
  | 122 => ⟨S4x1x20000x1, .f32⟩
  | 123 => ⟨S4x1x20000, .f32⟩
  | 124 => ⟨S4x1x20000x1, .f32⟩
  | 125 => ⟨S4x1x20000, .f32⟩
  | 126 => ⟨S4x1x20000, .f32⟩
  | 127 => ⟨S4x1x20000, .f32⟩
  | _ => ⟨S4x20000x1x4, .f32⟩

abbrev hbmTy0_8 (i : Nat) : BufTy := match i % 128 with
  | 0 => ⟨S4x80x20000, .f32⟩
  | 1 => ⟨S4x80x20000, .f32⟩
  | 2 => ⟨S4x80x20000, .f32⟩
  | 3 => ⟨S4x80x20000, .f32⟩
  | 4 => ⟨S_, .f32⟩
  | 5 => ⟨S4x80x20000, .f32⟩
  | 6 => ⟨S4x80x20000, .i1⟩
  | 7 => ⟨S4x80x20000, .f32⟩
  | 8 => ⟨S_, .f32⟩
  | 9 => ⟨S_, .f32⟩
  | 10 => ⟨S4x80x20000, .f32⟩
  | 11 => ⟨S4x80x20000, .f32⟩
  | 12 => ⟨S_, .f32⟩
  | 13 => ⟨S4x80x20000, .f32⟩
  | 14 => ⟨S4x80x20000, .i1⟩
  | 15 => ⟨S4x80x1, .i1⟩
  | 16 => ⟨S4x80x20000, .i1⟩
  | 17 => ⟨S4x80x20000, .i1⟩
  | 18 => ⟨S_, .f32⟩
  | 19 => ⟨S_, .f32⟩
  | 20 => ⟨S4x80x20000, .f32⟩
  | 21 => ⟨S4x80x20000, .f32⟩
  | 22 => ⟨S4x80x1, .f32⟩
  | 23 => ⟨S4x80x1, .f32⟩
  | 24 => ⟨S4x80x1, .f32⟩
  | 25 => ⟨S4x80x1, .f32⟩
  | 26 => ⟨S4x80x1, .f32⟩
  | 27 => ⟨S4x80x1, .f32⟩
  | 28 => ⟨S4x80x1, .f32⟩
  | 29 => ⟨S4x80x1, .f32⟩
  | 30 => ⟨S4x80x8, .f32⟩
  | 31 => ⟨S4x640, .f32⟩
  | 32 => ⟨S4x80x1x4, .f32⟩
  | 33 => ⟨S4x80x1x4, .f32⟩
  | 34 => ⟨S4x80x1x4, .f32⟩
  | 35 => ⟨S4x80x1x4, .f32⟩
  | 36 => ⟨S4x80x1x4, .f32⟩
  | 37 => ⟨S4x80x1x4, .f32⟩
  | 38 => ⟨S4x80x1x4, .f32⟩
  | 39 => ⟨S4x80x1x4, .f32⟩
  | 40 => ⟨S4x80x8x4, .f32⟩
  | 41 => ⟨S4x640x4, .f32⟩
  | 42 => ⟨S80, .i32⟩
  | 43 => ⟨S80x1, .i32⟩
  | 44 => ⟨S80x8, .i32⟩
  | 45 => ⟨S640, .i32⟩
  | 46 => ⟨S1x640, .i32⟩
  | 47 => ⟨S4x640, .i32⟩
  | 48 => ⟨S4x8, .f32⟩
  | 49 => ⟨S4x8, .i32⟩
  | 50 => ⟨S4x8x1, .i32⟩
  | 51 => ⟨S_, .i32⟩
  | 52 => ⟨S4x8x1, .i32⟩
  | 53 => ⟨S4x8x1, .i1⟩
  | 54 => ⟨S_, .i32⟩
  | 55 => ⟨S4x8x1, .i32⟩
  | 56 => ⟨S4x8x1, .i32⟩
  | 57 => ⟨S4x8x1, .i32⟩
  | 58 => ⟨S1, .i32⟩
  | 59 => ⟨S_, .i32⟩
  | 60 => ⟨S4x8x1, .i32⟩
  | 61 => ⟨S4x8x1, .i1⟩
  | 62 => ⟨S1x1x1, .i32⟩
  | 63 => ⟨S4x8x1, .i32⟩
  | 64 => ⟨S4x8x1, .i1⟩
  | 65 => ⟨S4x8x1, .i1⟩
  | 66 => ⟨S_, .i1⟩
  | 67 => ⟨S4x8, .i1⟩
  | 68 => ⟨S4x8x4, .f32⟩
  | 69 => ⟨S4x8x4, .i1⟩
  | 70 => ⟨S_, .f32⟩
  | 71 => ⟨S4x8x4, .f32⟩
  | 72 => ⟨S4x8x4, .f32⟩
  | 73 => ⟨S_, .i32⟩
  | 74 => ⟨S4x8, .i32⟩
  | 75 => ⟨S4x8, .i1⟩
  | 76 => ⟨S_, .i32⟩
  | 77 => ⟨S4x8, .i32⟩
  | 78 => ⟨S4x8, .i32⟩
  | 79 => ⟨S4x8, .i32⟩
  | 80 => ⟨S4x8x1, .i32⟩
  | 81 => ⟨S1, .i32⟩
  | 82 => ⟨S_, .i32⟩
  | 83 => ⟨S4x8x1, .i32⟩
  | 84 => ⟨S4x8x1, .i1⟩
  | 85 => ⟨S1x1x1, .i32⟩
  | 86 => ⟨S4x8x1, .i32⟩
  | 87 => ⟨S4x8x1, .i1⟩
  | 88 => ⟨S4x8x1, .i1⟩
  | 89 => ⟨S_, .i1⟩
  | 90 => ⟨S4x8, .i1⟩
  | 91 => ⟨S4x8, .i32⟩
  | 92 => ⟨S_, .i32⟩
  | 93 => ⟨S4x8, .i32⟩
  | 94 => ⟨S4x8, .i32⟩
  | 95 => ⟨S_, .f32⟩
  | 96 => ⟨S4x8, .f32⟩
  | 97 => ⟨S4x8, .i1⟩
  | 98 => ⟨S4x8x1, .i1⟩
  | 99 => ⟨S_, .f32⟩
  | 100 => ⟨S_, .f32⟩
  | 101 => ⟨S4x8x4, .i1⟩
  | 102 => ⟨S4x8x4, .f32⟩
  | 103 => ⟨S4x8x4, .f32⟩
  | 104 => ⟨S_, .f32⟩
  | 105 => ⟨S_, .f32⟩
  | 106 => ⟨S_, .f32⟩
  | 107 => ⟨S4x8x4, .f32⟩
  | 108 => ⟨S4x8x4, .f32⟩
  | 109 => ⟨S_, .f32⟩
  | 110 => ⟨S4x8x4, .f32⟩
  | 111 => ⟨S4x8x4, .f32⟩
  | 112 => ⟨S_, .f32⟩
  | 113 => ⟨S_, .f32⟩
  | 114 => ⟨S4x8, .f32⟩
  | 115 => ⟨S4x8, .f32⟩
  | 116 => ⟨S_, .i32⟩
  | 117 => ⟨S_, .i32⟩
  | 118 => ⟨S4x8, .i32⟩
  | 119 => ⟨S4x8, .i32⟩
  | 120 => ⟨S4x8, .i32⟩
  | 121 => ⟨S_, .i32⟩
  | 122 => ⟨S4, .i32⟩
  | _ => ⟨S4x20000x1x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S4x20000x1x4, .f32⟩

abbrev bufTy : (tb : Table) → Fin (tcTables nBuf tb) → BufTy
  | .hbm, ⟨i, _⟩ => hbmTy i
  | _, _ => ⟨S4x20000x1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_cst : Ref sig .tc := ⟨.hbm, 29, rfl⟩
abbrev main_v27 : Ref sig .tc := ⟨.hbm, 30, rfl⟩
abbrev main_v28 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call1_v0 : Ref sig .tc := ⟨.hbm, 38, rfl⟩
abbrev main_call1_cst : Ref sig .tc := ⟨.hbm, 39, rfl⟩
abbrev main_call1_c : Ref sig .tc := ⟨.hbm, 40, rfl⟩
abbrev main_call1_v1_0 : Ref sig .tc := ⟨.hbm, 41, rfl⟩
abbrev main_v32 : Ref sig .tc := ⟨.hbm, 42, rfl⟩
abbrev main_v33 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_cst : Ref sig .tc := ⟨.hbm, 63, rfl⟩
abbrev main_call2_v14 : Ref sig .tc := ⟨.hbm, 64, rfl⟩
abbrev main_v34 : Ref sig .tc := ⟨.hbm, 65, rfl⟩
abbrev main_v35 : Ref sig .tc := ⟨.hbm, 66, rfl⟩
abbrev main_cst_1 : Ref sig .tc := ⟨.hbm, 67, rfl⟩
abbrev main_v36 : Ref sig .tc := ⟨.hbm, 68, rfl⟩
abbrev main_v37 : Ref sig .tc := ⟨.hbm, 69, rfl⟩
abbrev main_c : Ref sig .tc := ⟨.hbm, 70, rfl⟩
abbrev main_v38 : Ref sig .tc := ⟨.hbm, 71, rfl⟩
abbrev main_v39 : Ref sig .tc := ⟨.hbm, 72, rfl⟩
abbrev main_c_2 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_3 : Ref sig .tc := ⟨.hbm, 77, rfl⟩
abbrev main_v43 : Ref sig .tc := ⟨.hbm, 78, rfl⟩
abbrev main_v44 : Ref sig .tc := ⟨.hbm, 79, rfl⟩
abbrev main_c_4 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_5 : Ref sig .tc := ⟨.hbm, 89, rfl⟩
abbrev main_call3_v0 : Ref sig .tc := ⟨.hbm, 90, rfl⟩
abbrev main_call3_v1 : Ref sig .tc := ⟨.hbm, 91, rfl⟩
abbrev main_v53 : Ref sig .tc := ⟨.hbm, 92, rfl⟩
abbrev main_v54 : Ref sig .tc := ⟨.hbm, 93, rfl⟩
abbrev main_cst_6 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_7 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_8 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_9 : Ref sig .tc := ⟨.hbm, 150, rfl⟩
abbrev main_call5_v0 : Ref sig .tc := ⟨.hbm, 151, rfl⟩
abbrev main_call5_v1 : Ref sig .tc := ⟨.hbm, 152, rfl⟩
abbrev main_v105 : Ref sig .tc := ⟨.hbm, 153, rfl⟩
abbrev main_cst_10 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_11 : Ref sig .tc := ⟨.hbm, 160, rfl⟩
abbrev main_call6_v0 : Ref sig .tc := ⟨.hbm, 161, rfl⟩
abbrev main_call6_v1 : Ref sig .tc := ⟨.hbm, 162, rfl⟩
abbrev main_v111 : Ref sig .tc := ⟨.hbm, 163, rfl⟩
abbrev main_call7_v0 : Ref sig .tc := ⟨.hbm, 164, rfl⟩
abbrev main_call7_cst : Ref sig .tc := ⟨.hbm, 165, rfl⟩
abbrev main_call7_c : Ref sig .tc := ⟨.hbm, 166, rfl⟩
abbrev main_call7_v1_0 : Ref sig .tc := ⟨.hbm, 167, rfl⟩
abbrev main_v112 : Ref sig .tc := ⟨.hbm, 168, rfl⟩
abbrev main_v113 : Ref sig .tc := ⟨.hbm, 169, rfl⟩
abbrev main_call8_c : Ref sig .tc := ⟨.hbm, 170, rfl⟩
abbrev main_call8_v0 : Ref sig .tc := ⟨.hbm, 171, rfl⟩
abbrev main_call8_v1 : Ref sig .tc := ⟨.hbm, 172, rfl⟩
abbrev main_call8_c_0 : Ref sig .tc := ⟨.hbm, 173, rfl⟩
abbrev main_call8_v2 : Ref sig .tc := ⟨.hbm, 174, rfl⟩
abbrev main_call8_v3 : Ref sig .tc := ⟨.hbm, 175, rfl⟩
abbrev main_call8_v4 : Ref sig .tc := ⟨.hbm, 176, rfl⟩
abbrev main_call8_v5 : Ref sig .tc := ⟨.hbm, 177, rfl⟩
abbrev main_call8_c_1 : Ref sig .tc := ⟨.hbm, 178, rfl⟩
abbrev main_call8_c_2 : Ref sig .tc := ⟨.hbm, 179, rfl⟩
abbrev main_call8_v6 : Ref sig .tc := ⟨.hbm, 180, rfl⟩
abbrev main_call8_v7 : Ref sig .tc := ⟨.hbm, 181, rfl⟩
abbrev main_call8_v8 : Ref sig .tc := ⟨.hbm, 182, rfl⟩
abbrev main_call8_v9 : Ref sig .tc := ⟨.hbm, 183, rfl⟩
abbrev main_call8_v10 : Ref sig .tc := ⟨.hbm, 184, rfl⟩
abbrev main_call8_v11 : Ref sig .tc := ⟨.hbm, 185, rfl⟩
abbrev main_call8_c_3 : Ref sig .tc := ⟨.hbm, 186, rfl⟩
abbrev main_call8_v12 : Ref sig .tc := ⟨.hbm, 187, rfl⟩
abbrev main_call8_v13 : Ref sig .tc := ⟨.hbm, 188, rfl⟩
abbrev main_call8_cst : Ref sig .tc := ⟨.hbm, 189, rfl⟩
abbrev main_call8_v14 : Ref sig .tc := ⟨.hbm, 190, rfl⟩
abbrev main_v114 : Ref sig .tc := ⟨.hbm, 191, rfl⟩
abbrev main_v115 : Ref sig .tc := ⟨.hbm, 192, rfl⟩
abbrev main_cst_12 : Ref sig .tc := ⟨.hbm, 193, rfl⟩
abbrev main_v116 : Ref sig .tc := ⟨.hbm, 194, rfl⟩
abbrev main_v117 : Ref sig .tc := ⟨.hbm, 195, rfl⟩
abbrev main_c_13 : Ref sig .tc := ⟨.hbm, 196, rfl⟩
abbrev main_v118 : Ref sig .tc := ⟨.hbm, 197, rfl⟩
abbrev main_v119 : Ref sig .tc := ⟨.hbm, 198, rfl⟩
abbrev main_c_14 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_c_15 : Ref sig .tc := ⟨.hbm, 203, rfl⟩
abbrev main_v123 : Ref sig .tc := ⟨.hbm, 204, rfl⟩
abbrev main_v124 : Ref sig .tc := ⟨.hbm, 205, rfl⟩
abbrev main_c_16 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_cst_17 : Ref sig .tc := ⟨.hbm, 215, rfl⟩
abbrev main_call9_v0 : Ref sig .tc := ⟨.hbm, 216, rfl⟩
abbrev main_call9_v1 : Ref sig .tc := ⟨.hbm, 217, rfl⟩
abbrev main_v133 : Ref sig .tc := ⟨.hbm, 218, rfl⟩
abbrev main_v134 : Ref sig .tc := ⟨.hbm, 219, rfl⟩
abbrev main_cst_18 : Ref sig .tc := ⟨.hbm, 220, rfl⟩
abbrev main_call10_v0 : Ref sig .tc := ⟨.hbm, 221, rfl⟩
abbrev main_call10_v1 : Ref sig .tc := ⟨.hbm, 222, rfl⟩
abbrev main_call10_v2 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_cst_19 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_cst_20 : Ref sig .tc := ⟨.hbm, 272, rfl⟩
abbrev main_v182 : Ref sig .tc := ⟨.hbm, 273, rfl⟩
abbrev main_v183 : Ref sig .tc := ⟨.hbm, 274, rfl⟩
abbrev main_v184 : Ref sig .tc := ⟨.hbm, 275, rfl⟩
abbrev main_cst_21 : Ref sig .tc := ⟨.hbm, 276, rfl⟩
abbrev main_call11_v0 : Ref sig .tc := ⟨.hbm, 277, rfl⟩
abbrev main_call11_v1 : Ref sig .tc := ⟨.hbm, 278, rfl⟩
abbrev main_v185 : Ref sig .tc := ⟨.hbm, 279, rfl⟩
abbrev main_cst_22 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_cst_23 : Ref sig .tc := ⟨.hbm, 286, rfl⟩
abbrev main_call12_v0 : Ref sig .tc := ⟨.hbm, 287, rfl⟩
abbrev main_call12_v1 : Ref sig .tc := ⟨.hbm, 288, rfl⟩
abbrev main_v191 : Ref sig .tc := ⟨.hbm, 289, rfl⟩
abbrev main_call13_v0 : Ref sig .tc := ⟨.hbm, 290, rfl⟩
abbrev main_call13_cst : Ref sig .tc := ⟨.hbm, 291, rfl⟩
abbrev main_call13_c : Ref sig .tc := ⟨.hbm, 292, rfl⟩
abbrev main_call13_v1_0 : Ref sig .tc := ⟨.hbm, 293, rfl⟩
abbrev main_v192 : Ref sig .tc := ⟨.hbm, 294, rfl⟩
abbrev main_v193 : Ref sig .tc := ⟨.hbm, 295, rfl⟩
abbrev main_call14_c : Ref sig .tc := ⟨.hbm, 296, rfl⟩
abbrev main_call14_v0 : Ref sig .tc := ⟨.hbm, 297, rfl⟩
abbrev main_call14_v1 : Ref sig .tc := ⟨.hbm, 298, rfl⟩
abbrev main_call14_c_0 : Ref sig .tc := ⟨.hbm, 299, rfl⟩
abbrev main_call14_v2 : Ref sig .tc := ⟨.hbm, 300, rfl⟩
abbrev main_call14_v3 : Ref sig .tc := ⟨.hbm, 301, rfl⟩
abbrev main_call14_v4 : Ref sig .tc := ⟨.hbm, 302, rfl⟩
abbrev main_call14_v5 : Ref sig .tc := ⟨.hbm, 303, rfl⟩
abbrev main_call14_c_1 : Ref sig .tc := ⟨.hbm, 304, rfl⟩
abbrev main_call14_c_2 : Ref sig .tc := ⟨.hbm, 305, rfl⟩
abbrev main_call14_v6 : Ref sig .tc := ⟨.hbm, 306, rfl⟩
abbrev main_call14_v7 : Ref sig .tc := ⟨.hbm, 307, rfl⟩
abbrev main_call14_v8 : Ref sig .tc := ⟨.hbm, 308, rfl⟩
abbrev main_call14_v9 : Ref sig .tc := ⟨.hbm, 309, rfl⟩
abbrev main_call14_v10 : Ref sig .tc := ⟨.hbm, 310, rfl⟩
abbrev main_call14_v11 : Ref sig .tc := ⟨.hbm, 311, rfl⟩
abbrev main_call14_c_3 : Ref sig .tc := ⟨.hbm, 312, rfl⟩
abbrev main_call14_v12 : Ref sig .tc := ⟨.hbm, 313, rfl⟩
abbrev main_call14_v13 : Ref sig .tc := ⟨.hbm, 314, rfl⟩
abbrev main_call14_cst : Ref sig .tc := ⟨.hbm, 315, rfl⟩
abbrev main_call14_v14 : Ref sig .tc := ⟨.hbm, 316, rfl⟩
abbrev main_v194 : Ref sig .tc := ⟨.hbm, 317, rfl⟩
abbrev main_v195 : Ref sig .tc := ⟨.hbm, 318, rfl⟩
abbrev main_cst_24 : Ref sig .tc := ⟨.hbm, 319, rfl⟩
abbrev main_v196 : Ref sig .tc := ⟨.hbm, 320, rfl⟩
abbrev main_v197 : Ref sig .tc := ⟨.hbm, 321, rfl⟩
abbrev main_c_25 : Ref sig .tc := ⟨.hbm, 322, rfl⟩
abbrev main_v198 : Ref sig .tc := ⟨.hbm, 323, rfl⟩
abbrev main_v199 : Ref sig .tc := ⟨.hbm, 324, rfl⟩
abbrev main_c_26 : Ref sig .tc := ⟨.hbm, 325, rfl⟩
abbrev main_v200 : Ref sig .tc := ⟨.hbm, 326, rfl⟩
abbrev main_v201 : Ref sig .tc := ⟨.hbm, 327, rfl⟩
abbrev main_v202 : Ref sig .tc := ⟨.hbm, 328, rfl⟩
abbrev main_c_27 : Ref sig .tc := ⟨.hbm, 329, rfl⟩
abbrev main_v203 : Ref sig .tc := ⟨.hbm, 330, rfl⟩
abbrev main_v204 : Ref sig .tc := ⟨.hbm, 331, rfl⟩
abbrev main_c_28 : Ref sig .tc := ⟨.hbm, 332, rfl⟩
abbrev main_v205 : Ref sig .tc := ⟨.hbm, 333, rfl⟩
abbrev main_v206 : Ref sig .tc := ⟨.hbm, 334, rfl⟩
abbrev main_v207 : Ref sig .tc := ⟨.hbm, 335, rfl⟩
abbrev main_v208 : Ref sig .tc := ⟨.hbm, 336, rfl⟩
abbrev main_v209 : Ref sig .tc := ⟨.hbm, 337, rfl⟩
abbrev main_v210 : Ref sig .tc := ⟨.hbm, 338, rfl⟩
abbrev main_v211 : Ref sig .tc := ⟨.hbm, 339, rfl⟩
abbrev main_v212 : Ref sig .tc := ⟨.hbm, 340, rfl⟩
abbrev main_cst_29 : Ref sig .tc := ⟨.hbm, 341, rfl⟩
abbrev main_call15_v0 : Ref sig .tc := ⟨.hbm, 342, rfl⟩
abbrev main_call15_v1 : Ref sig .tc := ⟨.hbm, 343, rfl⟩
abbrev main_v213 : Ref sig .tc := ⟨.hbm, 344, rfl⟩
abbrev main_v214 : Ref sig .tc := ⟨.hbm, 345, rfl⟩
abbrev main_cst_30 : Ref sig .tc := ⟨.hbm, 346, rfl⟩
abbrev main_call16_v0 : Ref sig .tc := ⟨.hbm, 347, rfl⟩
abbrev main_call16_v1 : Ref sig .tc := ⟨.hbm, 348, rfl⟩
abbrev main_call16_v2 : Ref sig .tc := ⟨.hbm, 349, rfl⟩
abbrev main_v215 : Ref sig .tc := ⟨.hbm, 350, rfl⟩
abbrev main_v216 : Ref sig .tc := ⟨.hbm, 351, rfl⟩
abbrev main_v217 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_v221 : Ref sig .tc := ⟨.hbm, 356, rfl⟩
abbrev main_v222 : Ref sig .tc := ⟨.hbm, 357, rfl⟩
abbrev main_v223 : Ref sig .tc := ⟨.hbm, 358, rfl⟩
abbrev main_v224 : Ref sig .tc := ⟨.hbm, 359, rfl⟩
abbrev main_v225 : Ref sig .tc := ⟨.hbm, 360, rfl⟩
abbrev main_v226 : Ref sig .tc := ⟨.hbm, 361, rfl⟩
abbrev main_v227 : Ref sig .tc := ⟨.hbm, 362, rfl⟩
abbrev main_v228 : Ref sig .tc := ⟨.hbm, 363, rfl⟩
abbrev main_cst_31 : Ref sig .tc := ⟨.hbm, 364, rfl⟩
abbrev main_v229 : Ref sig .tc := ⟨.hbm, 365, rfl⟩
abbrev main_v230 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_v235 : Ref sig .tc := ⟨.hbm, 371, rfl⟩
abbrev main_v236 : Ref sig .tc := ⟨.hbm, 372, rfl⟩
abbrev main_v237 : Ref sig .tc := ⟨.hbm, 373, rfl⟩
abbrev main_v238 : Ref sig .tc := ⟨.hbm, 374, rfl⟩
abbrev main_v239 : Ref sig .tc := ⟨.hbm, 375, rfl⟩
abbrev main_v240 : Ref sig .tc := ⟨.hbm, 376, rfl⟩
abbrev main_v241 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_v245 : Ref sig .tc := ⟨.hbm, 381, rfl⟩
abbrev main_v246 : Ref sig .tc := ⟨.hbm, 382, rfl⟩
abbrev main_v247 : Ref sig .tc := ⟨.hbm, 383, rfl⟩
abbrev main_v248 : Ref sig .tc := ⟨.hbm, 384, rfl⟩
abbrev main_v249 : Ref sig .tc := ⟨.hbm, 385, rfl⟩
abbrev main_v250 : Ref sig .tc := ⟨.hbm, 386, rfl⟩
abbrev main_v251 : Ref sig .tc := ⟨.hbm, 387, rfl⟩
abbrev main_v252 : Ref sig .tc := ⟨.hbm, 388, rfl⟩
abbrev main_v253 : Ref sig .tc := ⟨.hbm, 389, rfl⟩
abbrev main_v254 : Ref sig .tc := ⟨.hbm, 390, rfl⟩
abbrev main_v255 : Ref sig .tc := ⟨.hbm, 391, rfl⟩
abbrev main_v256 : Ref sig .tc := ⟨.hbm, 392, rfl⟩
abbrev main_v257 : Ref sig .tc := ⟨.hbm, 393, rfl⟩
abbrev main_v258 : Ref sig .tc := ⟨.hbm, 394, rfl⟩
abbrev main_v259 : Ref sig .tc := ⟨.hbm, 395, rfl⟩
abbrev main_v260 : Ref sig .tc := ⟨.hbm, 396, rfl⟩
abbrev main_v261 : Ref sig .tc := ⟨.hbm, 397, rfl⟩
abbrev main_cst_32 : Ref sig .tc := ⟨.hbm, 398, rfl⟩
abbrev main_v262 : Ref sig .tc := ⟨.hbm, 399, rfl⟩
abbrev main_v263 : Ref sig .tc := ⟨.hbm, 400, rfl⟩
abbrev main_v264 : Ref sig .tc := ⟨.hbm, 401, rfl⟩
abbrev main_cst_33 : Ref sig .tc := ⟨.hbm, 402, rfl⟩
abbrev main_call17_v0 : Ref sig .tc := ⟨.hbm, 403, rfl⟩
abbrev main_call17_v1 : Ref sig .tc := ⟨.hbm, 404, rfl⟩
abbrev main_v265 : Ref sig .tc := ⟨.hbm, 405, rfl⟩
abbrev main_cst_34 : Ref sig .tc := ⟨.hbm, 406, rfl⟩
abbrev main_v266 : Ref sig .tc := ⟨.hbm, 407, rfl⟩
abbrev main_v267 : Ref sig .tc := ⟨.hbm, 408, rfl⟩
abbrev main_v268 : Ref sig .tc := ⟨.hbm, 409, rfl⟩
abbrev main_v269 : Ref sig .tc := ⟨.hbm, 410, rfl⟩
abbrev main_v270 : Ref sig .tc := ⟨.hbm, 411, rfl⟩
abbrev main_cst_35 : Ref sig .tc := ⟨.hbm, 412, rfl⟩
abbrev main_call18_v0 : Ref sig .tc := ⟨.hbm, 413, rfl⟩
abbrev main_call18_v1 : Ref sig .tc := ⟨.hbm, 414, rfl⟩
abbrev main_v271 : Ref sig .tc := ⟨.hbm, 415, rfl⟩
abbrev main_call19_v0 : Ref sig .tc := ⟨.hbm, 416, rfl⟩
abbrev main_call19_cst : Ref sig .tc := ⟨.hbm, 417, rfl⟩
abbrev main_call19_c : Ref sig .tc := ⟨.hbm, 418, rfl⟩
abbrev main_call19_v1_0 : Ref sig .tc := ⟨.hbm, 419, rfl⟩
abbrev main_v272 : Ref sig .tc := ⟨.hbm, 420, rfl⟩
abbrev main_v273 : Ref sig .tc := ⟨.hbm, 421, rfl⟩
abbrev main_call20_c : Ref sig .tc := ⟨.hbm, 422, rfl⟩
abbrev main_call20_v0 : Ref sig .tc := ⟨.hbm, 423, rfl⟩
abbrev main_call20_v1 : Ref sig .tc := ⟨.hbm, 424, rfl⟩
abbrev main_call20_c_0 : Ref sig .tc := ⟨.hbm, 425, rfl⟩
abbrev main_call20_v2 : Ref sig .tc := ⟨.hbm, 426, rfl⟩
abbrev main_call20_v3 : Ref sig .tc := ⟨.hbm, 427, rfl⟩
abbrev main_call20_v4 : Ref sig .tc := ⟨.hbm, 428, rfl⟩
abbrev main_call20_v5 : Ref sig .tc := ⟨.hbm, 429, rfl⟩
abbrev main_call20_c_1 : Ref sig .tc := ⟨.hbm, 430, rfl⟩
abbrev main_call20_c_2 : Ref sig .tc := ⟨.hbm, 431, rfl⟩
abbrev main_call20_v6 : Ref sig .tc := ⟨.hbm, 432, rfl⟩
abbrev main_call20_v7 : Ref sig .tc := ⟨.hbm, 433, rfl⟩
abbrev main_call20_v8 : Ref sig .tc := ⟨.hbm, 434, rfl⟩
abbrev main_call20_v9 : Ref sig .tc := ⟨.hbm, 435, rfl⟩
abbrev main_call20_v10 : Ref sig .tc := ⟨.hbm, 436, rfl⟩
abbrev main_call20_v11 : Ref sig .tc := ⟨.hbm, 437, rfl⟩
abbrev main_call20_c_3 : Ref sig .tc := ⟨.hbm, 438, rfl⟩
abbrev main_call20_v12 : Ref sig .tc := ⟨.hbm, 439, rfl⟩
abbrev main_call20_v13 : Ref sig .tc := ⟨.hbm, 440, rfl⟩
abbrev main_call20_cst : Ref sig .tc := ⟨.hbm, 441, rfl⟩
abbrev main_call20_v14 : Ref sig .tc := ⟨.hbm, 442, rfl⟩
abbrev main_v274 : Ref sig .tc := ⟨.hbm, 443, rfl⟩
abbrev main_v275 : Ref sig .tc := ⟨.hbm, 444, rfl⟩
abbrev main_cst_36 : Ref sig .tc := ⟨.hbm, 445, rfl⟩
abbrev main_v276 : Ref sig .tc := ⟨.hbm, 446, rfl⟩
abbrev main_v277 : Ref sig .tc := ⟨.hbm, 447, rfl⟩
abbrev main_c_37 : Ref sig .tc := ⟨.hbm, 448, rfl⟩
abbrev main_v278 : Ref sig .tc := ⟨.hbm, 449, rfl⟩
abbrev main_v279 : Ref sig .tc := ⟨.hbm, 450, rfl⟩
abbrev main_c_38 : Ref sig .tc := ⟨.hbm, 451, rfl⟩
abbrev main_v280 : Ref sig .tc := ⟨.hbm, 452, rfl⟩
abbrev main_v281 : Ref sig .tc := ⟨.hbm, 453, rfl⟩
abbrev main_v282 : Ref sig .tc := ⟨.hbm, 454, rfl⟩
abbrev main_c_39 : Ref sig .tc := ⟨.hbm, 455, rfl⟩
abbrev main_v283 : Ref sig .tc := ⟨.hbm, 456, rfl⟩
abbrev main_v284 : Ref sig .tc := ⟨.hbm, 457, rfl⟩
abbrev main_c_40 : Ref sig .tc := ⟨.hbm, 458, rfl⟩
abbrev main_v285 : Ref sig .tc := ⟨.hbm, 459, rfl⟩
abbrev main_v286 : Ref sig .tc := ⟨.hbm, 460, rfl⟩
abbrev main_v287 : Ref sig .tc := ⟨.hbm, 461, rfl⟩
abbrev main_v288 : Ref sig .tc := ⟨.hbm, 462, rfl⟩
abbrev main_v289 : Ref sig .tc := ⟨.hbm, 463, rfl⟩
abbrev main_v290 : Ref sig .tc := ⟨.hbm, 464, rfl⟩
abbrev main_v291 : Ref sig .tc := ⟨.hbm, 465, rfl⟩
abbrev main_v292 : Ref sig .tc := ⟨.hbm, 466, rfl⟩
abbrev main_cst_41 : Ref sig .tc := ⟨.hbm, 467, rfl⟩
abbrev main_call21_v0 : Ref sig .tc := ⟨.hbm, 468, rfl⟩
abbrev main_call21_v1 : Ref sig .tc := ⟨.hbm, 469, rfl⟩
abbrev main_v293 : Ref sig .tc := ⟨.hbm, 470, rfl⟩
abbrev main_v294 : Ref sig .tc := ⟨.hbm, 471, rfl⟩
abbrev main_cst_42 : Ref sig .tc := ⟨.hbm, 472, rfl⟩
abbrev main_call22_v0 : Ref sig .tc := ⟨.hbm, 473, rfl⟩
abbrev main_call22_v1 : Ref sig .tc := ⟨.hbm, 474, rfl⟩
abbrev main_call22_v2 : Ref sig .tc := ⟨.hbm, 475, rfl⟩
abbrev main_v295 : Ref sig .tc := ⟨.hbm, 476, rfl⟩
abbrev main_v296 : Ref sig .tc := ⟨.hbm, 477, rfl⟩
abbrev main_v297 : Ref sig .tc := ⟨.hbm, 478, rfl⟩
abbrev main_v298 : Ref sig .tc := ⟨.hbm, 479, rfl⟩
abbrev main_v299 : Ref sig .tc := ⟨.hbm, 480, rfl⟩
abbrev main_v300 : Ref sig .tc := ⟨.hbm, 481, rfl⟩
abbrev main_v301 : Ref sig .tc := ⟨.hbm, 482, rfl⟩
abbrev main_v302 : Ref sig .tc := ⟨.hbm, 483, rfl⟩
abbrev main_v303 : Ref sig .tc := ⟨.hbm, 484, rfl⟩
abbrev main_v304 : Ref sig .tc := ⟨.hbm, 485, rfl⟩
abbrev main_v305 : Ref sig .tc := ⟨.hbm, 486, rfl⟩
abbrev main_v306 : Ref sig .tc := ⟨.hbm, 487, rfl⟩
abbrev main_v307 : Ref sig .tc := ⟨.hbm, 488, rfl⟩
abbrev main_v308 : Ref sig .tc := ⟨.hbm, 489, rfl⟩
abbrev main_cst_43 : Ref sig .tc := ⟨.hbm, 490, rfl⟩
abbrev main_v309 : Ref sig .tc := ⟨.hbm, 491, rfl⟩
abbrev main_v310 : Ref sig .tc := ⟨.hbm, 492, rfl⟩
abbrev main_v311 : Ref sig .tc := ⟨.hbm, 493, rfl⟩
abbrev main_v312 : Ref sig .tc := ⟨.hbm, 494, rfl⟩
abbrev main_v313 : Ref sig .tc := ⟨.hbm, 495, rfl⟩
abbrev main_v314 : Ref sig .tc := ⟨.hbm, 496, rfl⟩
abbrev main_v315 : Ref sig .tc := ⟨.hbm, 497, rfl⟩
abbrev main_v316 : Ref sig .tc := ⟨.hbm, 498, rfl⟩
abbrev main_v317 : Ref sig .tc := ⟨.hbm, 499, rfl⟩
abbrev main_v318 : Ref sig .tc := ⟨.hbm, 500, rfl⟩
abbrev main_v319 : Ref sig .tc := ⟨.hbm, 501, rfl⟩
abbrev main_v320 : Ref sig .tc := ⟨.hbm, 502, rfl⟩
abbrev main_v321 : Ref sig .tc := ⟨.hbm, 503, rfl⟩
abbrev main_v322 : Ref sig .tc := ⟨.hbm, 504, rfl⟩
abbrev main_v323 : Ref sig .tc := ⟨.hbm, 505, rfl⟩
abbrev main_v324 : Ref sig .tc := ⟨.hbm, 506, rfl⟩
abbrev main_v325 : Ref sig .tc := ⟨.hbm, 507, rfl⟩
abbrev main_v326 : Ref sig .tc := ⟨.hbm, 508, rfl⟩
abbrev main_v327 : Ref sig .tc := ⟨.hbm, 509, rfl⟩
abbrev main_v328 : Ref sig .tc := ⟨.hbm, 510, rfl⟩
abbrev main_v329 : Ref sig .tc := ⟨.hbm, 511, rfl⟩
abbrev main_v330 : Ref sig .tc := ⟨.hbm, 512, rfl⟩
abbrev main_v331 : Ref sig .tc := ⟨.hbm, 513, rfl⟩
abbrev main_v332 : Ref sig .tc := ⟨.hbm, 514, rfl⟩
abbrev main_v333 : Ref sig .tc := ⟨.hbm, 515, rfl⟩
abbrev main_v334 : Ref sig .tc := ⟨.hbm, 516, rfl⟩
abbrev main_v335 : Ref sig .tc := ⟨.hbm, 517, rfl⟩
abbrev main_v336 : Ref sig .tc := ⟨.hbm, 518, rfl⟩
abbrev main_v337 : Ref sig .tc := ⟨.hbm, 519, rfl⟩
abbrev main_v338 : Ref sig .tc := ⟨.hbm, 520, rfl⟩
abbrev main_v339 : Ref sig .tc := ⟨.hbm, 521, rfl⟩
abbrev main_v340 : Ref sig .tc := ⟨.hbm, 522, rfl⟩
abbrev main_v341 : Ref sig .tc := ⟨.hbm, 523, rfl⟩
abbrev main_cst_44 : Ref sig .tc := ⟨.hbm, 524, rfl⟩
abbrev main_v342 : Ref sig .tc := ⟨.hbm, 525, rfl⟩
abbrev main_v343 : Ref sig .tc := ⟨.hbm, 526, rfl⟩
abbrev main_v344 : Ref sig .tc := ⟨.hbm, 527, rfl⟩
abbrev main_cst_45 : Ref sig .tc := ⟨.hbm, 528, rfl⟩
abbrev main_call23_v0 : Ref sig .tc := ⟨.hbm, 529, rfl⟩
abbrev main_call23_v1 : Ref sig .tc := ⟨.hbm, 530, rfl⟩
abbrev main_v345 : Ref sig .tc := ⟨.hbm, 531, rfl⟩
abbrev main_cst_46 : Ref sig .tc := ⟨.hbm, 532, rfl⟩
abbrev main_v346 : Ref sig .tc := ⟨.hbm, 533, rfl⟩
abbrev main_v347 : Ref sig .tc := ⟨.hbm, 534, rfl⟩
abbrev main_v348 : Ref sig .tc := ⟨.hbm, 535, rfl⟩
abbrev main_v349 : Ref sig .tc := ⟨.hbm, 536, rfl⟩
abbrev main_v350 : Ref sig .tc := ⟨.hbm, 537, rfl⟩
abbrev main_cst_47 : Ref sig .tc := ⟨.hbm, 538, rfl⟩
abbrev main_call24_v0 : Ref sig .tc := ⟨.hbm, 539, rfl⟩
abbrev main_call24_v1 : Ref sig .tc := ⟨.hbm, 540, rfl⟩
abbrev main_v351 : Ref sig .tc := ⟨.hbm, 541, rfl⟩
abbrev main_call25_v0 : Ref sig .tc := ⟨.hbm, 542, rfl⟩
abbrev main_call25_cst : Ref sig .tc := ⟨.hbm, 543, rfl⟩
abbrev main_call25_c : Ref sig .tc := ⟨.hbm, 544, rfl⟩
abbrev main_call25_v1_0 : Ref sig .tc := ⟨.hbm, 545, rfl⟩
abbrev main_v352 : Ref sig .tc := ⟨.hbm, 546, rfl⟩
abbrev main_v353 : Ref sig .tc := ⟨.hbm, 547, rfl⟩
abbrev main_call26_c : Ref sig .tc := ⟨.hbm, 548, rfl⟩
abbrev main_call26_v0 : Ref sig .tc := ⟨.hbm, 549, rfl⟩
abbrev main_call26_v1 : Ref sig .tc := ⟨.hbm, 550, rfl⟩
abbrev main_call26_c_0 : Ref sig .tc := ⟨.hbm, 551, rfl⟩
abbrev main_call26_v2 : Ref sig .tc := ⟨.hbm, 552, rfl⟩
abbrev main_call26_v3 : Ref sig .tc := ⟨.hbm, 553, rfl⟩
abbrev main_call26_v4 : Ref sig .tc := ⟨.hbm, 554, rfl⟩
abbrev main_call26_v5 : Ref sig .tc := ⟨.hbm, 555, rfl⟩
abbrev main_call26_c_1 : Ref sig .tc := ⟨.hbm, 556, rfl⟩
abbrev main_call26_c_2 : Ref sig .tc := ⟨.hbm, 557, rfl⟩
abbrev main_call26_v6 : Ref sig .tc := ⟨.hbm, 558, rfl⟩
abbrev main_call26_v7 : Ref sig .tc := ⟨.hbm, 559, rfl⟩
abbrev main_call26_v8 : Ref sig .tc := ⟨.hbm, 560, rfl⟩
abbrev main_call26_v9 : Ref sig .tc := ⟨.hbm, 561, rfl⟩
abbrev main_call26_v10 : Ref sig .tc := ⟨.hbm, 562, rfl⟩
abbrev main_call26_v11 : Ref sig .tc := ⟨.hbm, 563, rfl⟩
abbrev main_call26_c_3 : Ref sig .tc := ⟨.hbm, 564, rfl⟩
abbrev main_call26_v12 : Ref sig .tc := ⟨.hbm, 565, rfl⟩
abbrev main_call26_v13 : Ref sig .tc := ⟨.hbm, 566, rfl⟩
abbrev main_call26_cst : Ref sig .tc := ⟨.hbm, 567, rfl⟩
abbrev main_call26_v14 : Ref sig .tc := ⟨.hbm, 568, rfl⟩
abbrev main_v354 : Ref sig .tc := ⟨.hbm, 569, rfl⟩
abbrev main_v355 : Ref sig .tc := ⟨.hbm, 570, rfl⟩
abbrev main_cst_48 : Ref sig .tc := ⟨.hbm, 571, rfl⟩
abbrev main_v356 : Ref sig .tc := ⟨.hbm, 572, rfl⟩
abbrev main_v357 : Ref sig .tc := ⟨.hbm, 573, rfl⟩
abbrev main_c_49 : Ref sig .tc := ⟨.hbm, 574, rfl⟩
abbrev main_v358 : Ref sig .tc := ⟨.hbm, 575, rfl⟩
abbrev main_v359 : Ref sig .tc := ⟨.hbm, 576, rfl⟩
abbrev main_c_50 : Ref sig .tc := ⟨.hbm, 577, rfl⟩
abbrev main_v360 : Ref sig .tc := ⟨.hbm, 578, rfl⟩
abbrev main_v361 : Ref sig .tc := ⟨.hbm, 579, rfl⟩
abbrev main_v362 : Ref sig .tc := ⟨.hbm, 580, rfl⟩
abbrev main_c_51 : Ref sig .tc := ⟨.hbm, 581, rfl⟩
abbrev main_v363 : Ref sig .tc := ⟨.hbm, 582, rfl⟩
abbrev main_v364 : Ref sig .tc := ⟨.hbm, 583, rfl⟩
abbrev main_c_52 : Ref sig .tc := ⟨.hbm, 584, rfl⟩
abbrev main_v365 : Ref sig .tc := ⟨.hbm, 585, rfl⟩
abbrev main_v366 : Ref sig .tc := ⟨.hbm, 586, rfl⟩
abbrev main_v367 : Ref sig .tc := ⟨.hbm, 587, rfl⟩
abbrev main_v368 : Ref sig .tc := ⟨.hbm, 588, rfl⟩
abbrev main_v369 : Ref sig .tc := ⟨.hbm, 589, rfl⟩
abbrev main_v370 : Ref sig .tc := ⟨.hbm, 590, rfl⟩
abbrev main_v371 : Ref sig .tc := ⟨.hbm, 591, rfl⟩
abbrev main_v372 : Ref sig .tc := ⟨.hbm, 592, rfl⟩
abbrev main_cst_53 : Ref sig .tc := ⟨.hbm, 593, rfl⟩
abbrev main_call27_v0 : Ref sig .tc := ⟨.hbm, 594, rfl⟩
abbrev main_call27_v1 : Ref sig .tc := ⟨.hbm, 595, rfl⟩
abbrev main_v373 : Ref sig .tc := ⟨.hbm, 596, rfl⟩
abbrev main_v374 : Ref sig .tc := ⟨.hbm, 597, rfl⟩
abbrev main_cst_54 : Ref sig .tc := ⟨.hbm, 598, rfl⟩
abbrev main_call28_v0 : Ref sig .tc := ⟨.hbm, 599, rfl⟩
abbrev main_call28_v1 : Ref sig .tc := ⟨.hbm, 600, rfl⟩
abbrev main_call28_v2 : Ref sig .tc := ⟨.hbm, 601, rfl⟩
abbrev main_v375 : Ref sig .tc := ⟨.hbm, 602, rfl⟩
abbrev main_v376 : Ref sig .tc := ⟨.hbm, 603, rfl⟩
abbrev main_v377 : Ref sig .tc := ⟨.hbm, 604, rfl⟩
abbrev main_v378 : Ref sig .tc := ⟨.hbm, 605, rfl⟩
abbrev main_v379 : Ref sig .tc := ⟨.hbm, 606, rfl⟩
abbrev main_v380 : Ref sig .tc := ⟨.hbm, 607, rfl⟩
abbrev main_v381 : Ref sig .tc := ⟨.hbm, 608, rfl⟩
abbrev main_v382 : Ref sig .tc := ⟨.hbm, 609, rfl⟩
abbrev main_v383 : Ref sig .tc := ⟨.hbm, 610, rfl⟩
abbrev main_v384 : Ref sig .tc := ⟨.hbm, 611, rfl⟩
abbrev main_v385 : Ref sig .tc := ⟨.hbm, 612, rfl⟩
abbrev main_v386 : Ref sig .tc := ⟨.hbm, 613, rfl⟩
abbrev main_v387 : Ref sig .tc := ⟨.hbm, 614, rfl⟩
abbrev main_v388 : Ref sig .tc := ⟨.hbm, 615, rfl⟩
abbrev main_cst_55 : Ref sig .tc := ⟨.hbm, 616, rfl⟩
abbrev main_v389 : Ref sig .tc := ⟨.hbm, 617, rfl⟩
abbrev main_v390 : Ref sig .tc := ⟨.hbm, 618, rfl⟩
abbrev main_v391 : Ref sig .tc := ⟨.hbm, 619, rfl⟩
abbrev main_v392 : Ref sig .tc := ⟨.hbm, 620, rfl⟩
abbrev main_v393 : Ref sig .tc := ⟨.hbm, 621, rfl⟩
abbrev main_v394 : Ref sig .tc := ⟨.hbm, 622, rfl⟩
abbrev main_v395 : Ref sig .tc := ⟨.hbm, 623, rfl⟩
abbrev main_v396 : Ref sig .tc := ⟨.hbm, 624, rfl⟩
abbrev main_v397 : Ref sig .tc := ⟨.hbm, 625, rfl⟩
abbrev main_v398 : Ref sig .tc := ⟨.hbm, 626, rfl⟩
abbrev main_v399 : Ref sig .tc := ⟨.hbm, 627, rfl⟩
abbrev main_v400 : Ref sig .tc := ⟨.hbm, 628, rfl⟩
abbrev main_v401 : Ref sig .tc := ⟨.hbm, 629, rfl⟩
abbrev main_v402 : Ref sig .tc := ⟨.hbm, 630, rfl⟩
abbrev main_v403 : Ref sig .tc := ⟨.hbm, 631, rfl⟩
abbrev main_v404 : Ref sig .tc := ⟨.hbm, 632, rfl⟩
abbrev main_v405 : Ref sig .tc := ⟨.hbm, 633, rfl⟩
abbrev main_v406 : Ref sig .tc := ⟨.hbm, 634, rfl⟩
abbrev main_v407 : Ref sig .tc := ⟨.hbm, 635, rfl⟩
abbrev main_v408 : Ref sig .tc := ⟨.hbm, 636, rfl⟩
abbrev main_v409 : Ref sig .tc := ⟨.hbm, 637, rfl⟩
abbrev main_v410 : Ref sig .tc := ⟨.hbm, 638, rfl⟩
abbrev main_v411 : Ref sig .tc := ⟨.hbm, 639, rfl⟩
abbrev main_v412 : Ref sig .tc := ⟨.hbm, 640, rfl⟩
abbrev main_v413 : Ref sig .tc := ⟨.hbm, 641, rfl⟩
abbrev main_v414 : Ref sig .tc := ⟨.hbm, 642, rfl⟩
abbrev main_v415 : Ref sig .tc := ⟨.hbm, 643, rfl⟩
abbrev main_v416 : Ref sig .tc := ⟨.hbm, 644, rfl⟩
abbrev main_v417 : Ref sig .tc := ⟨.hbm, 645, rfl⟩
abbrev main_v418 : Ref sig .tc := ⟨.hbm, 646, rfl⟩
abbrev main_v419 : Ref sig .tc := ⟨.hbm, 647, rfl⟩
abbrev main_v420 : Ref sig .tc := ⟨.hbm, 648, rfl⟩
abbrev main_v421 : Ref sig .tc := ⟨.hbm, 649, rfl⟩
abbrev main_cst_56 : Ref sig .tc := ⟨.hbm, 650, rfl⟩
abbrev main_v422 : Ref sig .tc := ⟨.hbm, 651, rfl⟩
abbrev main_v423 : Ref sig .tc := ⟨.hbm, 652, rfl⟩
abbrev main_v424 : Ref sig .tc := ⟨.hbm, 653, rfl⟩
abbrev main_cst_57 : Ref sig .tc := ⟨.hbm, 654, rfl⟩
abbrev main_call29_v0 : Ref sig .tc := ⟨.hbm, 655, rfl⟩
abbrev main_call29_v1 : Ref sig .tc := ⟨.hbm, 656, rfl⟩
abbrev main_v425 : Ref sig .tc := ⟨.hbm, 657, rfl⟩
abbrev main_cst_58 : Ref sig .tc := ⟨.hbm, 658, rfl⟩
abbrev main_v426 : Ref sig .tc := ⟨.hbm, 659, rfl⟩
abbrev main_v427 : Ref sig .tc := ⟨.hbm, 660, rfl⟩
abbrev main_v428 : Ref sig .tc := ⟨.hbm, 661, rfl⟩
abbrev main_v429 : Ref sig .tc := ⟨.hbm, 662, rfl⟩
abbrev main_v430 : Ref sig .tc := ⟨.hbm, 663, rfl⟩
abbrev main_cst_59 : Ref sig .tc := ⟨.hbm, 664, rfl⟩
abbrev main_call30_v0 : Ref sig .tc := ⟨.hbm, 665, rfl⟩
abbrev main_call30_v1 : Ref sig .tc := ⟨.hbm, 666, rfl⟩
abbrev main_v431 : Ref sig .tc := ⟨.hbm, 667, rfl⟩
abbrev main_call31_v0 : Ref sig .tc := ⟨.hbm, 668, rfl⟩
abbrev main_call31_cst : Ref sig .tc := ⟨.hbm, 669, rfl⟩
abbrev main_call31_c : Ref sig .tc := ⟨.hbm, 670, rfl⟩
abbrev main_call31_v1_0 : Ref sig .tc := ⟨.hbm, 671, rfl⟩
abbrev main_v432 : Ref sig .tc := ⟨.hbm, 672, rfl⟩
abbrev main_v433 : Ref sig .tc := ⟨.hbm, 673, rfl⟩
abbrev main_call32_c : Ref sig .tc := ⟨.hbm, 674, rfl⟩
abbrev main_call32_v0 : Ref sig .tc := ⟨.hbm, 675, rfl⟩
abbrev main_call32_v1 : Ref sig .tc := ⟨.hbm, 676, rfl⟩
abbrev main_call32_c_0 : Ref sig .tc := ⟨.hbm, 677, rfl⟩
abbrev main_call32_v2 : Ref sig .tc := ⟨.hbm, 678, rfl⟩
abbrev main_call32_v3 : Ref sig .tc := ⟨.hbm, 679, rfl⟩
abbrev main_call32_v4 : Ref sig .tc := ⟨.hbm, 680, rfl⟩
abbrev main_call32_v5 : Ref sig .tc := ⟨.hbm, 681, rfl⟩
abbrev main_call32_c_1 : Ref sig .tc := ⟨.hbm, 682, rfl⟩
abbrev main_call32_c_2 : Ref sig .tc := ⟨.hbm, 683, rfl⟩
abbrev main_call32_v6 : Ref sig .tc := ⟨.hbm, 684, rfl⟩
abbrev main_call32_v7 : Ref sig .tc := ⟨.hbm, 685, rfl⟩
abbrev main_call32_v8 : Ref sig .tc := ⟨.hbm, 686, rfl⟩
abbrev main_call32_v9 : Ref sig .tc := ⟨.hbm, 687, rfl⟩
abbrev main_call32_v10 : Ref sig .tc := ⟨.hbm, 688, rfl⟩
abbrev main_call32_v11 : Ref sig .tc := ⟨.hbm, 689, rfl⟩
abbrev main_call32_c_3 : Ref sig .tc := ⟨.hbm, 690, rfl⟩
abbrev main_call32_v12 : Ref sig .tc := ⟨.hbm, 691, rfl⟩
abbrev main_call32_v13 : Ref sig .tc := ⟨.hbm, 692, rfl⟩
abbrev main_call32_cst : Ref sig .tc := ⟨.hbm, 693, rfl⟩
abbrev main_call32_v14 : Ref sig .tc := ⟨.hbm, 694, rfl⟩
abbrev main_v434 : Ref sig .tc := ⟨.hbm, 695, rfl⟩
abbrev main_v435 : Ref sig .tc := ⟨.hbm, 696, rfl⟩
abbrev main_cst_60 : Ref sig .tc := ⟨.hbm, 697, rfl⟩
abbrev main_v436 : Ref sig .tc := ⟨.hbm, 698, rfl⟩
abbrev main_v437 : Ref sig .tc := ⟨.hbm, 699, rfl⟩
abbrev main_c_61 : Ref sig .tc := ⟨.hbm, 700, rfl⟩
abbrev main_v438 : Ref sig .tc := ⟨.hbm, 701, rfl⟩
abbrev main_v439 : Ref sig .tc := ⟨.hbm, 702, rfl⟩
abbrev main_c_62 : Ref sig .tc := ⟨.hbm, 703, rfl⟩
abbrev main_v440 : Ref sig .tc := ⟨.hbm, 704, rfl⟩
abbrev main_v441 : Ref sig .tc := ⟨.hbm, 705, rfl⟩
abbrev main_v442 : Ref sig .tc := ⟨.hbm, 706, rfl⟩
abbrev main_c_63 : Ref sig .tc := ⟨.hbm, 707, rfl⟩
abbrev main_v443 : Ref sig .tc := ⟨.hbm, 708, rfl⟩
abbrev main_v444 : Ref sig .tc := ⟨.hbm, 709, rfl⟩
abbrev main_c_64 : Ref sig .tc := ⟨.hbm, 710, rfl⟩
abbrev main_v445 : Ref sig .tc := ⟨.hbm, 711, rfl⟩
abbrev main_v446 : Ref sig .tc := ⟨.hbm, 712, rfl⟩
abbrev main_v447 : Ref sig .tc := ⟨.hbm, 713, rfl⟩
abbrev main_v448 : Ref sig .tc := ⟨.hbm, 714, rfl⟩
abbrev main_v449 : Ref sig .tc := ⟨.hbm, 715, rfl⟩
abbrev main_v450 : Ref sig .tc := ⟨.hbm, 716, rfl⟩
abbrev main_v451 : Ref sig .tc := ⟨.hbm, 717, rfl⟩
abbrev main_v452 : Ref sig .tc := ⟨.hbm, 718, rfl⟩
abbrev main_cst_65 : Ref sig .tc := ⟨.hbm, 719, rfl⟩
abbrev main_call33_v0 : Ref sig .tc := ⟨.hbm, 720, rfl⟩
abbrev main_call33_v1 : Ref sig .tc := ⟨.hbm, 721, rfl⟩
abbrev main_v453 : Ref sig .tc := ⟨.hbm, 722, rfl⟩
abbrev main_v454 : Ref sig .tc := ⟨.hbm, 723, rfl⟩
abbrev main_cst_66 : Ref sig .tc := ⟨.hbm, 724, rfl⟩
abbrev main_call34_v0 : Ref sig .tc := ⟨.hbm, 725, rfl⟩
abbrev main_call34_v1 : Ref sig .tc := ⟨.hbm, 726, rfl⟩
abbrev main_call34_v2 : Ref sig .tc := ⟨.hbm, 727, rfl⟩
abbrev main_v455 : Ref sig .tc := ⟨.hbm, 728, rfl⟩
abbrev main_v456 : Ref sig .tc := ⟨.hbm, 729, rfl⟩
abbrev main_v457 : Ref sig .tc := ⟨.hbm, 730, rfl⟩
abbrev main_v458 : Ref sig .tc := ⟨.hbm, 731, rfl⟩
abbrev main_v459 : Ref sig .tc := ⟨.hbm, 732, rfl⟩
abbrev main_v460 : Ref sig .tc := ⟨.hbm, 733, rfl⟩
abbrev main_v461 : Ref sig .tc := ⟨.hbm, 734, rfl⟩
abbrev main_v462 : Ref sig .tc := ⟨.hbm, 735, rfl⟩
abbrev main_v463 : Ref sig .tc := ⟨.hbm, 736, rfl⟩
abbrev main_v464 : Ref sig .tc := ⟨.hbm, 737, rfl⟩
abbrev main_v465 : Ref sig .tc := ⟨.hbm, 738, rfl⟩
abbrev main_v466 : Ref sig .tc := ⟨.hbm, 739, rfl⟩
abbrev main_v467 : Ref sig .tc := ⟨.hbm, 740, rfl⟩
abbrev main_v468 : Ref sig .tc := ⟨.hbm, 741, rfl⟩
abbrev main_cst_67 : Ref sig .tc := ⟨.hbm, 742, rfl⟩
abbrev main_v469 : Ref sig .tc := ⟨.hbm, 743, rfl⟩
abbrev main_v470 : Ref sig .tc := ⟨.hbm, 744, rfl⟩
abbrev main_v471 : Ref sig .tc := ⟨.hbm, 745, rfl⟩
abbrev main_v472 : Ref sig .tc := ⟨.hbm, 746, rfl⟩
abbrev main_v473 : Ref sig .tc := ⟨.hbm, 747, rfl⟩
abbrev main_v474 : Ref sig .tc := ⟨.hbm, 748, rfl⟩
abbrev main_v475 : Ref sig .tc := ⟨.hbm, 749, rfl⟩
abbrev main_v476 : Ref sig .tc := ⟨.hbm, 750, rfl⟩
abbrev main_v477 : Ref sig .tc := ⟨.hbm, 751, rfl⟩
abbrev main_v478 : Ref sig .tc := ⟨.hbm, 752, rfl⟩
abbrev main_v479 : Ref sig .tc := ⟨.hbm, 753, rfl⟩
abbrev main_v480 : Ref sig .tc := ⟨.hbm, 754, rfl⟩
abbrev main_v481 : Ref sig .tc := ⟨.hbm, 755, rfl⟩
abbrev main_v482 : Ref sig .tc := ⟨.hbm, 756, rfl⟩
abbrev main_v483 : Ref sig .tc := ⟨.hbm, 757, rfl⟩
abbrev main_v484 : Ref sig .tc := ⟨.hbm, 758, rfl⟩
abbrev main_v485 : Ref sig .tc := ⟨.hbm, 759, rfl⟩
abbrev main_v486 : Ref sig .tc := ⟨.hbm, 760, rfl⟩
abbrev main_v487 : Ref sig .tc := ⟨.hbm, 761, rfl⟩
abbrev main_v488 : Ref sig .tc := ⟨.hbm, 762, rfl⟩
abbrev main_v489 : Ref sig .tc := ⟨.hbm, 763, rfl⟩
abbrev main_v490 : Ref sig .tc := ⟨.hbm, 764, rfl⟩
abbrev main_v491 : Ref sig .tc := ⟨.hbm, 765, rfl⟩
abbrev main_v492 : Ref sig .tc := ⟨.hbm, 766, rfl⟩
abbrev main_v493 : Ref sig .tc := ⟨.hbm, 767, rfl⟩
abbrev main_v494 : Ref sig .tc := ⟨.hbm, 768, rfl⟩
abbrev main_v495 : Ref sig .tc := ⟨.hbm, 769, rfl⟩
abbrev main_v496 : Ref sig .tc := ⟨.hbm, 770, rfl⟩
abbrev main_v497 : Ref sig .tc := ⟨.hbm, 771, rfl⟩
abbrev main_v498 : Ref sig .tc := ⟨.hbm, 772, rfl⟩
abbrev main_v499 : Ref sig .tc := ⟨.hbm, 773, rfl⟩
abbrev main_v500 : Ref sig .tc := ⟨.hbm, 774, rfl⟩
abbrev main_v501 : Ref sig .tc := ⟨.hbm, 775, rfl⟩
abbrev main_cst_68 : Ref sig .tc := ⟨.hbm, 776, rfl⟩
abbrev main_v502 : Ref sig .tc := ⟨.hbm, 777, rfl⟩
abbrev main_v503 : Ref sig .tc := ⟨.hbm, 778, rfl⟩
abbrev main_v504 : Ref sig .tc := ⟨.hbm, 779, rfl⟩
abbrev main_cst_69 : Ref sig .tc := ⟨.hbm, 780, rfl⟩
abbrev main_call35_v0 : Ref sig .tc := ⟨.hbm, 781, rfl⟩
abbrev main_call35_v1 : Ref sig .tc := ⟨.hbm, 782, rfl⟩
abbrev main_v505 : Ref sig .tc := ⟨.hbm, 783, rfl⟩
abbrev main_cst_70 : Ref sig .tc := ⟨.hbm, 784, rfl⟩
abbrev main_v506 : Ref sig .tc := ⟨.hbm, 785, rfl⟩
abbrev main_v507 : Ref sig .tc := ⟨.hbm, 786, rfl⟩
abbrev main_v508 : Ref sig .tc := ⟨.hbm, 787, rfl⟩
abbrev main_v509 : Ref sig .tc := ⟨.hbm, 788, rfl⟩
abbrev main_v510 : Ref sig .tc := ⟨.hbm, 789, rfl⟩
abbrev main_cst_71 : Ref sig .tc := ⟨.hbm, 790, rfl⟩
abbrev main_call36_v0 : Ref sig .tc := ⟨.hbm, 791, rfl⟩
abbrev main_call36_v1 : Ref sig .tc := ⟨.hbm, 792, rfl⟩
abbrev main_v511 : Ref sig .tc := ⟨.hbm, 793, rfl⟩
abbrev main_call37_v0 : Ref sig .tc := ⟨.hbm, 794, rfl⟩
abbrev main_call37_cst : Ref sig .tc := ⟨.hbm, 795, rfl⟩
abbrev main_call37_c : Ref sig .tc := ⟨.hbm, 796, rfl⟩
abbrev main_call37_v1_0 : Ref sig .tc := ⟨.hbm, 797, rfl⟩
abbrev main_v512 : Ref sig .tc := ⟨.hbm, 798, rfl⟩
abbrev main_v513 : Ref sig .tc := ⟨.hbm, 799, rfl⟩
abbrev main_call38_c : Ref sig .tc := ⟨.hbm, 800, rfl⟩
abbrev main_call38_v0 : Ref sig .tc := ⟨.hbm, 801, rfl⟩
abbrev main_call38_v1 : Ref sig .tc := ⟨.hbm, 802, rfl⟩
abbrev main_call38_c_0 : Ref sig .tc := ⟨.hbm, 803, rfl⟩
abbrev main_call38_v2 : Ref sig .tc := ⟨.hbm, 804, rfl⟩
abbrev main_call38_v3 : Ref sig .tc := ⟨.hbm, 805, rfl⟩
abbrev main_call38_v4 : Ref sig .tc := ⟨.hbm, 806, rfl⟩
abbrev main_call38_v5 : Ref sig .tc := ⟨.hbm, 807, rfl⟩
abbrev main_call38_c_1 : Ref sig .tc := ⟨.hbm, 808, rfl⟩
abbrev main_call38_c_2 : Ref sig .tc := ⟨.hbm, 809, rfl⟩
abbrev main_call38_v6 : Ref sig .tc := ⟨.hbm, 810, rfl⟩
abbrev main_call38_v7 : Ref sig .tc := ⟨.hbm, 811, rfl⟩
abbrev main_call38_v8 : Ref sig .tc := ⟨.hbm, 812, rfl⟩
abbrev main_call38_v9 : Ref sig .tc := ⟨.hbm, 813, rfl⟩
abbrev main_call38_v10 : Ref sig .tc := ⟨.hbm, 814, rfl⟩
abbrev main_call38_v11 : Ref sig .tc := ⟨.hbm, 815, rfl⟩
abbrev main_call38_c_3 : Ref sig .tc := ⟨.hbm, 816, rfl⟩
abbrev main_call38_v12 : Ref sig .tc := ⟨.hbm, 817, rfl⟩
abbrev main_call38_v13 : Ref sig .tc := ⟨.hbm, 818, rfl⟩
abbrev main_call38_cst : Ref sig .tc := ⟨.hbm, 819, rfl⟩
abbrev main_call38_v14 : Ref sig .tc := ⟨.hbm, 820, rfl⟩
abbrev main_v514 : Ref sig .tc := ⟨.hbm, 821, rfl⟩
abbrev main_v515 : Ref sig .tc := ⟨.hbm, 822, rfl⟩
abbrev main_cst_72 : Ref sig .tc := ⟨.hbm, 823, rfl⟩
abbrev main_v516 : Ref sig .tc := ⟨.hbm, 824, rfl⟩
abbrev main_v517 : Ref sig .tc := ⟨.hbm, 825, rfl⟩
abbrev main_c_73 : Ref sig .tc := ⟨.hbm, 826, rfl⟩
abbrev main_v518 : Ref sig .tc := ⟨.hbm, 827, rfl⟩
abbrev main_v519 : Ref sig .tc := ⟨.hbm, 828, rfl⟩
abbrev main_c_74 : Ref sig .tc := ⟨.hbm, 829, rfl⟩
abbrev main_v520 : Ref sig .tc := ⟨.hbm, 830, rfl⟩
abbrev main_v521 : Ref sig .tc := ⟨.hbm, 831, rfl⟩
abbrev main_v522 : Ref sig .tc := ⟨.hbm, 832, rfl⟩
abbrev main_c_75 : Ref sig .tc := ⟨.hbm, 833, rfl⟩
abbrev main_v523 : Ref sig .tc := ⟨.hbm, 834, rfl⟩
abbrev main_v524 : Ref sig .tc := ⟨.hbm, 835, rfl⟩
abbrev main_c_76 : Ref sig .tc := ⟨.hbm, 836, rfl⟩
abbrev main_v525 : Ref sig .tc := ⟨.hbm, 837, rfl⟩
abbrev main_v526 : Ref sig .tc := ⟨.hbm, 838, rfl⟩
abbrev main_v527 : Ref sig .tc := ⟨.hbm, 839, rfl⟩
abbrev main_v528 : Ref sig .tc := ⟨.hbm, 840, rfl⟩
abbrev main_v529 : Ref sig .tc := ⟨.hbm, 841, rfl⟩
abbrev main_v530 : Ref sig .tc := ⟨.hbm, 842, rfl⟩
abbrev main_v531 : Ref sig .tc := ⟨.hbm, 843, rfl⟩
abbrev main_v532 : Ref sig .tc := ⟨.hbm, 844, rfl⟩
abbrev main_cst_77 : Ref sig .tc := ⟨.hbm, 845, rfl⟩
abbrev main_call39_v0 : Ref sig .tc := ⟨.hbm, 846, rfl⟩
abbrev main_call39_v1 : Ref sig .tc := ⟨.hbm, 847, rfl⟩
abbrev main_v533 : Ref sig .tc := ⟨.hbm, 848, rfl⟩
abbrev main_v534 : Ref sig .tc := ⟨.hbm, 849, rfl⟩
abbrev main_cst_78 : Ref sig .tc := ⟨.hbm, 850, rfl⟩
abbrev main_call40_v0 : Ref sig .tc := ⟨.hbm, 851, rfl⟩
abbrev main_call40_v1 : Ref sig .tc := ⟨.hbm, 852, rfl⟩
abbrev main_call40_v2 : Ref sig .tc := ⟨.hbm, 853, rfl⟩
abbrev main_v535 : Ref sig .tc := ⟨.hbm, 854, rfl⟩
abbrev main_v536 : Ref sig .tc := ⟨.hbm, 855, rfl⟩
abbrev main_v537 : Ref sig .tc := ⟨.hbm, 856, rfl⟩
abbrev main_v538 : Ref sig .tc := ⟨.hbm, 857, rfl⟩
abbrev main_v539 : Ref sig .tc := ⟨.hbm, 858, rfl⟩
abbrev main_v540 : Ref sig .tc := ⟨.hbm, 859, rfl⟩
abbrev main_v541 : Ref sig .tc := ⟨.hbm, 860, rfl⟩
abbrev main_v542 : Ref sig .tc := ⟨.hbm, 861, rfl⟩
abbrev main_v543 : Ref sig .tc := ⟨.hbm, 862, rfl⟩
abbrev main_v544 : Ref sig .tc := ⟨.hbm, 863, rfl⟩
abbrev main_v545 : Ref sig .tc := ⟨.hbm, 864, rfl⟩
abbrev main_v546 : Ref sig .tc := ⟨.hbm, 865, rfl⟩
abbrev main_v547 : Ref sig .tc := ⟨.hbm, 866, rfl⟩
abbrev main_v548 : Ref sig .tc := ⟨.hbm, 867, rfl⟩
abbrev main_cst_79 : Ref sig .tc := ⟨.hbm, 868, rfl⟩
abbrev main_v549 : Ref sig .tc := ⟨.hbm, 869, rfl⟩
abbrev main_v550 : Ref sig .tc := ⟨.hbm, 870, rfl⟩
abbrev main_v551 : Ref sig .tc := ⟨.hbm, 871, rfl⟩
abbrev main_v552 : Ref sig .tc := ⟨.hbm, 872, rfl⟩
abbrev main_v553 : Ref sig .tc := ⟨.hbm, 873, rfl⟩
abbrev main_v554 : Ref sig .tc := ⟨.hbm, 874, rfl⟩
abbrev main_v555 : Ref sig .tc := ⟨.hbm, 875, rfl⟩
abbrev main_v556 : Ref sig .tc := ⟨.hbm, 876, rfl⟩
abbrev main_v557 : Ref sig .tc := ⟨.hbm, 877, rfl⟩
abbrev main_v558 : Ref sig .tc := ⟨.hbm, 878, rfl⟩
abbrev main_v559 : Ref sig .tc := ⟨.hbm, 879, rfl⟩
abbrev main_v560 : Ref sig .tc := ⟨.hbm, 880, rfl⟩
abbrev main_v561 : Ref sig .tc := ⟨.hbm, 881, rfl⟩
abbrev main_v562 : Ref sig .tc := ⟨.hbm, 882, rfl⟩
abbrev main_v563 : Ref sig .tc := ⟨.hbm, 883, rfl⟩
abbrev main_v564 : Ref sig .tc := ⟨.hbm, 884, rfl⟩
abbrev main_v565 : Ref sig .tc := ⟨.hbm, 885, rfl⟩
abbrev main_v566 : Ref sig .tc := ⟨.hbm, 886, rfl⟩
abbrev main_v567 : Ref sig .tc := ⟨.hbm, 887, rfl⟩
abbrev main_v568 : Ref sig .tc := ⟨.hbm, 888, rfl⟩
abbrev main_v569 : Ref sig .tc := ⟨.hbm, 889, rfl⟩
abbrev main_v570 : Ref sig .tc := ⟨.hbm, 890, rfl⟩
abbrev main_v571 : Ref sig .tc := ⟨.hbm, 891, rfl⟩
abbrev main_v572 : Ref sig .tc := ⟨.hbm, 892, rfl⟩
abbrev main_v573 : Ref sig .tc := ⟨.hbm, 893, rfl⟩
abbrev main_v574 : Ref sig .tc := ⟨.hbm, 894, rfl⟩
abbrev main_v575 : Ref sig .tc := ⟨.hbm, 895, rfl⟩
abbrev main_v576 : Ref sig .tc := ⟨.hbm, 896, rfl⟩
abbrev main_v577 : Ref sig .tc := ⟨.hbm, 897, rfl⟩
abbrev main_v578 : Ref sig .tc := ⟨.hbm, 898, rfl⟩
abbrev main_v579 : Ref sig .tc := ⟨.hbm, 899, rfl⟩
abbrev main_v580 : Ref sig .tc := ⟨.hbm, 900, rfl⟩
abbrev main_v581 : Ref sig .tc := ⟨.hbm, 901, rfl⟩
abbrev main_cst_80 : Ref sig .tc := ⟨.hbm, 902, rfl⟩
abbrev main_v582 : Ref sig .tc := ⟨.hbm, 903, rfl⟩
abbrev main_v583 : Ref sig .tc := ⟨.hbm, 904, rfl⟩
abbrev main_v584 : Ref sig .tc := ⟨.hbm, 905, rfl⟩
abbrev main_cst_81 : Ref sig .tc := ⟨.hbm, 906, rfl⟩
abbrev main_call41_v0 : Ref sig .tc := ⟨.hbm, 907, rfl⟩
abbrev main_call41_v1 : Ref sig .tc := ⟨.hbm, 908, rfl⟩
abbrev main_v585 : Ref sig .tc := ⟨.hbm, 909, rfl⟩
abbrev main_cst_82 : Ref sig .tc := ⟨.hbm, 910, rfl⟩
abbrev main_v586 : Ref sig .tc := ⟨.hbm, 911, rfl⟩
abbrev main_v587 : Ref sig .tc := ⟨.hbm, 912, rfl⟩
abbrev main_v588 : Ref sig .tc := ⟨.hbm, 913, rfl⟩
abbrev main_v589 : Ref sig .tc := ⟨.hbm, 914, rfl⟩
abbrev main_v590 : Ref sig .tc := ⟨.hbm, 915, rfl⟩
abbrev main_cst_83 : Ref sig .tc := ⟨.hbm, 916, rfl⟩
abbrev main_call42_v0 : Ref sig .tc := ⟨.hbm, 917, rfl⟩
abbrev main_call42_v1 : Ref sig .tc := ⟨.hbm, 918, rfl⟩
abbrev main_v591 : Ref sig .tc := ⟨.hbm, 919, rfl⟩
abbrev main_call43_v0 : Ref sig .tc := ⟨.hbm, 920, rfl⟩
abbrev main_call43_cst : Ref sig .tc := ⟨.hbm, 921, rfl⟩
abbrev main_call43_c : Ref sig .tc := ⟨.hbm, 922, rfl⟩
abbrev main_call43_v1_0 : Ref sig .tc := ⟨.hbm, 923, rfl⟩
abbrev main_v592 : Ref sig .tc := ⟨.hbm, 924, rfl⟩
abbrev main_v593 : Ref sig .tc := ⟨.hbm, 925, rfl⟩
abbrev main_call44_c : Ref sig .tc := ⟨.hbm, 926, rfl⟩
abbrev main_call44_v0 : Ref sig .tc := ⟨.hbm, 927, rfl⟩
abbrev main_call44_v1 : Ref sig .tc := ⟨.hbm, 928, rfl⟩
abbrev main_call44_c_0 : Ref sig .tc := ⟨.hbm, 929, rfl⟩
abbrev main_call44_v2 : Ref sig .tc := ⟨.hbm, 930, rfl⟩
abbrev main_call44_v3 : Ref sig .tc := ⟨.hbm, 931, rfl⟩
abbrev main_call44_v4 : Ref sig .tc := ⟨.hbm, 932, rfl⟩
abbrev main_call44_v5 : Ref sig .tc := ⟨.hbm, 933, rfl⟩
abbrev main_call44_c_1 : Ref sig .tc := ⟨.hbm, 934, rfl⟩
abbrev main_call44_c_2 : Ref sig .tc := ⟨.hbm, 935, rfl⟩
abbrev main_call44_v6 : Ref sig .tc := ⟨.hbm, 936, rfl⟩
abbrev main_call44_v7 : Ref sig .tc := ⟨.hbm, 937, rfl⟩
abbrev main_call44_v8 : Ref sig .tc := ⟨.hbm, 938, rfl⟩
abbrev main_call44_v9 : Ref sig .tc := ⟨.hbm, 939, rfl⟩
abbrev main_call44_v10 : Ref sig .tc := ⟨.hbm, 940, rfl⟩
abbrev main_call44_v11 : Ref sig .tc := ⟨.hbm, 941, rfl⟩
abbrev main_call44_c_3 : Ref sig .tc := ⟨.hbm, 942, rfl⟩
abbrev main_call44_v12 : Ref sig .tc := ⟨.hbm, 943, rfl⟩
abbrev main_call44_v13 : Ref sig .tc := ⟨.hbm, 944, rfl⟩
abbrev main_call44_cst : Ref sig .tc := ⟨.hbm, 945, rfl⟩
abbrev main_call44_v14 : Ref sig .tc := ⟨.hbm, 946, rfl⟩
abbrev main_v594 : Ref sig .tc := ⟨.hbm, 947, rfl⟩
abbrev main_v595 : Ref sig .tc := ⟨.hbm, 948, rfl⟩
abbrev main_cst_84 : Ref sig .tc := ⟨.hbm, 949, rfl⟩
abbrev main_v596 : Ref sig .tc := ⟨.hbm, 950, rfl⟩
abbrev main_v597 : Ref sig .tc := ⟨.hbm, 951, rfl⟩
abbrev main_c_85 : Ref sig .tc := ⟨.hbm, 952, rfl⟩
abbrev main_v598 : Ref sig .tc := ⟨.hbm, 953, rfl⟩
abbrev main_v599 : Ref sig .tc := ⟨.hbm, 954, rfl⟩
abbrev main_c_86 : Ref sig .tc := ⟨.hbm, 955, rfl⟩
abbrev main_v600 : Ref sig .tc := ⟨.hbm, 956, rfl⟩
abbrev main_v601 : Ref sig .tc := ⟨.hbm, 957, rfl⟩
abbrev main_v602 : Ref sig .tc := ⟨.hbm, 958, rfl⟩
abbrev main_c_87 : Ref sig .tc := ⟨.hbm, 959, rfl⟩
abbrev main_v603 : Ref sig .tc := ⟨.hbm, 960, rfl⟩
abbrev main_v604 : Ref sig .tc := ⟨.hbm, 961, rfl⟩
abbrev main_c_88 : Ref sig .tc := ⟨.hbm, 962, rfl⟩
abbrev main_v605 : Ref sig .tc := ⟨.hbm, 963, rfl⟩
abbrev main_v606 : Ref sig .tc := ⟨.hbm, 964, rfl⟩
abbrev main_v607 : Ref sig .tc := ⟨.hbm, 965, rfl⟩
abbrev main_v608 : Ref sig .tc := ⟨.hbm, 966, rfl⟩
abbrev main_v609 : Ref sig .tc := ⟨.hbm, 967, rfl⟩
abbrev main_v610 : Ref sig .tc := ⟨.hbm, 968, rfl⟩
abbrev main_v611 : Ref sig .tc := ⟨.hbm, 969, rfl⟩
abbrev main_v612 : Ref sig .tc := ⟨.hbm, 970, rfl⟩
abbrev main_cst_89 : Ref sig .tc := ⟨.hbm, 971, rfl⟩
abbrev main_call45_v0 : Ref sig .tc := ⟨.hbm, 972, rfl⟩
abbrev main_call45_v1 : Ref sig .tc := ⟨.hbm, 973, rfl⟩
abbrev main_v613 : Ref sig .tc := ⟨.hbm, 974, rfl⟩
abbrev main_v614 : Ref sig .tc := ⟨.hbm, 975, rfl⟩
abbrev main_cst_90 : Ref sig .tc := ⟨.hbm, 976, rfl⟩
abbrev main_call46_v0 : Ref sig .tc := ⟨.hbm, 977, rfl⟩
abbrev main_call46_v1 : Ref sig .tc := ⟨.hbm, 978, rfl⟩
abbrev main_call46_v2 : Ref sig .tc := ⟨.hbm, 979, rfl⟩
abbrev main_v615 : Ref sig .tc := ⟨.hbm, 980, rfl⟩
abbrev main_v616 : Ref sig .tc := ⟨.hbm, 981, rfl⟩
abbrev main_v617 : Ref sig .tc := ⟨.hbm, 982, rfl⟩
abbrev main_v618 : Ref sig .tc := ⟨.hbm, 983, rfl⟩
abbrev main_v619 : Ref sig .tc := ⟨.hbm, 984, rfl⟩
abbrev main_v620 : Ref sig .tc := ⟨.hbm, 985, rfl⟩
abbrev main_v621 : Ref sig .tc := ⟨.hbm, 986, rfl⟩
abbrev main_v622 : Ref sig .tc := ⟨.hbm, 987, rfl⟩
abbrev main_v623 : Ref sig .tc := ⟨.hbm, 988, rfl⟩
abbrev main_v624 : Ref sig .tc := ⟨.hbm, 989, rfl⟩
abbrev main_v625 : Ref sig .tc := ⟨.hbm, 990, rfl⟩
abbrev main_v626 : Ref sig .tc := ⟨.hbm, 991, rfl⟩
abbrev main_v627 : Ref sig .tc := ⟨.hbm, 992, rfl⟩
abbrev main_v628 : Ref sig .tc := ⟨.hbm, 993, rfl⟩
abbrev main_cst_91 : Ref sig .tc := ⟨.hbm, 994, rfl⟩
abbrev main_v629 : Ref sig .tc := ⟨.hbm, 995, rfl⟩
abbrev main_v630 : Ref sig .tc := ⟨.hbm, 996, rfl⟩
abbrev main_v631 : Ref sig .tc := ⟨.hbm, 997, rfl⟩
abbrev main_v632 : Ref sig .tc := ⟨.hbm, 998, rfl⟩
abbrev main_v633 : Ref sig .tc := ⟨.hbm, 999, rfl⟩
abbrev main_v634 : Ref sig .tc := ⟨.hbm, 1000, rfl⟩
abbrev main_v635 : Ref sig .tc := ⟨.hbm, 1001, rfl⟩
abbrev main_v636 : Ref sig .tc := ⟨.hbm, 1002, rfl⟩
abbrev main_v637 : Ref sig .tc := ⟨.hbm, 1003, rfl⟩
abbrev main_v638 : Ref sig .tc := ⟨.hbm, 1004, rfl⟩
abbrev main_v639 : Ref sig .tc := ⟨.hbm, 1005, rfl⟩
abbrev main_v640 : Ref sig .tc := ⟨.hbm, 1006, rfl⟩
abbrev main_v641 : Ref sig .tc := ⟨.hbm, 1007, rfl⟩
abbrev main_v642 : Ref sig .tc := ⟨.hbm, 1008, rfl⟩
abbrev main_v643 : Ref sig .tc := ⟨.hbm, 1009, rfl⟩
abbrev main_v644 : Ref sig .tc := ⟨.hbm, 1010, rfl⟩
abbrev main_v645 : Ref sig .tc := ⟨.hbm, 1011, rfl⟩
abbrev main_v646 : Ref sig .tc := ⟨.hbm, 1012, rfl⟩
abbrev main_v647 : Ref sig .tc := ⟨.hbm, 1013, rfl⟩
abbrev main_v648 : Ref sig .tc := ⟨.hbm, 1014, rfl⟩
abbrev main_v649 : Ref sig .tc := ⟨.hbm, 1015, rfl⟩
abbrev main_v650 : Ref sig .tc := ⟨.hbm, 1016, rfl⟩
abbrev main_v651 : Ref sig .tc := ⟨.hbm, 1017, rfl⟩
abbrev main_v652 : Ref sig .tc := ⟨.hbm, 1018, rfl⟩
abbrev main_v653 : Ref sig .tc := ⟨.hbm, 1019, rfl⟩
abbrev main_v654 : Ref sig .tc := ⟨.hbm, 1020, rfl⟩
abbrev main_v655 : Ref sig .tc := ⟨.hbm, 1021, rfl⟩
abbrev main_v656 : Ref sig .tc := ⟨.hbm, 1022, rfl⟩
abbrev main_v657 : Ref sig .tc := ⟨.hbm, 1023, rfl⟩
abbrev main_v658 : Ref sig .tc := ⟨.hbm, 1024, rfl⟩
abbrev main_v659 : Ref sig .tc := ⟨.hbm, 1025, rfl⟩
abbrev main_v660 : Ref sig .tc := ⟨.hbm, 1026, rfl⟩
abbrev main_v661 : Ref sig .tc := ⟨.hbm, 1027, rfl⟩
abbrev main_cst_92 : Ref sig .tc := ⟨.hbm, 1028, rfl⟩
abbrev main_v662 : Ref sig .tc := ⟨.hbm, 1029, rfl⟩
abbrev main_v663 : Ref sig .tc := ⟨.hbm, 1030, rfl⟩
abbrev main_v664 : Ref sig .tc := ⟨.hbm, 1031, rfl⟩
abbrev main_cst_93 : Ref sig .tc := ⟨.hbm, 1032, rfl⟩
abbrev main_call47_v0 : Ref sig .tc := ⟨.hbm, 1033, rfl⟩
abbrev main_call47_v1 : Ref sig .tc := ⟨.hbm, 1034, rfl⟩
abbrev main_v665 : Ref sig .tc := ⟨.hbm, 1035, rfl⟩
abbrev main_cst_94 : Ref sig .tc := ⟨.hbm, 1036, rfl⟩
abbrev main_v666 : Ref sig .tc := ⟨.hbm, 1037, rfl⟩
abbrev main_v667 : Ref sig .tc := ⟨.hbm, 1038, rfl⟩
abbrev main_v668 : Ref sig .tc := ⟨.hbm, 1039, rfl⟩
abbrev main_v669 : Ref sig .tc := ⟨.hbm, 1040, rfl⟩
abbrev main_v670 : Ref sig .tc := ⟨.hbm, 1041, rfl⟩
abbrev main_cst_95 : Ref sig .tc := ⟨.hbm, 1042, rfl⟩
abbrev main_call48_v0 : Ref sig .tc := ⟨.hbm, 1043, rfl⟩
abbrev main_call48_v1 : Ref sig .tc := ⟨.hbm, 1044, rfl⟩
abbrev main_v671 : Ref sig .tc := ⟨.hbm, 1045, rfl⟩
abbrev main_v672 : Ref sig .tc := ⟨.hbm, 1046, rfl⟩
abbrev main_v673 : Ref sig .tc := ⟨.hbm, 1047, rfl⟩
abbrev main_v674 : Ref sig .tc := ⟨.hbm, 1048, rfl⟩
abbrev main_v675 : Ref sig .tc := ⟨.hbm, 1049, rfl⟩
abbrev main_v676 : Ref sig .tc := ⟨.hbm, 1050, rfl⟩
abbrev main_v677 : Ref sig .tc := ⟨.hbm, 1051, rfl⟩
abbrev main_v678 : Ref sig .tc := ⟨.hbm, 1052, rfl⟩
abbrev main_v679 : Ref sig .tc := ⟨.hbm, 1053, rfl⟩
abbrev main_v680 : Ref sig .tc := ⟨.hbm, 1054, rfl⟩
abbrev main_v681 : Ref sig .tc := ⟨.hbm, 1055, rfl⟩
abbrev main_v682 : Ref sig .tc := ⟨.hbm, 1056, rfl⟩
abbrev main_v683 : Ref sig .tc := ⟨.hbm, 1057, rfl⟩
abbrev main_v684 : Ref sig .tc := ⟨.hbm, 1058, rfl⟩
abbrev main_v685 : Ref sig .tc := ⟨.hbm, 1059, rfl⟩
abbrev main_v686 : Ref sig .tc := ⟨.hbm, 1060, rfl⟩
abbrev main_v687 : Ref sig .tc := ⟨.hbm, 1061, rfl⟩
abbrev main_v688 : Ref sig .tc := ⟨.hbm, 1062, rfl⟩
abbrev main_v689 : Ref sig .tc := ⟨.hbm, 1063, rfl⟩
abbrev main_v690 : Ref sig .tc := ⟨.hbm, 1064, rfl⟩
abbrev main_v691 : Ref sig .tc := ⟨.hbm, 1065, rfl⟩
abbrev main_v692 : Ref sig .tc := ⟨.hbm, 1066, rfl⟩
abbrev main_v693 : Ref sig .tc := ⟨.hbm, 1067, rfl⟩
abbrev main_v694 : Ref sig .tc := ⟨.hbm, 1068, rfl⟩
abbrev main_v695 : Ref sig .tc := ⟨.hbm, 1069, rfl⟩
abbrev main_v696 : Ref sig .tc := ⟨.hbm, 1070, rfl⟩
abbrev main_v697 : Ref sig .tc := ⟨.hbm, 1071, rfl⟩
abbrev main_values : Ref sig .tc := ⟨.hbm, 1072, rfl⟩
abbrev main_indices : Ref sig .tc := ⟨.hbm, 1073, rfl⟩
abbrev main_v698 : Ref sig .tc := ⟨.hbm, 1074, rfl⟩
abbrev main_call49_c : Ref sig .tc := ⟨.hbm, 1075, rfl⟩
abbrev main_call49_v0 : Ref sig .tc := ⟨.hbm, 1076, rfl⟩
abbrev main_call49_v1 : Ref sig .tc := ⟨.hbm, 1077, rfl⟩
abbrev main_call49_c_0 : Ref sig .tc := ⟨.hbm, 1078, rfl⟩
abbrev main_call49_v2 : Ref sig .tc := ⟨.hbm, 1079, rfl⟩
abbrev main_call49_v3 : Ref sig .tc := ⟨.hbm, 1080, rfl⟩
abbrev main_call49_v4 : Ref sig .tc := ⟨.hbm, 1081, rfl⟩
abbrev main_call49_c_1 : Ref sig .tc := ⟨.hbm, 1082, rfl⟩
abbrev main_call49_c_2 : Ref sig .tc := ⟨.hbm, 1083, rfl⟩
abbrev main_call49_v5 : Ref sig .tc := ⟨.hbm, 1084, rfl⟩
abbrev main_call49_v6 : Ref sig .tc := ⟨.hbm, 1085, rfl⟩
abbrev main_call49_v7 : Ref sig .tc := ⟨.hbm, 1086, rfl⟩
abbrev main_call49_v8 : Ref sig .tc := ⟨.hbm, 1087, rfl⟩
abbrev main_call49_v9 : Ref sig .tc := ⟨.hbm, 1088, rfl⟩
abbrev main_call49_v10 : Ref sig .tc := ⟨.hbm, 1089, rfl⟩
abbrev main_call49_c_3 : Ref sig .tc := ⟨.hbm, 1090, rfl⟩
abbrev main_call49_v11 : Ref sig .tc := ⟨.hbm, 1091, rfl⟩
abbrev main_call49_v12 : Ref sig .tc := ⟨.hbm, 1092, rfl⟩
abbrev main_call49_v13 : Ref sig .tc := ⟨.hbm, 1093, rfl⟩
abbrev main_call49_cst : Ref sig .tc := ⟨.hbm, 1094, rfl⟩
abbrev main_call49_v14 : Ref sig .tc := ⟨.hbm, 1095, rfl⟩
abbrev main_v699 : Ref sig .tc := ⟨.hbm, 1096, rfl⟩
abbrev main_call50_c : Ref sig .tc := ⟨.hbm, 1097, rfl⟩
abbrev main_call50_v0 : Ref sig .tc := ⟨.hbm, 1098, rfl⟩
abbrev main_call50_v1 : Ref sig .tc := ⟨.hbm, 1099, rfl⟩
abbrev main_call50_c_0 : Ref sig .tc := ⟨.hbm, 1100, rfl⟩
abbrev main_call50_v2 : Ref sig .tc := ⟨.hbm, 1101, rfl⟩
abbrev main_call50_v3 : Ref sig .tc := ⟨.hbm, 1102, rfl⟩
abbrev main_call50_v4 : Ref sig .tc := ⟨.hbm, 1103, rfl⟩
abbrev main_call50_v5 : Ref sig .tc := ⟨.hbm, 1104, rfl⟩
abbrev main_call50_c_1 : Ref sig .tc := ⟨.hbm, 1105, rfl⟩
abbrev main_call50_c_2 : Ref sig .tc := ⟨.hbm, 1106, rfl⟩
abbrev main_call50_v6 : Ref sig .tc := ⟨.hbm, 1107, rfl⟩
abbrev main_call50_v7 : Ref sig .tc := ⟨.hbm, 1108, rfl⟩
abbrev main_call50_v8 : Ref sig .tc := ⟨.hbm, 1109, rfl⟩
abbrev main_call50_v9 : Ref sig .tc := ⟨.hbm, 1110, rfl⟩
abbrev main_call50_v10 : Ref sig .tc := ⟨.hbm, 1111, rfl⟩
abbrev main_call50_v11 : Ref sig .tc := ⟨.hbm, 1112, rfl⟩
abbrev main_call50_c_3 : Ref sig .tc := ⟨.hbm, 1113, rfl⟩
abbrev main_call50_v12 : Ref sig .tc := ⟨.hbm, 1114, rfl⟩
abbrev main_call50_v13 : Ref sig .tc := ⟨.hbm, 1115, rfl⟩
abbrev main_call50_c_4 : Ref sig .tc := ⟨.hbm, 1116, rfl⟩
abbrev main_call50_v14 : Ref sig .tc := ⟨.hbm, 1117, rfl⟩
abbrev main_v700 : Ref sig .tc := ⟨.hbm, 1118, rfl⟩
abbrev main_cst_96 : Ref sig .tc := ⟨.hbm, 1119, rfl⟩
abbrev main_v701 : Ref sig .tc := ⟨.hbm, 1120, rfl⟩
abbrev main_v702 : Ref sig .tc := ⟨.hbm, 1121, rfl⟩
abbrev main_v703 : Ref sig .tc := ⟨.hbm, 1122, rfl⟩
abbrev main_cst_97 : Ref sig .tc := ⟨.hbm, 1123, rfl⟩
abbrev main_call51_v0 : Ref sig .tc := ⟨.hbm, 1124, rfl⟩
abbrev main_call51_v1 : Ref sig .tc := ⟨.hbm, 1125, rfl⟩
abbrev main_call51_v2 : Ref sig .tc := ⟨.hbm, 1126, rfl⟩
abbrev main_v704 : Ref sig .tc := ⟨.hbm, 1127, rfl⟩
abbrev main_cst_98 : Ref sig .tc := ⟨.hbm, 1128, rfl⟩
abbrev main_cst_99 : Ref sig .tc := ⟨.hbm, 1129, rfl⟩
abbrev main_call52_v0 : Ref sig .tc := ⟨.hbm, 1130, rfl⟩
abbrev main_call52_v1 : Ref sig .tc := ⟨.hbm, 1131, rfl⟩
abbrev main_call52_v2 : Ref sig .tc := ⟨.hbm, 1132, rfl⟩
abbrev main_call52_v3 : Ref sig .tc := ⟨.hbm, 1133, rfl⟩
abbrev main_call52_v4 : Ref sig .tc := ⟨.hbm, 1134, rfl⟩
abbrev main_v705 : Ref sig .tc := ⟨.hbm, 1135, rfl⟩
abbrev main_cst_100 : Ref sig .tc := ⟨.hbm, 1136, rfl⟩
abbrev main_call53_v0 : Ref sig .tc := ⟨.hbm, 1137, rfl⟩
abbrev main_call53_v1 : Ref sig .tc := ⟨.hbm, 1138, rfl⟩
abbrev main_v706 : Ref sig .tc := ⟨.hbm, 1139, rfl⟩
abbrev main_c_101 : Ref sig .tc := ⟨.hbm, 1140, rfl⟩
abbrev main_call54_v0 : Ref sig .tc := ⟨.hbm, 1141, rfl⟩
abbrev main_call54_v1 : Ref sig .tc := ⟨.hbm, 1142, rfl⟩
abbrev main_v707 : Ref sig .tc := ⟨.hbm, 1143, rfl⟩
abbrev main_v708 : Ref sig .tc := ⟨.hbm, 1144, rfl⟩
abbrev main_c_102 : Ref sig .tc := ⟨.hbm, 1145, rfl⟩
abbrev main_v709 : Ref sig .tc := ⟨.hbm, 1146, rfl⟩

abbrev nD : Nat := 1
abbrev τ : Topo := Topo.v7x

variable {F : FTy → Type} [FloatOps F]
-- ==== Proof.Model.lean ====
/-
  The mathematics of greedy non-maximum suppression, over the extended reals and free of any program: the first position of the
  maximum, one round of suppression, the eight rounds, and the merge of the classes by repeated maximum.
-/
module

public import Idealize.ShloMosaic.Lib.SortFacts
public import Idealize.ShloMosaic.PureOps.Ideal

@[expose] public section

noncomputable section

namespace Cert.Nms

open Idealize.ShloMosaic

variable {n : Nat}

/-! ## The first position of the maximum -/

/-- Position `i` holds a greatest entry of `s`, and every earlier entry is smaller. -/
def IsFirstMax (s : Fin n → EReal) (i : Fin n) : Prop :=
  (∀ j, s j ≤ s i) ∧ ∀ j, j < i → s j < s i

/-- There is at most one first greatest position. -/
theorem IsFirstMax.unique {s : Fin n → EReal} {i j : Fin n} (hi : IsFirstMax s i) (hj : IsFirstMax s j) : i = j := by
  rcases lt_trichotomy i j with h | h | h
  · exact absurd (hj.2 i h) (not_lt.mpr (hi.1 j))
  · exact h
  · exact absurd (hi.2 j h) (not_lt.mpr (hj.1 i))

/-- A nonempty table has a first greatest position. -/
theorem exists_isFirstMax [NeZero n] (s : Fin n → EReal) : ∃ i, IsFirstMax s i := by
  obtain ⟨m, -, hm⟩ := Finset.exists_max_image (Finset.univ : Finset (Fin n)) s ⟨0, Finset.mem_univ _⟩
  have hne : ∃ i, s i = s m := ⟨m, rfl⟩
  obtain ⟨i, hi, hmin⟩ := WellFounded.has_min (wellFounded_lt (α := Fin n)) {i | s i = s m} hne
  refine ⟨i, fun j => ?_, fun j hj => ?_⟩
  · rw [show s i = s m from hi]; exact hm j (Finset.mem_univ _)
  · rw [show s i = s m from hi]
    exact lt_of_le_of_ne (hm j (Finset.mem_univ _)) fun h => hmin j h hj

/-- The first position of the greatest entry. -/
def amax [NeZero n] (s : Fin n → EReal) : Fin n := Classical.choose (exists_isFirstMax s)

theorem amax_spec [NeZero n] (s : Fin n → EReal) : IsFirstMax s (amax s) := Classical.choose_spec (exists_isFirstMax s)

theorem eq_amax [NeZero n] {s : Fin n → EReal} {i : Fin n} (h : IsFirstMax s i) : i = amax s := h.unique (amax_spec s)

/-- The greatest entry, as a running maximum from below everything, is the entry at that position. -/
theorem fold_max_eq [NeZero n] (s : Fin n → EReal) : Finset.univ.fold max ⊥ s = s (amax s) := by
  apply le_antisymm
  · exact (Finset.fold_max_le _).mpr ⟨bot_le, fun j _ => (amax_spec s).1 j⟩
  · exact (Finset.le_fold_max _).mpr (Or.inr ⟨amax s, Finset.mem_univ _, le_rfl⟩)

/-! ## One round of suppression -/

/-- The score of a round: the greatest entry where it is positive, zero otherwise. -/
def sel [NeZero n] (s : Fin n → EReal) : EReal := if 0 < s (amax s) then s (amax s) else 0

/-- A round under the relation `R`: where the greatest entry is positive, every entry that it suppresses becomes `-1`. -/
def nextS [NeZero n] (R : Fin n → Fin n → Prop) (s : Fin n → EReal) : Fin n → EReal :=
  open Classical in fun j => if R (amax s) j ∧ 0 < s (amax s) then -1 else s j

/-- The scores after `r` rounds. -/
def rounds [NeZero n] (R : Fin n → Fin n → Prop) (s : Fin n → EReal) : Nat → Fin n → EReal
  | 0 => s
  | r + 1 => nextS R (rounds R s r)

/-- The canonical corners of a family of boxes. -/
structure Boxes (n : Nat) where
  y1 : Fin n → EReal
  x1 : Fin n → EReal
  y2 : Fin n → EReal
  x2 : Fin n → EReal

/-- The boxes of a table of four coordinates: the lower corner by minima, the upper one by maxima. -/
def canon (b : Fin n → Fin 4 → EReal) : Boxes n where
  y1 := fun j => min (b j 0) (b j 2)
  x1 := fun j => min (b j 1) (b j 3)
  y2 := fun j => max (b j 0) (b j 2)
  x2 := fun j => max (b j 1) (b j 3)

/-- A box's area. -/
def Boxes.area (B : Boxes n) (j : Fin n) : EReal := (B.y2 j - B.y1 j) * (B.x2 j - B.x1 j)

/-- The overlap along the first axis, cut at zero. -/
def Boxes.dy (B : Boxes n) (i j : Fin n) : EReal := max (min (B.y2 j) (B.y2 i) - max (B.y1 j) (B.y1 i)) 0

/-- The overlap along the second axis, of either sign. -/
def Boxes.dx (B : Boxes n) (i j : Fin n) : EReal := min (B.x2 j) (B.x2 i) - max (B.x1 j) (B.x1 i)

/-- The kernel's test that box `i` suppresses box `j`: three times the overlap exceeds the two areas. -/
def Boxes.supK (B : Boxes n) (i j : Fin n) : Prop := B.area j + B.area i < B.dy i j * B.dx i j * ((3 : ℝ) : EReal)

/-- The reference's overlap area. -/
def Boxes.inter (B : Boxes n) (i j : Fin n) : EReal := B.dy i j * max (B.dx i j) 0

/-- The reference's union area. -/
def Boxes.union (B : Boxes n) (i j : Fin n) : EReal := B.area i + B.area j - B.inter i j

/-- The reference's test that box `i` suppresses box `j`: the guarded quotient exceeds one half. -/
def Boxes.supR (B : Boxes n) (i j : Fin n) : Prop :=
  (((1 / 2 : ℝ)) : EReal) < if 0 < B.union i j then Ideal.div (B.inter i j) (B.union i j) else 0

/-- On finite boxes the two tests agree. -/
theorem supK_iff_supR (b : Fin n → Fin 4 → EReal) (hb : ∀ j k, b j k ≠ ⊤ ∧ b j k ≠ ⊥) (i j : Fin n) :
    (canon b).supK i j ↔ (canon b).supR i j := by
  have hlift : ∃ c : Fin n → Fin 4 → ℝ, b = fun j k => ((c j k : ℝ) : EReal) :=
    ⟨fun j k => (b j k).toReal, by funext j k; exact (EReal.coe_toReal (hb j k).1 (hb j k).2).symm⟩
  obtain ⟨c, rfl⟩ := hlift
  have key : ∀ (a1 b1 c1 d1 a2 b2 c2 d2 : ℝ), a1 ≤ c1 → b1 ≤ d1 → a2 ≤ c2 → b2 ≤ d2 →
      ((c2 - a2) * (d2 - b2) + (c1 - a1) * (d1 - b1) < max (min c2 c1 - max a2 a1) 0 * (min d2 d1 - max b2 b1) * 3 ↔
        1 / 2 < if 0 < (c1 - a1) * (d1 - b1) + (c2 - a2) * (d2 - b2)
            - max (min c2 c1 - max a2 a1) 0 * max (min d2 d1 - max b2 b1) 0
          then max (min c2 c1 - max a2 a1) 0 * max (min d2 d1 - max b2 b1) 0
            * ((c1 - a1) * (d1 - b1) + (c2 - a2) * (d2 - b2)
              - max (min c2 c1 - max a2 a1) 0 * max (min d2 d1 - max b2 b1) 0)⁻¹ else 0) := by
    intro a1 b1 c1 d1 a2 b2 c2 d2 h1 h2 h3 h4
    have hA1 : 0 ≤ (c1 - a1) * (d1 - b1) := mul_nonneg (by linarith) (by linarith)
    have hA2 : 0 ≤ (c2 - a2) * (d2 - b2) := mul_nonneg (by linarith) (by linarith)
    have hw0 : 0 ≤ max (min c2 c1 - max a2 a1) 0 := le_max_right _ _
    have hw1 : max (min c2 c1 - max a2 a1) 0 ≤ c1 - a1 := by
      apply max_le _ (by linarith)
      have := min_le_right c2 c1; have := le_max_right a2 a1; linarith
    have hw2 : max (min c2 c1 - max a2 a1) 0 ≤ c2 - a2 := by
      apply max_le _ (by linarith)
      have := min_le_left c2 c1; have := le_max_left a2 a1; linarith
    have hv1 : max (min d2 d1 - max b2 b1) 0 ≤ d1 - b1 := by
      apply max_le _ (by linarith)
      have := min_le_right d2 d1; have := le_max_right b2 b1; linarith
    have hv2 : max (min d2 d1 - max b2 b1) 0 ≤ d2 - b2 := by
      apply max_le _ (by linarith)
      have := min_le_left d2 d1; have := le_max_left b2 b1; linarith
    have hv0 : 0 ≤ max (min d2 d1 - max b2 b1) 0 := le_max_right _ _
    generalize hw : max (min c2 c1 - max a2 a1) 0 = w at *
    generalize hA : (c1 - a1) * (d1 - b1) = A at *
    generalize hC : (c2 - a2) * (d2 - b2) = C at *
    have hI1 : w * max (min d2 d1 - max b2 b1) 0 ≤ A := by
      rw [← hA]; exact mul_le_mul hw1 hv1 hv0 (by linarith)
    have hI2 : w * max (min d2 d1 - max b2 b1) 0 ≤ C := by
      rw [← hC]; exact mul_le_mul hw2 hv2 hv0 (by linarith)
    generalize min d2 d1 - max b2 b1 = v at *
    have hI0 : 0 ≤ w * max v 0 := mul_nonneg hw0 hv0
    have hleft : C + A < w * v * 3 ↔ C + A < w * max v 0 * 3 := by
      rcases le_total 0 v with hv | hv
      · rw [max_eq_left hv]
      · rw [max_eq_right hv]
        have : w * v ≤ 0 := mul_nonpos_of_nonneg_of_nonpos hw0 hv
        constructor <;> intro h <;> nlinarith
    rw [hleft]
    generalize w * max v 0 = I at *
    split_ifs with hu
    · rw [← div_eq_mul_inv, lt_div_iff₀ hu]
      constructor <;> intro h <;> linarith
    · constructor
      · intro h; linarith
      · intro h; linarith
  have k := key (min (c i 0) (c i 2)) (min (c i 1) (c i 3)) (max (c i 0) (c i 2)) (max (c i 1) (c i 3))
    (min (c j 0) (c j 2)) (min (c j 1) (c j 3)) (max (c j 0) (c j 2)) (max (c j 1) (c j 3)) min_le_max min_le_max min_le_max min_le_max
  have hmin : ∀ x y : ℝ, min (x : EReal) y = ((min x y : ℝ) : EReal) := fun x y => (EReal.coe_strictMono.monotone.map_min).symm
  have hmax : ∀ x y : ℝ, max (x : EReal) y = ((max x y : ℝ) : EReal) := fun x y => (EReal.coe_strictMono.monotone.map_max).symm
  have hmax0 : ∀ x : ℝ, max (x : EReal) 0 = ((max x 0 : ℝ) : EReal) := fun x => hmax x 0
  unfold Boxes.supK Boxes.supR Boxes.union Boxes.inter Boxes.dy Boxes.dx Boxes.area canon
  simp only [hmin, hmax, hmax0, ← EReal.coe_sub, ← EReal.coe_mul, ← EReal.coe_add, EReal.coe_lt_coe_iff]
  rw [k]
  have h0 : ∀ x : ℝ, (0 : EReal) < (x : EReal) ↔ 0 < x := fun x => EReal.coe_pos
  simp only [h0]
  split_ifs with hu
  · unfold Ideal.div
    rw [if_neg (by rw [← EReal.coe_zero, EReal.coe_eq_coe_iff]; exact ne_of_gt hu), ← EReal.coe_inv, ← EReal.coe_mul,
      EReal.coe_lt_coe_iff]
  · rw [← EReal.coe_zero, EReal.coe_lt_coe_iff]

/-- A round's table depends on the suppression relation only. -/
theorem rounds_congr [NeZero n] {R R' : Fin n → Fin n → Prop} (h : ∀ i j, R i j ↔ R' i j) (s : Fin n → EReal) (r : Nat) :
    rounds R s r = rounds R' s r := by
  have : R = R' := by funext i j; exact propext (h i j)
  rw [this]

/-- The scores above one half; `-1` elsewhere. -/
def filt (s : Fin n → EReal) : Fin n → EReal := fun j => if ((1 / 2 : ℝ) : EReal) < s j then s j else -1

/-- A selected score is never negative. -/
theorem sel_nonneg [NeZero n] (s : Fin n → EReal) : 0 ≤ sel s := by
  unfold sel
  split_ifs with h
  · exact le_of_lt h
  · exact le_rfl

/-! ## The merge of the classes -/

/-- A round of the merge: the selected entry becomes `-1`. -/
def mergeNext [NeZero n] (t : Fin n → EReal) : Fin n → EReal := fun k => if k = amax t then -1 else t k

/-- The table after `r` rounds of the merge. -/
def mergeRounds [NeZero n] (t : Fin n → EReal) : Nat → Fin n → EReal
  | 0 => t
  | r + 1 => mergeNext (mergeRounds t r)

/-- The positions of a table in the order of a stable descending sort. -/
def topPos (t : Fin n → EReal) : Fin n → Fin n := sortedFrom fun k k' => decide (t k' < t k)

/-- Entry `a` precedes entry `b` in a stable descending sort: it is greater, or equal and of smaller index. -/
def Precedes (t : Fin n → EReal) (a b : Fin n) : Prop := t b < t a ∨ (t b = t a ∧ a < b)

theorem Precedes.trans {t : Fin n → EReal} {a b c : Fin n} (h : Precedes t a b) (h' : Precedes t b c) : Precedes t a c := by
  rcases h with h | h <;> rcases h' with h' | h'
  · exact Or.inl (h'.trans h)
  · exact Or.inl (h'.1 ▸ h)
  · exact Or.inl (h.1 ▸ h')
  · exact Or.inr ⟨h'.1.trans h.1, h.2.trans h'.2⟩

/-- Inserting an entry of smaller index into an ordered list keeps it ordered. -/
theorem pairwise_insert (t : Fin n → EReal) (a : Fin n) (l : List (Fin n)) (hl : l.Pairwise (Precedes t)) (ha : ∀ b ∈ l, a < b) :
    (insertBefore (fun k k' => decide (t k' < t k)) a l).Pairwise (Precedes t) := by
  induction l with
  | nil => exact List.pairwise_singleton _ _
  | cons b l ih =>
    rw [List.pairwise_cons] at hl
    unfold insertBefore
    split
    · rename_i hb
      rw [decide_eq_true_eq] at hb
      rw [List.pairwise_cons]
      refine ⟨fun c hc => ?_, ih hl.2 fun c hc => ha c (List.mem_cons_of_mem b hc)⟩
      rcases List.mem_cons.mp ((perm_insertBefore _ a l).mem_iff.mp hc) with rfl | hc
      · exact Or.inl hb
      · exact hl.1 c hc
    · rename_i hb
      rw [decide_eq_true_eq, not_lt] at hb
      have hab : Precedes t a b := by
        rcases lt_or_eq_of_le hb with h | h
        · exact Or.inl h
        · exact Or.inr ⟨h, ha b List.mem_cons_self⟩
      rw [List.pairwise_cons]
      refine ⟨fun c hc => ?_, List.pairwise_cons.mpr hl⟩
      rcases List.mem_cons.mp hc with rfl | hc
      · exact hab
      · exact hab.trans (hl.1 c hc)

/-- The stable sort of a list of increasing positions is ordered. -/
theorem pairwise_sort (t : Fin n → EReal) (l : List (Fin n)) (hl : l.Pairwise (· < ·)) :
    (stableSort (fun k k' => decide (t k' < t k)) l).Pairwise (Precedes t) := by
  induction l with
  | nil => exact List.Pairwise.nil
  | cons a l ih =>
    rw [List.pairwise_cons] at hl
    unfold stableSort
    exact pairwise_insert t a _ (ih hl.2) fun b hb => hl.1 b ((perm_stableSort _ l).mem_iff.mp hb)

/-- The stable descending sort puts a pair in order: the earlier place holds the greater entry, or an equal one of smaller index. -/
theorem topPos_order (t : Fin n → EReal) (i j : Fin n) (hij : i < j) : Precedes t (topPos t i) (topPos t j) := by
  have hp : ∀ a b : Fin (sortPositions n fun k k' => decide (t k' < t k)).length, a < b →
      Precedes t ((sortPositions n fun k k' => decide (t k' < t k)).get a) ((sortPositions n fun k k' => decide (t k' < t k)).get b) :=
    List.pairwise_iff_get.mp (pairwise_sort t (List.finRange n) (List.pairwise_lt_finRange n))
  unfold topPos sortedFrom
  exact hp _ _ (by simp only [Fin.lt_def, Fin.val_cast]; exact hij)

/-- The rounds of the merge pick the entries of the stable descending sort, one after the other. -/
theorem merge_eq_topPos [NeZero n] (t : Fin n → EReal) (ht : ∀ k, 0 ≤ t k) (r : Nat) (hr : r < n) :
    amax (mergeRounds t r) = topPos t ⟨r, hr⟩ ∧ mergeRounds t r (topPos t ⟨r, hr⟩) = t (topPos t ⟨r, hr⟩) := by
  have hinj : Function.Injective (topPos t) := sortedFrom_injective _
  have hsurj : Function.Surjective (topPos t) := sortedFrom_surjective _
  -- after `r` rounds the first `r` sorted places hold `-1`, the others are as they were
  have main : ∀ r, r ≤ n → ∀ q : Fin n, mergeRounds t r (topPos t q) = if q.val < r then -1 else t (topPos t q) := by
    intro r
    induction r with
    | zero => intro _ q; simp [mergeRounds]
    | succ r ih =>
      intro hr q
      have ih' := ih (by omega)
      have ham : topPos t ⟨r, hr⟩ = amax (mergeRounds t r) := by
        apply eq_amax
        have hval : mergeRounds t r (topPos t ⟨r, hr⟩) = t (topPos t ⟨r, hr⟩) := by rw [ih']; simp
        have hneg : (-1 : EReal) < t (topPos t ⟨r, hr⟩) :=
          lt_of_lt_of_le (by rw [← EReal.coe_one, ← EReal.coe_neg, ← EReal.coe_zero, EReal.coe_lt_coe_iff]; norm_num) (ht _)
        refine ⟨fun j => ?_, fun j hj => ?_⟩
        · obtain ⟨q, rfl⟩ := hsurj j
          rw [hval, ih']
          split_ifs with hq
          · exact le_of_lt hneg
          · rcases Nat.lt_or_ge r q.val with h | h
            · rcases topPos_order t ⟨r, hr⟩ q h with h | h
              · exact le_of_lt h
              · exact le_of_eq h.1
            · have : q = ⟨r, hr⟩ := Fin.ext (by simp only; omega)
              rw [this]
        · obtain ⟨q, rfl⟩ := hsurj j
          rw [hval, ih']
          split_ifs with hq
          · exact hneg
          · rcases Nat.lt_or_ge r q.val with h | h
            · rcases topPos_order t ⟨r, hr⟩ q h with h | h
              · exact h
              · exact absurd h.2 (lt_asymm hj)
            · have : q = ⟨r, hr⟩ := Fin.ext (by simp only; omega)
              rw [this] at hj; exact absurd hj (lt_irrefl _)
      show mergeNext (mergeRounds t r) (topPos t q) = _
      unfold mergeNext
      rw [← ham]
      by_cases hq : q = ⟨r, hr⟩
      · rw [if_pos (by rw [hq]), if_pos (by rw [hq]; exact Nat.lt_succ_self r)]
      · rw [if_neg (fun h => hq (hinj h)), ih']
        have : q.val ≠ r := fun h => hq (Fin.ext h)
        by_cases h2 : q.val < r
        · rw [if_pos h2, if_pos (by omega)]
        · rw [if_neg h2, if_neg (by omega)]
  have h1 := main (r + 1) hr ⟨r, hr⟩
  have h0 := main r (le_of_lt hr) ⟨r, hr⟩
  rw [if_pos (Nat.lt_succ_self r)] at h1
  rw [if_neg (lt_irrefl r)] at h0
  refine ⟨?_, h0⟩
  by_contra hne
  have : mergeNext (mergeRounds t r) (topPos t ⟨r, hr⟩) = -1 := h1
  unfold mergeNext at this
  rw [if_neg (fun h => hne h.symm), h0] at this
  have hp := ht (topPos t ⟨r, hr⟩)
  rw [this] at hp
  exact absurd hp (not_le.mpr (by rw [← EReal.coe_one, ← EReal.coe_neg, ← EReal.coe_zero, EReal.coe_lt_coe_iff]; norm_num))

end Cert.Nms
-- ==== Proof.Scalars.lean ====
/-
  Facts about single words and numbers that both programs' values meet: the constants, the least index under a condition, the
  sum under a mask that holds at one position.
-/
module

public import Idealize.ShloMosaic.Lib.Pointwise
public import proofs.«01_k».proof.Proof.Model

@[expose] public section

noncomputable section

namespace Cert.Nms

open Idealize.ShloMosaic

/-! ## The constants -/

theorem lit_bot : Ideal.ofBits .f32 0xFF800000#32 = ⊥ := by simp [Ideal.ofBits, Ideal.ieee]
theorem lit_top : Ideal.ofBits .f32 0x7F800000#32 = ⊤ := by simp [Ideal.ofBits, Ideal.ieee]
theorem lit_half : Ideal.ofBits .f32 0x3F000000#32 = ((1 / 2 : ℝ) : EReal) := by
  have h : (8388608 : ℝ) * (2 ^ 24)⁻¹ = 1 / 2 := by norm_num
  simp only [Ideal.ofBits, Ideal.ieee]
  rw [← h]
  simp
theorem lit_neg_one : Ideal.ofBits .f32 0xBF800000#32 = (-1 : EReal) := by
  have h : -((8388608 : ℝ) * (2 ^ 23)⁻¹) = -1 := by norm_num
  have : Ideal.ofBits .f32 0xBF800000#32 = ((-1 : ℝ) : EReal) := by
    rw [← h]
    simp [Ideal.ofBits, Ideal.ieee]
  rw [this, EReal.coe_neg, EReal.coe_one]
theorem lit_three : Ideal.ofBits .f32 0x40400000#32 = ((3 : ℝ) : EReal) := by
  have h : (12582912 : ℝ) * (2 ^ 22)⁻¹ = 3 := by norm_num
  rw [← h]
  simp [Ideal.ofBits, Ideal.ieee]

/-! ## The least index under a condition -/

/-- The signed minimum of words, as integers. -/
theorem toInt_minsi (a b : BitVec 32) : (IntOp.minsi a b).toInt = min a.toInt b.toInt := by
  unfold IntOp.minsi
  rw [BitVec.slt_eq_decide]
  simp only [decide_eq_true_eq]
  split_ifs with h
  · rw [min_eq_left (le_of_lt h)]
  · rw [min_eq_right (not_lt.mp h)]

theorem toInt_ofNat_small (k : Nat) (h : k < 2 ^ 31) : (BitVec.ofNat 32 k).toInt = (k : Int) := by
  rw [BitVec.toInt_eq_toNat_of_lt] <;> rw [BitVec.toNat_ofNat, Nat.mod_eq_of_lt (by omega)]
  omega

/-- The minimum over all positions of the key where the condition holds, and of a word above every key elsewhere, is the least such
    key. -/
theorem fold_minsi {ι : Type} [Fintype ι] (p : ι → Prop) [DecidablePred p] (key : ι → Nat) (K : Nat) (hK : K < 2 ^ 31)
    (hkey : ∀ x, key x ≤ K) (i : ι) (hp : p i) (hmin : ∀ x, p x → key i ≤ key x) :
    Finset.univ.fold IntOp.minsi 2147483647#32 (fun x => if p x then BitVec.ofNat 32 (key x) else BitVec.ofNat 32 K)
      = BitVec.ofNat 32 (key i) := by
  have hk : ∀ x, key x < 2 ^ 31 := fun x => lt_of_le_of_lt (hkey x) hK
  apply BitVec.eq_of_toInt_eq
  rw [← Finset.fold_hom (op' := min) (m := BitVec.toInt) toInt_minsi, toInt_ofNat_small _ (hk i)]
  have hval : ∀ x, (if p x then BitVec.ofNat 32 (key x) else BitVec.ofNat 32 K).toInt = if p x then (key x : Int) else K := by
    intro x
    split_ifs
    · exact toInt_ofNat_small _ (hk x)
    · exact toInt_ofNat_small _ hK
  apply le_antisymm
  · exact (Finset.fold_min_le _).mpr (Or.inr ⟨i, Finset.mem_univ _, by rw [hval, if_pos hp]⟩)
  · refine (Finset.le_fold_min _).mpr ⟨?_, fun x _ => ?_⟩
    · have : (2147483647#32 : BitVec 32).toInt = 2147483647 := by decide
      rw [this]
      have := hk i
      omega
    · rw [hval]
      split_ifs with h
      · exact_mod_cast hmin x h
      · exact_mod_cast hkey i

/-- A word equality of two small numbers, as a mask. -/
theorem cmpi_eq_ofNat (a b : Nat) (ha : a < 2 ^ 32) (hb : b < 2 ^ 32) :
    IntOp.cmpi .eq (BitVec.ofNat 32 a) (BitVec.ofNat 32 b) = BitVec.ofBool (decide (a = b)) := by
  have h : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · intro h; rw [h]
  show BitVec.ofBool (BitVec.ofNat 32 a == BitVec.ofNat 32 b) = _
  by_cases e : a = b
  · subst e; simp
  · have : ¬ (BitVec.ofNat 32 a = BitVec.ofNat 32 b) := fun h' => e (h.mp h')
    rw [beq_eq_false_iff_ne.mpr this, decide_eq_false e]

/-- A choice on a mask that is a proposition's truth value. -/
theorem select_ofBool {α : Type} (p : Prop) [Decidable p] (a b : α) :
    Scalar.select (BitVec.ofBool (decide p)) a b = if p then a else b := by
  by_cases h : p <;> simp [h, Scalar.select]

/-- The sum of a table under the mask of one position is its entry there. -/
theorem sum_hot {ι : Type} [Fintype ι] [DecidableEq ι] (f : ι → EReal) (i : ι) :
    (∑ x, if x = i then f x else 0) = f i := by
  rw [Finset.sum_ite_eq' Finset.univ i f, if_pos (Finset.mem_univ i)]

/-- A choice on the conjunction of two decided conditions. -/
theorem select_and {p q : Prop} {ip : Decidable p} {iq : Decidable q} {ipq : Decidable (p ∧ q)} (a b : EReal) :
    Scalar.select (IntOp.andi (BitVec.ofBool (decide p)) (BitVec.ofBool (decide q))) a b
      = @ite _ (p ∧ q) ipq a b := by
  by_cases hp : p <;> by_cases hq : q <;> simp [hp, hq, Scalar.select, IntOp.andi]

end Cert.Nms
-- ==== Proof.NmsRound.lean ====
/-
  One round of the kernel's per-class suppression as vector operations, read at an index.
-/
module

public import Idealize.ShloMosaic.Lib.Pointwise
public import proofs.«01_k».proof.Proof.Scalars
public import proofs.«01_k».proof.Proof.Gen.KernelIdeal.Skeleton

@[expose] public section

set_option maxRecDepth 16384

noncomputable section

namespace Cert.KernelIdeal.Nms

open Idealize.ShloMosaic Idealize.ShloMosaic.TcCoe Idealize.SL.Sem
open Cert.KernelIdeal Cert.KernelIdeal.Gen Cert.Nms

/-! ## The vector operations of a round -/

/-- The greatest score of each class. -/
def vbest (s : FVec Ideal S40x20000 .f32) : FVec Ideal S40x1 .f32 :=
  shapeCast S40x1 (multiReduction .maximumf [1] S40 s 0xFF800000#32 reduces_S40x20000_S40 (.inl rfl) rfl) shapeCasts_S40_S40x1

/-- The first position of that score. -/
def vidx (s : FVec Ideal S40x20000 .f32) (b : FVec Ideal S40x1 .f32) : IVec S40x1 32 :=
  shapeCast S40x1 (multiReductionI .minsi [1] S40
    (select (cmpf .oeq s (broadcastTo S40x20000 b broadcasts_S40x1_S40x20000)) (iota .tc S40x20000 32 [1] iota_S40x20000_d1_w32)
      (broadcast S40x20000 20000#32)) 2147483647#32 reduces_S40x20000_S40 rfl) shapeCasts_S40_S40x1

/-- The mask of that position. -/
def vhot (s : FVec Ideal S40x20000 .f32) : IVec S40x20000 1 :=
  cmpi .eq (iota .tc S40x20000 32 [1] iota_S40x20000_d1_w32) (broadcastTo S40x20000 (vidx s (vbest s)) broadcasts_S40x1_S40x20000)

/-- A coordinate of the selected box of each class: the sum under the mask. -/
def vcoord (y : FVec Ideal S1x20000 .f32) (h : IVec S40x20000 1) : FVec Ideal S40x1 .f32 :=
  shapeCast S40x1 (multiReduction .add [1] S40
    (select h (broadcastTo S40x20000 (shapeCast S1x20000 y shapeCasts_S1x20000_S1x20000) broadcasts_S1x20000_S40x20000)
      (broadcast S40x20000 (Scalar.ofBits (F := Ideal) .f32 0x00000000#32))) 0x00000000#32 reduces_S40x20000_S40 (.inl rfl) rfl) shapeCasts_S40_S40x1

/-- The scores after the round. -/
def vnext (y1 x1 y2 x2 ar : FVec Ideal S1x20000 .f32) (s : FVec Ideal S40x20000 .f32) : FVec Ideal S40x20000 .f32 :=
  select
    (andi
      (cmpf .ogt
        (mulf
          (mulf
            (maximumf
              (subf
                (minimumf (broadcastTo S40x20000 y2 broadcasts_S1x20000_S40x20000)
                  (broadcastTo S40x20000 (vcoord y2 (vhot s)) broadcasts_S40x1_S40x20000))
                (maximumf (broadcastTo S40x20000 y1 broadcasts_S1x20000_S40x20000)
                  (broadcastTo S40x20000 (vcoord y1 (vhot s)) broadcasts_S40x1_S40x20000)))
              (broadcast S40x20000 (Scalar.ofBits (F := Ideal) .f32 0x00000000#32)))
            (subf
              (minimumf (broadcastTo S40x20000 x2 broadcasts_S1x20000_S40x20000)
                (broadcastTo S40x20000 (vcoord x2 (vhot s)) broadcasts_S40x1_S40x20000))
              (maximumf (broadcastTo S40x20000 x1 broadcasts_S1x20000_S40x20000)
                (broadcastTo S40x20000 (vcoord x1 (vhot s)) broadcasts_S40x1_S40x20000))))
          (broadcast S40x20000 (Scalar.ofBits (F := Ideal) .f32 0x40400000#32)))
        (addf (broadcastTo S40x20000 ar broadcasts_S1x20000_S40x20000)
          (broadcastTo S40x20000
            (mulf (subf (vcoord y2 (vhot s)) (vcoord y1 (vhot s))) (subf (vcoord x2 (vhot s)) (vcoord x1 (vhot s))))
            broadcasts_S40x1_S40x20000)))
      (broadcastTo S40x20000 (cmpf .ogt (vbest s) (broadcast S40x1 (Scalar.ofBits (F := Ideal) .f32 0x00000000#32)))
        broadcasts_S40x1_S40x20000))
    (broadcast S40x20000 (Scalar.ofBits (F := Ideal) .f32 0xBF800000#32)) s

/-- The masked score of the round. -/
def vscore (b : FVec Ideal S40x1 .f32) : FVec Ideal S40x1 .f32 :=
  select (cmpf .ogt b (broadcast S40x1 (Scalar.ofBits (F := Ideal) .f32 0x00000000#32))) b
    (broadcast S40x1 (Scalar.ofBits (F := Ideal) .f32 0x00000000#32))

/-! ## Their values at an index -/

/-- The greatest score of a class is the one at its first greatest position. -/
theorem vbest_at (s : FVec Ideal S40x20000 .f32) (r : Fin 40) (z : Fin 1) :
    vbest s (ix2 r z) = s (ix2 r (amax fun k => s (ix2 r k))) := by
  pointwise [vbest]
  rw [lit_bot]
  exact fold_max_eq fun k => s (ix2 r k)

/-- The index of the first greatest position, as a word. -/
theorem vidx_at (s : FVec Ideal S40x20000 .f32) (r : Fin 40) (z : Fin 1) :
    vidx s (vbest s) (ix2 r z) = BitVec.ofNat 32 (amax fun k => s (ix2 r k)).val := by
  pointwise [vidx]
  simp only [vbest_at]
  have hs := amax_spec fun k => s (ix2 r k)
  refine fold_minsi (ι := Fin 20000) (fun x => s (ix2 r x) = s (ix2 r (amax fun k => s (ix2 r k)))) (fun x => x.val) 20000
    (by norm_num) (fun x => le_of_lt x.isLt) _ rfl fun x hx => ?_
  by_contra h
  exact absurd hx (ne_of_lt (hs.2 x (not_le.mp h)))

/-- The mask holds at the first greatest position only. -/
theorem vhot_at (s : FVec Ideal S40x20000 .f32) (r : Fin 40) (j : Fin 20000) :
    vhot s (ix2 r j) = BitVec.ofBool (decide (j = amax fun k => s (ix2 r k))) := by
  pointwise [vhot]
  rw [vidx_at, cmpi_eq_ofNat _ _ (by omega) (by omega)]
  simp only [Fin.ext_iff]

/-- The sum under the mask of one position is the coordinate there. -/
theorem vcoord_at (y : FVec Ideal S1x20000 .f32) (s : FVec Ideal S40x20000 .f32) (r : Fin 40) (z : Fin 1) :
    vcoord y (vhot s) (ix2 r z) = y (ix2 0 (amax fun k => s (ix2 r k))) := by
  pointwise [vcoord, vhot_at, select_ofBool]
  exact sum_hot (fun x : Fin 20000 => y (ix2 0 x)) _

/-- The boxes of four rows of coordinates. -/
def rowBoxes (y1 x1 y2 x2 : FVec Ideal S1x20000 .f32) : Boxes 20000 where
  y1 := fun k => y1 (ix2 0 k)
  x1 := fun k => x1 (ix2 0 k)
  y2 := fun k => y2 (ix2 0 k)
  x2 := fun k => x2 (ix2 0 k)

/-- The scores after the round, class by class, are those of the mathematical round. -/
theorem vnext_at (y1 x1 y2 x2 ar : FVec Ideal S1x20000 .f32) (s : FVec Ideal S40x20000 .f32)
    (har : ∀ k, ar (ix2 0 k) = (rowBoxes y1 x1 y2 x2).area k) (r : Fin 40) (j : Fin 20000) :
    vnext y1 x1 y2 x2 ar s (ix2 r j) = nextS (rowBoxes y1 x1 y2 x2).supK (fun k => s (ix2 r k)) j := by
  pointwise [vnext, vcoord_at, vbest_at, har]
  rw [lit_neg_one, lit_three]
  exact select_and _ _

/-- The masked score of the round, class by class. -/
theorem vscore_at (s : FVec Ideal S40x20000 .f32) (r : Fin 40) (z : Fin 1) :
    vscore (vbest s) (ix2 r z) = sel fun k => s (ix2 r k) := by
  pointwise [vscore, vbest_at]
  rfl

end Cert.KernelIdeal.Nms
-- ==== Proof.KernelRounds.lean ====
/-
  The kernel's rounds: its stated values are the vector operations of a round, applied one after the other.
-/
module

public import proofs.«01_k».proof.Proof.NmsRound
public import proofs.«01_k».proof.Proof.Gen.KernelIdeal.Frame

@[expose] public section

set_option maxRecDepth 16384

noncomputable section

namespace Cert.KernelIdeal.Nms

open Idealize.ShloMosaic Idealize.ShloMosaic.TcCoe Idealize.SL.Sem
open Cert.KernelIdeal Cert.KernelIdeal.Gen Cert.Nms

variable (x0 : FVec Ideal S1x4x20000 .f32) (x1 : FVec Ideal S1x40x20000 .f32)

/-- The canonical corners, the areas. -/
def ky1 : FVec Ideal S1x20000 .f32 := k0_pay95 (F := Ideal) x0 x1
/-- The canonical left sides. -/
def kx1 : FVec Ideal S1x20000 .f32 := k0_pay96 (F := Ideal) x0 x1
/-- The canonical lower sides. -/
def ky2 : FVec Ideal S1x20000 .f32 := k0_pay97 (F := Ideal) x0 x1
/-- The canonical right sides. -/
def kx2 : FVec Ideal S1x20000 .f32 := k0_pay98 (F := Ideal) x0 x1
/-- The areas. -/
def kar : FVec Ideal S1x20000 .f32 := k0_pay99 (F := Ideal) x0 x1

/-- The scores after `r` rounds. -/
def kS : Nat → FVec Ideal S40x20000 .f32
  | 0 => k0_pay100 (F := Ideal) x0 x1
  | r + 1 => vnext (ky1 x0 x1) (kx1 x0 x1) (ky2 x0 x1) (kx2 x0 x1) (kar x0 x1) (kS r)

theorem step1 : k0_pay105 (F := Ideal) x0 x1
    = vnext (ky1 x0 x1) (kx1 x0 x1) (ky2 x0 x1) (kx2 x0 x1) (kar x0 x1) (k0_pay100 (F := Ideal) x0 x1) := rfl
theorem step2 : k0_pay112 (F := Ideal) x0 x1
    = vnext (ky1 x0 x1) (kx1 x0 x1) (ky2 x0 x1) (kx2 x0 x1) (kar x0 x1) (k0_pay105 (F := Ideal) x0 x1) := rfl
theorem step3 : k0_pay118 (F := Ideal) x0 x1
    = vnext (ky1 x0 x1) (kx1 x0 x1) (ky2 x0 x1) (kx2 x0 x1) (kar x0 x1) (k0_pay112 (F := Ideal) x0 x1) := rfl
theorem step4 : k0_pay125 (F := Ideal) x0 x1
    = vnext (ky1 x0 x1) (kx1 x0 x1) (ky2 x0 x1) (kx2 x0 x1) (kar x0 x1) (k0_pay118 (F := Ideal) x0 x1) := rfl
theorem step5 : k0_pay133 (F := Ideal) x0 x1
    = vnext (ky1 x0 x1) (kx1 x0 x1) (ky2 x0 x1) (kx2 x0 x1) (kar x0 x1) (k0_pay125 (F := Ideal) x0 x1) := rfl
theorem step6 : k0_pay138 (F := Ideal) x0 x1
    = vnext (ky1 x0 x1) (kx1 x0 x1) (ky2 x0 x1) (kx2 x0 x1) (kar x0 x1) (k0_pay133 (F := Ideal) x0 x1) := rfl

/-- The stated scores are those after the rounds. -/
theorem kS_eq :
k0_pay105 (F := Ideal) x0 x1 = kS x0 x1 1 ∧ k0_pay112 (F := Ideal) x0 x1 = kS x0 x1 2 ∧ k0_pay118 (F := Ideal) x0 x1 = kS x0 x1 3 ∧ k0_pay125 (F := Ideal) x0 x1 = kS x0 x1 4 ∧ k0_pay133 (F := Ideal) x0 x1 = kS x0 x1 5 ∧ k0_pay138 (F := Ideal) x0 x1 = kS x0 x1 6 := by
  have h1 : k0_pay105 (F := Ideal) x0 x1 = kS x0 x1 1 := step1 x0 x1
  have h2 : k0_pay112 (F := Ideal) x0 x1 = kS x0 x1 2 := by rw [step2, h1]; rfl
  have h3 : k0_pay118 (F := Ideal) x0 x1 = kS x0 x1 3 := by rw [step3, h2]; rfl
  have h4 : k0_pay125 (F := Ideal) x0 x1 = kS x0 x1 4 := by rw [step4, h3]; rfl
  have h5 : k0_pay133 (F := Ideal) x0 x1 = kS x0 x1 5 := by rw [step5, h4]; rfl
  have h6 : k0_pay138 (F := Ideal) x0 x1 = kS x0 x1 6 := by rw [step6, h5]; rfl
  exact ⟨h1, h2, h3, h4, h5, h6⟩

/-- The scores of the last round, over the stated scores of the one before. -/
def kS' : FVec Ideal S40x20000 .f32 :=
  vnext (ky1 x0 x1) (kx1 x0 x1) (ky2 x0 x1) (kx2 x0 x1) (kar x0 x1) (k0_pay138 (F := Ideal) x0 x1)

theorem raw0_2 : out0_2 (F := Ideal) x0 x1 = View.canon [⟨r0_2, k0_pay2
      (vscore (vbest (k0_pay100 (F := Ideal) x0 x1)))
      (vscore (vbest (k0_pay105 (F := Ideal) x0 x1)))
      (vscore (vbest (k0_pay112 (F := Ideal) x0 x1)))
      (vscore (vbest (k0_pay118 (F := Ideal) x0 x1)))
      (vscore (vbest (k0_pay125 (F := Ideal) x0 x1)))
      (vscore (vbest (k0_pay133 (F := Ideal) x0 x1)))
      (vscore (vbest (k0_pay138 (F := Ideal) x0 x1)))
      (vscore (vbest (kS' x0 x1)))⟩] := rfl
theorem raw0_3 : out0_3 (F := Ideal) x0 x1 = View.canon [⟨r0_2, k0_pay2
      (vcoord (ky1 x0 x1) (vhot (k0_pay100 (F := Ideal) x0 x1)))
      (vcoord (ky1 x0 x1) (vhot (k0_pay105 (F := Ideal) x0 x1)))
      (vcoord (ky1 x0 x1) (vhot (k0_pay112 (F := Ideal) x0 x1)))
      (vcoord (ky1 x0 x1) (vhot (k0_pay118 (F := Ideal) x0 x1)))
      (vcoord (ky1 x0 x1) (vhot (k0_pay125 (F := Ideal) x0 x1)))
      (vcoord (ky1 x0 x1) (vhot (k0_pay133 (F := Ideal) x0 x1)))
      (vcoord (ky1 x0 x1) (vhot (k0_pay138 (F := Ideal) x0 x1)))
      (vcoord (ky1 x0 x1) (vhot (kS' x0 x1)))⟩] := rfl
theorem raw0_4 : out0_4 (F := Ideal) x0 x1 = View.canon [⟨r0_2, k0_pay2
      (vcoord (kx1 x0 x1) (vhot (k0_pay100 (F := Ideal) x0 x1)))
      (vcoord (kx1 x0 x1) (vhot (k0_pay105 (F := Ideal) x0 x1)))
      (vcoord (kx1 x0 x1) (vhot (k0_pay112 (F := Ideal) x0 x1)))
      (vcoord (kx1 x0 x1) (vhot (k0_pay118 (F := Ideal) x0 x1)))
      (vcoord (kx1 x0 x1) (vhot (k0_pay125 (F := Ideal) x0 x1)))
      (vcoord (kx1 x0 x1) (vhot (k0_pay133 (F := Ideal) x0 x1)))
      (vcoord (kx1 x0 x1) (vhot (k0_pay138 (F := Ideal) x0 x1)))
      (vcoord (kx1 x0 x1) (vhot (kS' x0 x1)))⟩] := rfl
theorem raw0_5 : out0_5 (F := Ideal) x0 x1 = View.canon [⟨r0_2, k0_pay2
      (vcoord (ky2 x0 x1) (vhot (k0_pay100 (F := Ideal) x0 x1)))
      (vcoord (ky2 x0 x1) (vhot (k0_pay105 (F := Ideal) x0 x1)))
      (vcoord (ky2 x0 x1) (vhot (k0_pay112 (F := Ideal) x0 x1)))
      (vcoord (ky2 x0 x1) (vhot (k0_pay118 (F := Ideal) x0 x1)))
      (vcoord (ky2 x0 x1) (vhot (k0_pay125 (F := Ideal) x0 x1)))
      (vcoord (ky2 x0 x1) (vhot (k0_pay133 (F := Ideal) x0 x1)))
      (vcoord (ky2 x0 x1) (vhot (k0_pay138 (F := Ideal) x0 x1)))
      (vcoord (ky2 x0 x1) (vhot (kS' x0 x1)))⟩] := rfl
theorem raw0_6 : out0_6 (F := Ideal) x0 x1 = View.canon [⟨r0_2, k0_pay2
      (vcoord (kx2 x0 x1) (vhot (k0_pay100 (F := Ideal) x0 x1)))
      (vcoord (kx2 x0 x1) (vhot (k0_pay105 (F := Ideal) x0 x1)))
      (vcoord (kx2 x0 x1) (vhot (k0_pay112 (F := Ideal) x0 x1)))
      (vcoord (kx2 x0 x1) (vhot (k0_pay118 (F := Ideal) x0 x1)))
      (vcoord (kx2 x0 x1) (vhot (k0_pay125 (F := Ideal) x0 x1)))
      (vcoord (kx2 x0 x1) (vhot (k0_pay133 (F := Ideal) x0 x1)))
      (vcoord (kx2 x0 x1) (vhot (k0_pay138 (F := Ideal) x0 x1)))
      (vcoord (kx2 x0 x1) (vhot (kS' x0 x1)))⟩] := rfl

end Cert.KernelIdeal.Nms
-- ==== Proof.KernelOut.lean ====
/-
  What the first kernel leaves in its blocks, read at an index: the scores and the boxes its rounds select.
-/
module

public import proofs.«01_k».proof.Proof.KernelRounds

@[expose] public section

set_option maxRecDepth 16384

noncomputable section

namespace Cert.KernelIdeal.Nms

open Idealize.ShloMosaic Idealize.ShloMosaic.TcCoe Idealize.SL.Sem
open Cert.KernelIdeal Cert.KernelIdeal.Gen Cert.Nms

theorem hz3 : (![0, 0, 0] : Fin 3 → Nat) = fun _ => 0 := funext fun a => by fin_cases a <;> rfl

/-- An entry of a list of eight values numbered from nought. -/
theorem vec8 {α : Type} (g : Nat → α) (r : Fin 8) : (![g 0, g 1, g 2, g 3, g 4, g 5, g 6, g 7] : Fin 8 → α) r = g r.val := by
  fin_cases r <;> rfl

/-- Eight columns side by side, read at an index. -/
theorem pay2_at (a0 a1 a2 a3 a4 a5 a6 a7 : FVec Ideal S40x1 .f32) (c : Fin 40) (r : Fin 8) :
    k0_pay2 a0 a1 a2 a3 a4 a5 a6 a7 (ix3 0 c r) = (![a0 (ix2 c 0), a1 (ix2 c 0), a2 (ix2 c 0), a3 (ix2 c 0), a4 (ix2 c 0), a5 (ix2 c 0), a6 (ix2 c 0), a7 (ix2 c 0)] : Fin 8 → EReal) r := by
  match r with
  | ⟨0, _⟩ =>
    show k0_pay2 a0 a1 a2 a3 a4 a5 a6 a7 (ix3 0 c 0) = a0 (ix2 c 0)
    pointwise [k0_pay2]
  | ⟨1, _⟩ =>
    show k0_pay2 a0 a1 a2 a3 a4 a5 a6 a7 (ix3 0 c 1) = a1 (ix2 c 0)
    pointwise [k0_pay2]
  | ⟨2, _⟩ =>
    show k0_pay2 a0 a1 a2 a3 a4 a5 a6 a7 (ix3 0 c 2) = a2 (ix2 c 0)
    pointwise [k0_pay2]
  | ⟨3, _⟩ =>
    show k0_pay2 a0 a1 a2 a3 a4 a5 a6 a7 (ix3 0 c 3) = a3 (ix2 c 0)
    pointwise [k0_pay2]
  | ⟨4, _⟩ =>
    show k0_pay2 a0 a1 a2 a3 a4 a5 a6 a7 (ix3 0 c 4) = a4 (ix2 c 0)
    pointwise [k0_pay2]
  | ⟨5, _⟩ =>
    show k0_pay2 a0 a1 a2 a3 a4 a5 a6 a7 (ix3 0 c 5) = a5 (ix2 c 0)
    pointwise [k0_pay2]
  | ⟨6, _⟩ =>
    show k0_pay2 a0 a1 a2 a3 a4 a5 a6 a7 (ix3 0 c 6) = a6 (ix2 c 0)
    pointwise [k0_pay2]
  | ⟨7, _⟩ =>
    show k0_pay2 a0 a1 a2 a3 a4 a5 a6 a7 (ix3 0 c 7) = a7 (ix2 c 0)
    pointwise [k0_pay2]

variable (x0 : FVec Ideal S1x4x20000 .f32) (x1 : FVec Ideal S1x40x20000 .f32)

/-- The canonical boxes of a block. -/
def kbox : Boxes 20000 := canon fun j e => x0 (ix3 0 e j)

theorem ld0 : View.ld (Val := Elt Ideal) (e' := .f32) x0 r0_0 = x0 :=
  View.ld_unit_zero (Val := Elt Ideal) (e := .f32) (S := S1x4x20000) hz3 inb_S1x4x20000_S1x4x20000_0_0_0 x0
theorem ld1 : View.ld (Val := Elt Ideal) (e' := .f32) x1 r0_1 = x1 :=
  View.ld_unit_zero (Val := Elt Ideal) (e := .f32) (S := S1x40x20000) hz3 inb_S1x40x20000_S1x40x20000_0_0_0 x1

theorem ky1_at (k : Fin 20000) : ky1 x0 x1 (ix2 0 k) = (kbox x0).y1 k := by
  unfold ky1 k0_pay95
  rw [ld0]
  pointwise [k0_pay7, k0_pay6]
  rfl

theorem kx1_at (k : Fin 20000) : kx1 x0 x1 (ix2 0 k) = (kbox x0).x1 k := by
  unfold kx1 k0_pay96
  rw [ld0]
  pointwise [k0_pay8, k0_pay6]
  rfl

theorem ky2_at (k : Fin 20000) : ky2 x0 x1 (ix2 0 k) = (kbox x0).y2 k := by
  unfold ky2 k0_pay97
  rw [ld0]
  pointwise [k0_pay9, k0_pay6]
  rfl

theorem kx2_at (k : Fin 20000) : kx2 x0 x1 (ix2 0 k) = (kbox x0).x2 k := by
  unfold kx2 k0_pay98
  rw [ld0]
  pointwise [k0_pay10, k0_pay6]
  rfl

/-- The rows of coordinates are those of the canonical boxes. -/
theorem kbox_eq : rowBoxes (ky1 x0 x1) (kx1 x0 x1) (ky2 x0 x1) (kx2 x0 x1) = kbox x0 := by
  unfold rowBoxes
  simp only [ky1_at, kx1_at, ky2_at, kx2_at]

theorem kar_at (k : Fin 20000) : kar x0 x1 (ix2 0 k) = (kbox x0).area k := by
  unfold kar k0_pay99
  rw [ld0]
  pointwise [k0_pay11, k0_pay10, k0_pay9, k0_pay8, k0_pay7, k0_pay6]
  rfl

/-- The scores of a class after `r` rounds. -/
def kscore (c : Fin 40) (r : Nat) : Fin 20000 → EReal := rounds (kbox x0).supK (filt fun j => x1 (ix3 0 c j)) r

theorem kS_at (r : Nat) (c : Fin 40) : (fun k => kS x0 x1 r (ix2 c k)) = kscore x0 x1 c r := by
  induction r with
  | zero =>
    funext k
    show k0_pay100 (F := Ideal) x0 x1 (ix2 c k) = filt (fun j => x1 (ix3 0 c j)) k
    unfold k0_pay100
    rw [ld1]
    pointwise [k0_pay12]
    rw [lit_half, lit_neg_one]
    rfl
  | succ r ih =>
    funext k
    show vnext (ky1 x0 x1) (kx1 x0 x1) (ky2 x0 x1) (kx2 x0 x1) (kar x0 x1) (kS x0 x1 r) (ix2 c k) = _
    rw [vnext_at _ _ _ _ _ _ (fun k => by rw [kbox_eq]; exact kar_at x0 x1 k), kbox_eq, ih]
    rfl

theorem kS_last : kS' x0 x1 = kS x0 x1 7 := by
  unfold kS'
  rw [(kS_eq x0 x1).2.2.2.2.2]
  rfl

theorem kS_first : k0_pay100 (F := Ideal) x0 x1 = kS x0 x1 0 := rfl

/-- The scores the rounds give. -/
theorem out0_2_at (c : Fin 40) (r : Fin 8) : out0_2 (F := Ideal) x0 x1 (ix3 0 c r) = sel (kscore x0 x1 c r.val) := by
  obtain ⟨h1, h2, h3, h4, h5, h6⟩ := kS_eq x0 x1
  rw [raw0_2, View.canon_unit_zero hz3, pay2_at, kS_last, kS_first, h1, h2, h3, h4, h5, h6]
  simp only [vscore_at, kS_at]
  exact vec8 (fun n => sel (kscore x0 x1 c n)) r

/-- The coordinate y1 of the boxes the rounds select. -/
theorem out0_3_at (c : Fin 40) (r : Fin 8) :
    out0_3 (F := Ideal) x0 x1 (ix3 0 c r) = (kbox x0).y1 (amax (kscore x0 x1 c r.val)) := by
  obtain ⟨h1, h2, h3, h4, h5, h6⟩ := kS_eq x0 x1
  rw [raw0_3, View.canon_unit_zero hz3, pay2_at, kS_last, kS_first, h1, h2, h3, h4, h5, h6]
  simp only [vcoord_at, kS_at, ky1_at]
  exact vec8 (fun n => (kbox x0).y1 (amax (kscore x0 x1 c n))) r

/-- The coordinate x1 of the boxes the rounds select. -/
theorem out0_4_at (c : Fin 40) (r : Fin 8) :
    out0_4 (F := Ideal) x0 x1 (ix3 0 c r) = (kbox x0).x1 (amax (kscore x0 x1 c r.val)) := by
  obtain ⟨h1, h2, h3, h4, h5, h6⟩ := kS_eq x0 x1
  rw [raw0_4, View.canon_unit_zero hz3, pay2_at, kS_last, kS_first, h1, h2, h3, h4, h5, h6]
  simp only [vcoord_at, kS_at, kx1_at]
  exact vec8 (fun n => (kbox x0).x1 (amax (kscore x0 x1 c n))) r

/-- The coordinate y2 of the boxes the rounds select. -/
theorem out0_5_at (c : Fin 40) (r : Fin 8) :
    out0_5 (F := Ideal) x0 x1 (ix3 0 c r) = (kbox x0).y2 (amax (kscore x0 x1 c r.val)) := by
  obtain ⟨h1, h2, h3, h4, h5, h6⟩ := kS_eq x0 x1
  rw [raw0_5, View.canon_unit_zero hz3, pay2_at, kS_last, kS_first, h1, h2, h3, h4, h5, h6]
  simp only [vcoord_at, kS_at, ky2_at]
  exact vec8 (fun n => (kbox x0).y2 (amax (kscore x0 x1 c n))) r

/-- The coordinate x2 of the boxes the rounds select. -/
theorem out0_6_at (c : Fin 40) (r : Fin 8) :
    out0_6 (F := Ideal) x0 x1 (ix3 0 c r) = (kbox x0).x2 (amax (kscore x0 x1 c r.val)) := by
  obtain ⟨h1, h2, h3, h4, h5, h6⟩ := kS_eq x0 x1
  rw [raw0_6, View.canon_unit_zero hz3, pay2_at, kS_last, kS_first, h1, h2, h3, h4, h5, h6]
  simp only [vcoord_at, kS_at, kx2_at]
  exact vec8 (fun n => (kbox x0).x2 (amax (kscore x0 x1 c n))) r

end Cert.KernelIdeal.Nms
-- ==== Proof.MergeRound.lean ====
/-
  The merge body: its rounds over the tables as vector operations, read at an index.
-/
module

public import Idealize.ShloMosaic.Lib.Pointwise
public import proofs.«01_k».proof.Proof.Scalars
public import proofs.«01_k».proof.Proof.Gen.KernelIdeal.Frame

@[expose] public section

set_option maxRecDepth 16384

noncomputable section

namespace Cert.KernelIdeal.Merge

open Idealize.ShloMosaic Idealize.ShloMosaic.TcCoe Idealize.SL.Sem
open Cert.KernelIdeal Cert.KernelIdeal.Gen Cert.Nms

/-! ## The vector operations of a round -/

/-- The greatest score of the table, before it is spread. -/
def mtop (t : FVec Ideal S80x8 .f32) : FVec Ideal S1 .f32 :=
  multiReduction .maximumf [1, 2] S1 (shapeCast S1x80x8 t shapeCasts_S80x8_S1x80x8) 0xFF800000#32 reduces_S1x80x8_S1 (.inl rfl) rfl

/-- The greatest score of the table. -/
def mmax (t : FVec Ideal S80x8 .f32) : FVec Ideal S1x1 .f32 :=
  broadcast S1x1 (extractAt ![0, 0, 0] (shapeCast S1x1x1 (mtop t) shapeCasts_S1_S1x1x1) inpos_S1x1x1_p0_0_0)

/-- The place of each entry of the table, row by row. -/
def mcell : IVec S80x8 32 :=
  addi (muli (iota .tc S80x8 32 [0] iota_S80x8_d0_w32) (broadcast S80x8 8#32)) (iota .tc S80x8 32 [1] iota_S80x8_d1_w32)

/-- The first place of the greatest score, before it is spread. -/
def mfirst (t : FVec Ideal S80x8 .f32) : IVec S1 32 :=
  multiReductionI .minsi [1, 2] S1 (shapeCast S1x80x8
    (select (cmpf .oeq t (broadcastTo S80x8 (mmax t) broadcasts_S1x1_S80x8)) mcell (broadcast S80x8 640#32)) shapeCasts_S80x8_S1x80x8)
    2147483647#32 reduces_S1x80x8_S1 rfl

/-- The first place of the greatest score. -/
def mkey (t : FVec Ideal S80x8 .f32) : IVec S1x1 32 :=
  broadcast S1x1 (extractAt ![0, 0, 0] (shapeCast S1x1x1 (mfirst t) shapeCasts_S1_S1x1x1) inpos_S1x1x1_p0_0_0)

/-- The mask of that place. -/
def mhot (t : FVec Ideal S80x8 .f32) : IVec S80x8 1 :=
  cmpi .eq mcell (broadcastTo S80x8 (mkey t) broadcasts_S1x1_S80x8)

/-- Whether the greatest score is positive. -/
def mvalid (t : FVec Ideal S80x8 .f32) : IVec S1x1 1 :=
  cmpf .ogt (mmax t) (broadcast S1x1 (Scalar.ofBits (F := Ideal) .f32 0x00000000#32))

/-- The score the round gives. -/
def mscore (t : FVec Ideal S80x8 .f32) : FVec Ideal S1x1 .f32 :=
  select (mvalid t) (mmax t) (broadcast S1x1 (Scalar.ofBits (F := Ideal) .f32 0x00000000#32))

/-- The class of a place: the quotient by eight rounded downwards. -/
def mdiv (k : IVec S1x1 32) : IVec S1x1 32 :=
  select
    (andi
      (cmpi .ne (subi (extui 32 (cmpi .sgt k (broadcast S1x1 0#32)) natLt_1_32) (extui 32 (cmpi .slt k (broadcast S1x1 0#32)) natLt_1_32))
        (broadcast S1x1 (Scalar.subi (Scalar.extui (Scalar.cmpi .sgt 8#32 0#32)) (Scalar.extui (Scalar.cmpi .slt 8#32 0#32)))))
      (cmpi .ne (remsi k (broadcast S1x1 8#32)) (broadcast S1x1 0#32)))
    (subi (divsi k (broadcast S1x1 8#32)) (broadcast S1x1 1#32)) (divsi k (broadcast S1x1 8#32))

/-- The class the round gives. -/
def mclass (t : FVec Ideal S80x8 .f32) : IVec S1x1 32 :=
  select (mvalid t) (mdiv (mkey t)) (broadcast S1x1 0#32)

/-- One for a positive greatest score. -/
def mflag (t : FVec Ideal S80x8 .f32) : IVec S1x1 32 := extui 32 (mvalid t) natLt_1_32

/-- A coordinate of the selected entry before it is spread: the sum under the mask. -/
def msum (y t : FVec Ideal S80x8 .f32) : FVec Ideal S1 .f32 :=
  multiReduction .add [1, 2] S1 (shapeCast S1x80x8
    (select (mhot t) y (broadcast S80x8 (Scalar.ofBits (F := Ideal) .f32 0x00000000#32))) shapeCasts_S80x8_S1x80x8)
    0x00000000#32 reduces_S1x80x8_S1 (.inl rfl) rfl

/-- A coordinate the round gives, clipped to the unit interval. -/
def mcoord (y t : FVec Ideal S80x8 .f32) : FVec Ideal S1x1 .f32 :=
  minimumf (broadcast S1x1 (Scalar.ofBits (F := Ideal) .f32 0x3F800000#32))
    (maximumf (broadcast S1x1 (Scalar.ofBits (F := Ideal) .f32 0x00000000#32))
      (select (mvalid t)
        (broadcast S1x1 (extractAt ![0, 0, 0] (shapeCast S1x1x1 (msum y t) shapeCasts_S1_S1x1x1) inpos_S1x1x1_p0_0_0))
        (broadcast S1x1 (Scalar.ofBits (F := Ideal) .f32 0x00000000#32))))

/-- The box the round gives. -/
def mrow (y1 x1 y2 x2 t : FVec Ideal S80x8 .f32) : FVec Ideal S1x4 .f32 :=
  concatenate S1x4 1 [⟨S1x1, mcoord y1 t⟩, ⟨S1x1, mcoord x1 t⟩, ⟨S1x1, mcoord y2 t⟩, ⟨S1x1, mcoord x2 t⟩]
    concatenates_S1x1_S1x1_S1x1_S1x1_S1x4_d1

/-- The scores after the round. -/
def mnext (t : FVec Ideal S80x8 .f32) : FVec Ideal S80x8 .f32 :=
  select (mhot t) (broadcast S80x8 (Scalar.ofBits (F := Ideal) .f32 0xBF800000#32)) t

/-! ## Their values at an index -/

/-- The row of a place. -/
def cellRow (k : Fin 640) : Fin 80 := ⟨k.val / 8, by omega⟩

/-- The column of a place. -/
def cellCol (k : Fin 640) : Fin 8 := ⟨k.val % 8, by omega⟩

/-- A table read by place. -/
def tab {α : Type} (t : S80x8.Idx → α) (k : Fin 640) : α := t (ix2 (cellRow k) (cellCol k))

/-- The places of the table as its indices. -/
def cells : Fin 640 ≃ S1x80x8.Idx where
  toFun k := ix3 0 (cellRow k) (cellCol k)
  invFun i := ⟨(i 1).val * 8 + (i 2).val, by
    have h1 : (i 1).val < 80 := (i 1).isLt
    have h2 : (i 2).val < 8 := (i 2).isLt
    omega⟩
  left_inv k := by
    apply Fin.ext
    show k.val / 8 * 8 + k.val % 8 = k.val
    omega
  right_inv i := by
    have h0 : (i 0).val < 1 := (i 0).isLt
    have h1 : (i 1).val < 80 := (i 1).isLt
    have h2 : (i 2).val < 8 := (i 2).isLt
    funext a
    match a with
    | ⟨0, _⟩ =>
      apply Fin.ext
      show 0 = (i 0).val
      omega
    | ⟨1, _⟩ =>
      apply Fin.ext
      show ((i 1).val * 8 + (i 2).val) / 8 = (i 1).val
      omega
    | ⟨2, _⟩ =>
      apply Fin.ext
      show ((i 1).val * 8 + (i 2).val) % 8 = (i 2).val
      omega

/-- A table with a leading unit axis, read at a place. -/
theorem cast_at {α : Type} (t : S80x8.Idx → α) (k : Fin 640) :
    shapeCast S1x80x8 t shapeCasts_S80x8_S1x80x8 (cells k) = tab t k := by
  show shapeCast S1x80x8 t shapeCasts_S80x8_S1x80x8 (ix3 0 (cellRow k) (cellCol k)) = t (ix2 (cellRow k) (cellCol k))
  pointwise

/-- A fold over the whole table is one over its places. -/
theorem fold_cells {α : Type} (f : α → α → α) [Std.Commutative f] [Std.Associative f] (b : α) (t : S80x8.Idx → α) (j : S1.Idx) :
    (Finset.univ.filter fun i => reduces_S1x80x8_S1.drop i = j).fold f b (shapeCast S1x80x8 t shapeCasts_S80x8_S1x80x8)
      = Finset.univ.fold f b (tab t) := by
  have hu : (Finset.univ.filter fun i => reduces_S1x80x8_S1.drop i = j) = (Finset.univ : Finset (Fin 640)).map cells.toEmbedding := by
    rw [Finset.map_univ_equiv]
    refine Finset.filter_true_of_mem fun i _ => funext fun a => Fin.ext ?_
    have h1 : (reduces_S1x80x8_S1.drop i a).val < S1.size a := (reduces_S1x80x8_S1.drop i a).isLt
    have h2 : (j a).val < S1.size a := (j a).isLt
    have h3 : S1.size a = 1 := by
      match a with
      | ⟨0, _⟩ => rfl
    omega
  rw [hu, Finset.fold_map]
  exact Finset.fold_congr fun k _ => cast_at t k

theorem mtop_at (t : FVec Ideal S80x8 .f32) (j : S1.Idx) : mtop t j = tab t (amax (tab t)) := by
  unfold mtop
  refine (multiReduction_maximumf_eq_fold _ _ _ _ _ j).trans ((fold_cells _ _ _ j).trans ?_)
  have : (FloatOps.ofBits (F := Ideal) .f32 0xFF800000#32 : EReal) = ⊥ := lit_bot
  rw [this]
  exact fold_max_eq (tab t)

/-- The greatest score is the one at its first greatest place. -/
theorem mmax_at (t : FVec Ideal S80x8 .f32) (y z : Fin 1) : mmax t (ix2 y z) = tab t (amax (tab t)) := by
  pointwise [mmax, mtop_at]

theorem mcell_at (k : Fin 640) : tab mcell k = BitVec.ofNat 32 k.val := by
  unfold tab
  pointwise [mcell]
  show BitVec.ofNat 32 (k.val / 8) * 8#32 + BitVec.ofNat 32 (k.val % 8) = BitVec.ofNat 32 k.val
  apply BitVec.eq_of_toNat_eq
  simp
  omega

theorem mfirst_at (t : FVec Ideal S80x8 .f32) (j : S1.Idx) : mfirst t j = BitVec.ofNat 32 (amax (tab t)).val := by
  unfold mfirst
  refine (multiReductionI_eq_fold _ _ _ _ _ j).trans ((fold_cells _ _ _ j).trans ?_)
  have hs := amax_spec (tab t)
  refine Eq.trans (Finset.fold_congr fun k _ => ?_) (fold_minsi (ι := Fin 640) (fun x => tab t x = tab t (amax (tab t)))
    (fun x => x.val) 640 (by norm_num) (fun x => le_of_lt x.isLt) (amax (tab t)) rfl fun x hx => ?_)
  · have hc := mcell_at k
    unfold tab at hc ⊢
    pointwise [mmax_at, hc]
    rfl
  · by_contra h
    exact absurd hx (ne_of_lt (hs.2 x (not_le.mp h)))

theorem mkey_at (t : FVec Ideal S80x8 .f32) (y z : Fin 1) : mkey t (ix2 y z) = BitVec.ofNat 32 (amax (tab t)).val := by
  pointwise [mkey, mfirst_at]

/-- The mask holds at the first greatest place only. -/
theorem mhot_at (t : FVec Ideal S80x8 .f32) (k : Fin 640) : tab (mhot t) k = BitVec.ofBool (decide (k = amax (tab t))) := by
  have hc := mcell_at k
  unfold tab at hc ⊢
  pointwise [mhot, hc]
  rw [mkey_at, cmpi_eq_ofNat _ _ (by omega) (by omega)]
  simp only [Fin.ext_iff]
  rfl

theorem mvalid_at (t : FVec Ideal S80x8 .f32) (y z : Fin 1) :
    mvalid t (ix2 y z) = BitVec.ofBool (decide (0 < tab t (amax (tab t)))) := by
  pointwise [mvalid, mmax_at]

/-- The score of the round. -/
theorem mscore_at (t : FVec Ideal S80x8 .f32) (y z : Fin 1) : mscore t (ix2 y z) = sel (tab t) := by
  pointwise [mscore, mvalid_at, mmax_at, select_ofBool]
  rfl

theorem mdiv_word (k : Fin 640) :
    Scalar.select (IntOp.andi
      (IntOp.cmpi .ne (IntOp.subi (BitVec.setWidth 32 (IntOp.cmpi .sgt (BitVec.ofNat 32 k.val) 0#32)) (BitVec.setWidth 32 (IntOp.cmpi .slt (BitVec.ofNat 32 k.val) 0#32)))
        (Scalar.subi (Scalar.extui (Scalar.cmpi .sgt 8#32 0#32)) (Scalar.extui (Scalar.cmpi .slt 8#32 0#32))))
      (IntOp.cmpi .ne (IntOp.remsi .vector (BitVec.ofNat 32 k.val) 8#32) 0#32))
      (IntOp.subi (IntOp.divsi .vector (BitVec.ofNat 32 k.val) 8#32) 1#32) (IntOp.divsi .vector (BitVec.ofNat 32 k.val) 8#32) = BitVec.ofNat 32 (k.val / 8) := by
  revert k
  decide +kernel

/-- The class of the round. -/
theorem mclass_at (t : FVec Ideal S80x8 .f32) (y z : Fin 1) :
    mclass t (ix2 y z) = if 0 < tab t (amax (tab t)) then BitVec.ofNat 32 ((amax (tab t)).val / 8) else 0#32 := by
  have hd : mdiv (mkey t) (ix2 y z) = BitVec.ofNat 32 ((amax (tab t)).val / 8) := by
    pointwise [mdiv, mkey_at]
    exact mdiv_word (amax (tab t))
  pointwise [mclass, mvalid_at, hd, select_ofBool]

theorem mflag_at (t : FVec Ideal S80x8 .f32) (y z : Fin 1) :
    mflag t (ix2 y z) = if 0 < tab t (amax (tab t)) then 1#32 else 0#32 := by
  pointwise [mflag, mvalid_at]
  by_cases h : 0 < tab t (amax (tab t)) <;> simp [h]

theorem msum_at (y t : FVec Ideal S80x8 .f32) (j : S1.Idx) : msum y t j = tab y (amax (tab t)) := by
  unfold msum
  refine (Ideal.multiReduction_add_total _ _ _ (fun b => by match b with | ⟨0, _⟩ => rfl) _ _ j).trans ?_
  rw [← Equiv.sum_comp cells]
  refine Eq.trans (Finset.sum_congr rfl fun k _ => ?_) (sum_hot (tab y) (amax (tab t)))
  rw [cast_at]
  have hh := mhot_at t k
  unfold tab at hh ⊢
  pointwise [hh, select_ofBool]

/-- A coordinate of the round. -/
theorem mcoord_at (y t : FVec Ideal S80x8 .f32) (u z : Fin 1) :
    mcoord y t (ix2 u z) = min 1 (max 0 (if 0 < tab t (amax (tab t)) then tab y (amax (tab t)) else 0)) := by
  pointwise [mcoord, mvalid_at, msum_at, select_ofBool]

/-- The scores after the round. -/
theorem mnext_at (t : FVec Ideal S80x8 .f32) : tab (mnext t) = mergeNext (tab t) := by
  funext k
  have hh := mhot_at t k
  unfold mergeNext
  unfold tab at hh ⊢
  pointwise [mnext, hh, select_ofBool]
  rw [lit_neg_one]

end Cert.KernelIdeal.Merge
-- ==== Proof.MergeOut.lean ====
/-
  What the merge kernel leaves in its blocks, read at an index: the rounds over the tables.
-/
module

public import proofs.«01_k».proof.Proof.MergeRound

@[expose] public section

set_option maxRecDepth 16384

noncomputable section

namespace Cert.KernelIdeal.Merge

open Idealize.ShloMosaic Idealize.ShloMosaic.TcCoe Idealize.SL.Sem
open Cert.KernelIdeal Cert.KernelIdeal.Gen Cert.Nms

theorem hz3 : (![0, 0, 0] : Fin 3 → Nat) = fun _ => 0 := funext fun a => by fin_cases a <;> rfl

/-- An entry of a list of eight values numbered from nought. -/
theorem vec8 {α : Type} (g : Nat → α) (r : Fin 8) : (![g 0, g 1, g 2, g 3, g 4, g 5, g 6, g 7] : Fin 8 → α) r = g r.val := by
  fin_cases r <;> rfl

/-- An entry of a list of four. -/
theorem vec4 {α : Type} (g : Fin 4 → α) (e : Fin 4) : (![g 0, g 1, g 2, g 3] : Fin 4 → α) e = g e := by
  fin_cases e <;> rfl

/-! ## Rows put together -/

/-- Eight rows of four, with a leading unit axis. -/
def mboxes (a0 a1 a2 a3 a4 a5 a6 a7 : FVec Ideal S1x4 .f32) : FVec Ideal S1x8x4 .f32 :=
  shapeCast S1x8x4 (concatenate S8x4 0 [⟨S1x4, a0⟩, ⟨S1x4, a1⟩, ⟨S1x4, a2⟩, ⟨S1x4, a3⟩, ⟨S1x4, a4⟩, ⟨S1x4, a5⟩, ⟨S1x4, a6⟩, ⟨S1x4, a7⟩]
    concatenates_S1x4_S1x4_S1x4_S1x4_S1x4_S1x4_S1x4_S1x4_S8x4_d0) shapeCasts_S8x4_S1x8x4

theorem mboxes_at (a0 a1 a2 a3 a4 a5 a6 a7 : FVec Ideal S1x4 .f32) (r : Fin 8) (e : Fin 4) :
    mboxes a0 a1 a2 a3 a4 a5 a6 a7 (ix3 0 r e) = (![a0 (ix2 0 e), a1 (ix2 0 e), a2 (ix2 0 e), a3 (ix2 0 e), a4 (ix2 0 e), a5 (ix2 0 e), a6 (ix2 0 e), a7 (ix2 0 e)] : Fin 8 → EReal) r := by
  match r with
  | ⟨0, _⟩ =>
    show mboxes a0 a1 a2 a3 a4 a5 a6 a7 (ix3 0 0 e) = a0 (ix2 0 e)
    pointwise [mboxes]
  | ⟨1, _⟩ =>
    show mboxes a0 a1 a2 a3 a4 a5 a6 a7 (ix3 0 1 e) = a1 (ix2 0 e)
    pointwise [mboxes]
  | ⟨2, _⟩ =>
    show mboxes a0 a1 a2 a3 a4 a5 a6 a7 (ix3 0 2 e) = a2 (ix2 0 e)
    pointwise [mboxes]
  | ⟨3, _⟩ =>
    show mboxes a0 a1 a2 a3 a4 a5 a6 a7 (ix3 0 3 e) = a3 (ix2 0 e)
    pointwise [mboxes]
  | ⟨4, _⟩ =>
    show mboxes a0 a1 a2 a3 a4 a5 a6 a7 (ix3 0 4 e) = a4 (ix2 0 e)
    pointwise [mboxes]
  | ⟨5, _⟩ =>
    show mboxes a0 a1 a2 a3 a4 a5 a6 a7 (ix3 0 5 e) = a5 (ix2 0 e)
    pointwise [mboxes]
  | ⟨6, _⟩ =>
    show mboxes a0 a1 a2 a3 a4 a5 a6 a7 (ix3 0 6 e) = a6 (ix2 0 e)
    pointwise [mboxes]
  | ⟨7, _⟩ =>
    show mboxes a0 a1 a2 a3 a4 a5 a6 a7 (ix3 0 7 e) = a7 (ix2 0 e)
    pointwise [mboxes]

theorem mrow_at (y1 x1 y2 x2 t : FVec Ideal S80x8 .f32) (e : Fin 4) :
    mrow y1 x1 y2 x2 t (ix2 0 e) = min 1 (max 0 (if 0 < tab t (amax (tab t)) then (![tab y1, tab x1, tab y2, tab x2] : Fin 4 → Fin 640 → EReal) e (amax (tab t)) else 0)) := by
  match e with
  | ⟨0, _⟩ =>
    show mrow y1 x1 y2 x2 t (ix2 0 0) = min 1 (max 0 (if 0 < tab t (amax (tab t)) then tab y1 (amax (tab t)) else 0))
    pointwise [mrow, mcoord_at]
  | ⟨1, _⟩ =>
    show mrow y1 x1 y2 x2 t (ix2 0 1) = min 1 (max 0 (if 0 < tab t (amax (tab t)) then tab x1 (amax (tab t)) else 0))
    pointwise [mrow, mcoord_at]
  | ⟨2, _⟩ =>
    show mrow y1 x1 y2 x2 t (ix2 0 2) = min 1 (max 0 (if 0 < tab t (amax (tab t)) then tab y2 (amax (tab t)) else 0))
    pointwise [mrow, mcoord_at]
  | ⟨3, _⟩ =>
    show mrow y1 x1 y2 x2 t (ix2 0 3) = min 1 (max 0 (if 0 < tab t (amax (tab t)) then tab x2 (amax (tab t)) else 0))
    pointwise [mrow, mcoord_at]

theorem pay117_at (a0 a1 a2 a3 a4 a5 a6 a7 : FVec Ideal S1x1 .f32) (r : Fin 8) :
    k1_pay117 a0 a1 a2 a3 a4 a5 a6 a7 (ix3 0 0 r) = (![a0 (ix2 0 0), a1 (ix2 0 0), a2 (ix2 0 0), a3 (ix2 0 0), a4 (ix2 0 0), a5 (ix2 0 0), a6 (ix2 0 0), a7 (ix2 0 0)] : Fin 8 → EReal) r := by
  match r with
  | ⟨0, _⟩ =>
    show k1_pay117 a0 a1 a2 a3 a4 a5 a6 a7 (ix3 0 0 0) = a0 (ix2 0 0)
    pointwise [k1_pay117]
  | ⟨1, _⟩ =>
    show k1_pay117 a0 a1 a2 a3 a4 a5 a6 a7 (ix3 0 0 1) = a1 (ix2 0 0)
    pointwise [k1_pay117]
  | ⟨2, _⟩ =>
    show k1_pay117 a0 a1 a2 a3 a4 a5 a6 a7 (ix3 0 0 2) = a2 (ix2 0 0)
    pointwise [k1_pay117]
  | ⟨3, _⟩ =>
    show k1_pay117 a0 a1 a2 a3 a4 a5 a6 a7 (ix3 0 0 3) = a3 (ix2 0 0)
    pointwise [k1_pay117]
  | ⟨4, _⟩ =>
    show k1_pay117 a0 a1 a2 a3 a4 a5 a6 a7 (ix3 0 0 4) = a4 (ix2 0 0)
    pointwise [k1_pay117]
  | ⟨5, _⟩ =>
    show k1_pay117 a0 a1 a2 a3 a4 a5 a6 a7 (ix3 0 0 5) = a5 (ix2 0 0)
    pointwise [k1_pay117]
  | ⟨6, _⟩ =>
    show k1_pay117 a0 a1 a2 a3 a4 a5 a6 a7 (ix3 0 0 6) = a6 (ix2 0 0)
    pointwise [k1_pay117]
  | ⟨7, _⟩ =>
    show k1_pay117 a0 a1 a2 a3 a4 a5 a6 a7 (ix3 0 0 7) = a7 (ix2 0 0)
    pointwise [k1_pay117]

theorem pay118_at (a0 a1 a2 a3 a4 a5 a6 a7 : IVec S1x1 32) (r : Fin 8) :
    k1_pay118 a0 a1 a2 a3 a4 a5 a6 a7 (ix3 0 0 r) = (![a0 (ix2 0 0), a1 (ix2 0 0), a2 (ix2 0 0), a3 (ix2 0 0), a4 (ix2 0 0), a5 (ix2 0 0), a6 (ix2 0 0), a7 (ix2 0 0)] : Fin 8 → BitVec 32) r := by
  match r with
  | ⟨0, _⟩ =>
    show k1_pay118 a0 a1 a2 a3 a4 a5 a6 a7 (ix3 0 0 0) = a0 (ix2 0 0)
    pointwise [k1_pay118]
  | ⟨1, _⟩ =>
    show k1_pay118 a0 a1 a2 a3 a4 a5 a6 a7 (ix3 0 0 1) = a1 (ix2 0 0)
    pointwise [k1_pay118]
  | ⟨2, _⟩ =>
    show k1_pay118 a0 a1 a2 a3 a4 a5 a6 a7 (ix3 0 0 2) = a2 (ix2 0 0)
    pointwise [k1_pay118]
  | ⟨3, _⟩ =>
    show k1_pay118 a0 a1 a2 a3 a4 a5 a6 a7 (ix3 0 0 3) = a3 (ix2 0 0)
    pointwise [k1_pay118]
  | ⟨4, _⟩ =>
    show k1_pay118 a0 a1 a2 a3 a4 a5 a6 a7 (ix3 0 0 4) = a4 (ix2 0 0)
    pointwise [k1_pay118]
  | ⟨5, _⟩ =>
    show k1_pay118 a0 a1 a2 a3 a4 a5 a6 a7 (ix3 0 0 5) = a5 (ix2 0 0)
    pointwise [k1_pay118]
  | ⟨6, _⟩ =>
    show k1_pay118 a0 a1 a2 a3 a4 a5 a6 a7 (ix3 0 0 6) = a6 (ix2 0 0)
    pointwise [k1_pay118]
  | ⟨7, _⟩ =>
    show k1_pay118 a0 a1 a2 a3 a4 a5 a6 a7 (ix3 0 0 7) = a7 (ix2 0 0)
    pointwise [k1_pay118]

theorem pay119_at (a0 a1 a2 a3 a4 a5 a6 a7 : IVec S1x1 32) (r : Fin 8) :
    k1_pay119 a0 a1 a2 a3 a4 a5 a6 a7 (ix2 0 r) = (![a0 (ix2 0 0), a1 (ix2 0 0), a2 (ix2 0 0), a3 (ix2 0 0), a4 (ix2 0 0), a5 (ix2 0 0), a6 (ix2 0 0), a7 (ix2 0 0)] : Fin 8 → BitVec 32) r := by
  match r with
  | ⟨0, _⟩ =>
    show k1_pay119 a0 a1 a2 a3 a4 a5 a6 a7 (ix2 0 0) = a0 (ix2 0 0)
    pointwise [k1_pay119]
  | ⟨1, _⟩ =>
    show k1_pay119 a0 a1 a2 a3 a4 a5 a6 a7 (ix2 0 1) = a1 (ix2 0 0)
    pointwise [k1_pay119]
  | ⟨2, _⟩ =>
    show k1_pay119 a0 a1 a2 a3 a4 a5 a6 a7 (ix2 0 2) = a2 (ix2 0 0)
    pointwise [k1_pay119]
  | ⟨3, _⟩ =>
    show k1_pay119 a0 a1 a2 a3 a4 a5 a6 a7 (ix2 0 3) = a3 (ix2 0 0)
    pointwise [k1_pay119]
  | ⟨4, _⟩ =>
    show k1_pay119 a0 a1 a2 a3 a4 a5 a6 a7 (ix2 0 4) = a4 (ix2 0 0)
    pointwise [k1_pay119]
  | ⟨5, _⟩ =>
    show k1_pay119 a0 a1 a2 a3 a4 a5 a6 a7 (ix2 0 5) = a5 (ix2 0 0)
    pointwise [k1_pay119]
  | ⟨6, _⟩ =>
    show k1_pay119 a0 a1 a2 a3 a4 a5 a6 a7 (ix2 0 6) = a6 (ix2 0 0)
    pointwise [k1_pay119]
  | ⟨7, _⟩ =>
    show k1_pay119 a0 a1 a2 a3 a4 a5 a6 a7 (ix2 0 7) = a7 (ix2 0 0)
    pointwise [k1_pay119]

theorem pay1_at (v : IVec S1x8 32) : k1_pay1 v (ix3 0 0 0) = Finset.univ.fold IntOp.addi 0#32 fun r : Fin 8 => v (ix2 0 r) := by
  pointwise [k1_pay1]

variable (x0 x1 x2 x3 x4 : FVec Ideal S1x80x8 .f32)

theorem ld_whole (x : FVec Ideal S1x80x8 .f32) : View.ld (Val := Elt Ideal) (e' := .f32) x r1_0 = x :=
  View.ld_unit_zero (Val := Elt Ideal) (e := .f32) (S := S1x80x8) hz3 inb_S1x80x8_S1x80x8_0_0_0 x

/-- The table of a block. -/
def mtab (x : FVec Ideal S1x80x8 .f32) : FVec Ideal S80x8 .f32 := shapeCast S80x8 (View.ld (Val := Elt Ideal) (e' := .f32) x r1_0) shapeCasts_S1x80x8_S80x8

/-- A table of a block read by place. -/
def btab (x : FVec Ideal S1x80x8 .f32) (k : Fin 640) : EReal := x (ix3 0 (cellRow k) (cellCol k))

theorem mtab_at (x : FVec Ideal S1x80x8 .f32) : tab (mtab x) = btab x := by
  funext k
  show mtab x (ix2 (cellRow k) (cellCol k)) = x (ix3 0 (cellRow k) (cellCol k))
  unfold mtab
  rw [ld_whole]
  pointwise

/-- The scores after `r` rounds. -/
def mS (x0 : FVec Ideal S1x80x8 .f32) : Nat → FVec Ideal S80x8 .f32
  | 0 => mtab x0
  | r + 1 => mnext (mS x0 r)

theorem mS_at (r : Nat) : tab (mS x0 r) = mergeRounds (btab x0) r := by
  induction r with
  | zero => exact mtab_at x0
  | succ r ih =>
    show tab (mnext (mS x0 r)) = mergeNext (mergeRounds (btab x0) r)
    rw [mnext_at, ih]

theorem step1 : k1_pay128 (F := Ideal) x0 x1 x2 x3 x4 = mnext (k1_pay120 (F := Ideal) x0 x1 x2 x3 x4) := rfl
theorem step2 : k1_pay133 (F := Ideal) x0 x1 x2 x3 x4 = mnext (k1_pay128 (F := Ideal) x0 x1 x2 x3 x4) := rfl
theorem step3 : k1_pay136 (F := Ideal) x0 x1 x2 x3 x4 = mnext (k1_pay133 (F := Ideal) x0 x1 x2 x3 x4) := rfl
theorem step4 : k1_pay139 (F := Ideal) x0 x1 x2 x3 x4 = mnext (k1_pay136 (F := Ideal) x0 x1 x2 x3 x4) := rfl
theorem step5 : k1_pay142 (F := Ideal) x0 x1 x2 x3 x4 = mnext (k1_pay139 (F := Ideal) x0 x1 x2 x3 x4) := rfl
theorem step6 : k1_pay147 (F := Ideal) x0 x1 x2 x3 x4 = mnext (k1_pay142 (F := Ideal) x0 x1 x2 x3 x4) := rfl

/-- The stated scores are those after the rounds. -/
theorem mS_eq :
    k1_pay120 (F := Ideal) x0 x1 x2 x3 x4 = mS x0 0 ∧ k1_pay128 (F := Ideal) x0 x1 x2 x3 x4 = mS x0 1 ∧ k1_pay133 (F := Ideal) x0 x1 x2 x3 x4 = mS x0 2 ∧ k1_pay136 (F := Ideal) x0 x1 x2 x3 x4 = mS x0 3 ∧ k1_pay139 (F := Ideal) x0 x1 x2 x3 x4 = mS x0 4 ∧ k1_pay142 (F := Ideal) x0 x1 x2 x3 x4 = mS x0 5 ∧ k1_pay147 (F := Ideal) x0 x1 x2 x3 x4 = mS x0 6 := by
  have h0 : k1_pay120 (F := Ideal) x0 x1 x2 x3 x4 = mS x0 0 := rfl
  have h1 : k1_pay128 (F := Ideal) x0 x1 x2 x3 x4 = mS x0 1 := by rw [step1, h0]; rfl
  have h2 : k1_pay133 (F := Ideal) x0 x1 x2 x3 x4 = mS x0 2 := by rw [step2, h1]; rfl
  have h3 : k1_pay136 (F := Ideal) x0 x1 x2 x3 x4 = mS x0 3 := by rw [step3, h2]; rfl
  have h4 : k1_pay139 (F := Ideal) x0 x1 x2 x3 x4 = mS x0 4 := by rw [step4, h3]; rfl
  have h5 : k1_pay142 (F := Ideal) x0 x1 x2 x3 x4 = mS x0 5 := by rw [step5, h4]; rfl
  have h6 : k1_pay147 (F := Ideal) x0 x1 x2 x3 x4 = mS x0 6 := by rw [step6, h5]; rfl
  exact ⟨h0, h1, h2, h3, h4, h5, h6⟩

set_option maxHeartbeats 2000000 in
theorem raw1_5 : out1_5 (F := Ideal) x0 x1 x2 x3 x4 = View.canon [⟨r1_1, mboxes
      (mrow (mtab x1) (mtab x2) (mtab x3) (mtab x4) (k1_pay120 (F := Ideal) x0 x1 x2 x3 x4))
      (mrow (mtab x1) (mtab x2) (mtab x3) (mtab x4) (k1_pay128 (F := Ideal) x0 x1 x2 x3 x4))
      (mrow (mtab x1) (mtab x2) (mtab x3) (mtab x4) (k1_pay133 (F := Ideal) x0 x1 x2 x3 x4))
      (mrow (mtab x1) (mtab x2) (mtab x3) (mtab x4) (k1_pay136 (F := Ideal) x0 x1 x2 x3 x4))
      (mrow (mtab x1) (mtab x2) (mtab x3) (mtab x4) (k1_pay139 (F := Ideal) x0 x1 x2 x3 x4))
      (mrow (mtab x1) (mtab x2) (mtab x3) (mtab x4) (k1_pay142 (F := Ideal) x0 x1 x2 x3 x4))
      (mrow (mtab x1) (mtab x2) (mtab x3) (mtab x4) (k1_pay147 (F := Ideal) x0 x1 x2 x3 x4))
      (mrow (mtab x1) (mtab x2) (mtab x3) (mtab x4) (mnext (k1_pay147 (F := Ideal) x0 x1 x2 x3 x4)))⟩] := rfl
set_option maxHeartbeats 2000000 in
theorem raw1_6 : out1_6 (F := Ideal) x0 x1 x2 x3 x4 = View.canon [⟨r1_2, k1_pay117
      (mscore (k1_pay120 (F := Ideal) x0 x1 x2 x3 x4))
      (mscore (k1_pay128 (F := Ideal) x0 x1 x2 x3 x4))
      (mscore (k1_pay133 (F := Ideal) x0 x1 x2 x3 x4))
      (mscore (k1_pay136 (F := Ideal) x0 x1 x2 x3 x4))
      (mscore (k1_pay139 (F := Ideal) x0 x1 x2 x3 x4))
      (mscore (k1_pay142 (F := Ideal) x0 x1 x2 x3 x4))
      (mscore (k1_pay147 (F := Ideal) x0 x1 x2 x3 x4))
      (mscore (mnext (k1_pay147 (F := Ideal) x0 x1 x2 x3 x4)))⟩] := rfl
set_option maxHeartbeats 2000000 in
theorem raw1_7 : out1_7 (F := Ideal) x0 x1 x2 x3 x4 = View.canon [⟨r1_2, k1_pay118
      (mclass (k1_pay120 (F := Ideal) x0 x1 x2 x3 x4))
      (mclass (k1_pay128 (F := Ideal) x0 x1 x2 x3 x4))
      (mclass (k1_pay133 (F := Ideal) x0 x1 x2 x3 x4))
      (mclass (k1_pay136 (F := Ideal) x0 x1 x2 x3 x4))
      (mclass (k1_pay139 (F := Ideal) x0 x1 x2 x3 x4))
      (mclass (k1_pay142 (F := Ideal) x0 x1 x2 x3 x4))
      (mclass (k1_pay147 (F := Ideal) x0 x1 x2 x3 x4))
      (mclass (mnext (k1_pay147 (F := Ideal) x0 x1 x2 x3 x4)))⟩] := rfl
set_option maxHeartbeats 2000000 in
theorem raw1_8 : out1_8 (F := Ideal) x0 x1 x2 x3 x4 = View.canon [⟨r1_3, k1_pay1 (k1_pay119
      (mflag (k1_pay120 (F := Ideal) x0 x1 x2 x3 x4))
      (mflag (k1_pay128 (F := Ideal) x0 x1 x2 x3 x4))
      (mflag (k1_pay133 (F := Ideal) x0 x1 x2 x3 x4))
      (mflag (k1_pay136 (F := Ideal) x0 x1 x2 x3 x4))
      (mflag (k1_pay139 (F := Ideal) x0 x1 x2 x3 x4))
      (mflag (k1_pay142 (F := Ideal) x0 x1 x2 x3 x4))
      (mflag (k1_pay147 (F := Ideal) x0 x1 x2 x3 x4))
      (mflag (mnext (k1_pay147 (F := Ideal) x0 x1 x2 x3 x4))))⟩] := rfl

/-- The place the round selects. -/
def pick (r : Nat) : Fin 640 := amax (mergeRounds (btab x0) r)

/-- Whether the score the round selects is positive. -/
def good (r : Nat) : Prop := 0 < mergeRounds (btab x0) r (pick x0 r)

instance (r : Nat) : Decidable (good x0 r) := inferInstanceAs (Decidable (0 < mergeRounds (btab x0) r (pick x0 r)))

/-- The boxes the rounds give. -/
theorem out1_5_at (r : Fin 8) (e : Fin 4) : out1_5 (F := Ideal) x0 x1 x2 x3 x4 (ix3 0 r e)
    = min 1 (max 0 (if good x0 r.val then (![btab x1, btab x2, btab x3, btab x4] : Fin 4 → Fin 640 → EReal) e (pick x0 r.val) else 0)) := by
  obtain ⟨h0, h1, h2, h3, h4, h5, h6⟩ := mS_eq x0 x1 x2 x3 x4
  have h7 : mnext (mS x0 6) = mS x0 7 := rfl
  rw [raw1_5, View.canon_unit_zero hz3, mboxes_at, h0, h1, h2, h3, h4, h5, h6, h7]
  simp only [mrow_at, mS_at, mtab_at]
  exact vec8 (fun n => min 1 (max 0 (if good x0 n then (![btab x1, btab x2, btab x3, btab x4] : Fin 4 → Fin 640 → EReal) e (pick x0 n) else 0))) r

/-- The scores the rounds give. -/
theorem out1_6_at (r : Fin 8) : out1_6 (F := Ideal) x0 x1 x2 x3 x4 (ix3 0 0 r) = sel (mergeRounds (btab x0) r.val) := by
  obtain ⟨h0, h1, h2, h3, h4, h5, h6⟩ := mS_eq x0 x1 x2 x3 x4
  have h7 : mnext (mS x0 6) = mS x0 7 := rfl
  rw [raw1_6, View.canon_unit_zero hz3, pay117_at, h0, h1, h2, h3, h4, h5, h6, h7]
  simp only [mscore_at, mS_at]
  exact vec8 (fun n => sel (mergeRounds (btab x0) n)) r

/-- The classes the rounds give. -/
theorem out1_7_at (r : Fin 8) : out1_7 (F := Ideal) x0 x1 x2 x3 x4 (ix3 0 0 r)
    = if good x0 r.val then BitVec.ofNat 32 ((pick x0 r.val).val / 8) else 0#32 := by
  obtain ⟨h0, h1, h2, h3, h4, h5, h6⟩ := mS_eq x0 x1 x2 x3 x4
  have h7 : mnext (mS x0 6) = mS x0 7 := rfl
  rw [raw1_7, View.canon_unit_zero hz3, pay118_at, h0, h1, h2, h3, h4, h5, h6, h7]
  simp only [mclass_at, mS_at]
  exact vec8 (fun n => if good x0 n then BitVec.ofNat 32 ((pick x0 n).val / 8) else 0#32) r

/-- The number of rounds that gave a positive score. -/
theorem out1_8_at : out1_8 (F := Ideal) x0 x1 x2 x3 x4 (ix3 0 0 0)
    = Finset.univ.fold IntOp.addi 0#32 fun r : Fin 8 => if good x0 r.val then 1#32 else 0#32 := by
  obtain ⟨h0, h1, h2, h3, h4, h5, h6⟩ := mS_eq x0 x1 x2 x3 x4
  have h7 : mnext (mS x0 6) = mS x0 7 := rfl
  rw [raw1_8, View.canon_unit_zero hz3, pay1_at, h0, h1, h2, h3, h4, h5, h6, h7]
  refine Finset.fold_congr fun r _ => ?_
  rw [pay119_at]
  simp only [mflag_at, mS_at]
  exact vec8 (fun n => if good x0 n then 1#32 else 0#32) r

end Cert.KernelIdeal.Merge
-- ==== Proof.Spec.lean ====
/-
  What both programs compute, batch by batch: the tables of the selected scores and boxes, and the entries of the greatest scores.
-/
module

public import Idealize.ShloMosaic.Lib.Pointwise
public import proofs.«01_k».proof.Proof.Model

@[expose] public section

noncomputable section

namespace Cert.Nms

open Idealize.ShloMosaic

variable {n : Nat} [NeZero n]

/-- A coordinate of a box by its number. -/
def Boxes.coord (B : Boxes n) (e : Fin 4) (j : Fin n) : EReal := (![B.y1, B.x1, B.y2, B.x2] : Fin 4 → Fin n → EReal) e j

/-- The scores of a class after `r` rounds under a relation of suppression. -/
def left (R : Fin n → Fin n → Prop) (s : Fin n → EReal) (r : Nat) : Fin n → EReal := rounds R (filt s) r

/-- The table of scores under a relation of suppression: at place `8 c + r` what round `r` of class `c` gives. -/
def table (R : Fin n → Fin n → Prop) (sc : Fin 80 → Fin n → EReal) (k : Fin 640) : EReal :=
  sel (left R (sc ⟨k.val / 8, by omega⟩) (k.val % 8))

/-- The box selected at a place. -/
def chosen (R : Fin n → Fin n → Prop) (sc : Fin 80 → Fin n → EReal) (k : Fin 640) : Fin n :=
  amax (left R (sc ⟨k.val / 8, by omega⟩) (k.val % 8))

/-- The place of the `r`-th greatest score of the table. -/
def place (R : Fin n → Fin n → Prop) (sc : Fin 80 → Fin n → EReal) (r : Fin 8) : Fin 640 :=
  topPos (table R sc) ⟨r.val, by omega⟩

/-- The score given at `r`. -/
def outScore (R : Fin n → Fin n → Prop) (sc : Fin 80 → Fin n → EReal) (r : Fin 8) : EReal :=
  if 0 < table R sc (place R sc r) then table R sc (place R sc r) else 0

/-- The box given at `r`, clipped to the unit interval. -/
def outBox (R : Fin n → Fin n → Prop) (B : Boxes n) (sc : Fin 80 → Fin n → EReal) (r : Fin 8) (e : Fin 4) : EReal :=
  min 1 (max 0 (if 0 < table R sc (place R sc r) then B.coord e (chosen R sc (place R sc r)) else 0))

/-- The class given at `r`. -/
def outClass (R : Fin n → Fin n → Prop) (sc : Fin 80 → Fin n → EReal) (r : Fin 8) : BitVec 32 :=
  if 0 < table R sc (place R sc r) then BitVec.ofNat 32 ((place R sc r).val / 8) else 0#32

/-- How many are given. -/
def outValid (R : Fin n → Fin n → Prop) (sc : Fin 80 → Fin n → EReal) : BitVec 32 :=
  Finset.univ.fold IntOp.addi 0#32 fun r : Fin 8 => if 0 < table R sc (place R sc r) then 1#32 else 0#32

/-- The table's entries are not negative. -/
theorem table_nonneg (R : Fin n → Fin n → Prop) (sc : Fin 80 → Fin n → EReal) (k : Fin 640) : 0 ≤ table R sc k := sel_nonneg _

/-- An entry of the table is positive exactly where the selected score is. -/
theorem sel_pos (s : Fin n → EReal) : 0 < sel s ↔ 0 < s (amax s) := by
  unfold sel
  split_ifs with h
  · exact Iff.rfl
  · exact ⟨fun h' => absurd h' (lt_irrefl _), fun h' => absurd h' h⟩

/-- Relations that agree give the same table. -/
theorem table_congr {R R' : Fin n → Fin n → Prop} (h : ∀ i j, R i j ↔ R' i j) : R = R' := by
  funext i j
  exact propext (h i j)

end Cert.Nms
-- ==== Proof.KernelArrays.lean ====
/-
  What the two kernels leave in their arrays, from the contents the launch finds: the tables of the suppression, then the results.
-/
module

public import proofs.«01_k».proof.Proof.KernelOut
public import proofs.«01_k».proof.Proof.MergeOut
public import proofs.«01_k».proof.Proof.Spec
public import proofs.«01_k».proof.Proof.Gen.KernelIdeal.Frame
public import Idealize.ShloMosaic.Lib.Pipeline.ValueKit.Geometry

@[expose] public section

set_option maxRecDepth 16384

noncomputable section

namespace Cert.KernelIdeal.Arrays

open Idealize.ShloMosaic Idealize.ShloMosaic.TcCoe Idealize.SL.Sem
open Cert.KernelIdeal Cert.KernelIdeal.Gen Cert.Nms

/-! ## The merge, of tables of a suppression -/

section Merge

open Cert.KernelIdeal.Merge

variable {n : Nat} [NeZero n] (R : Fin n → Fin n → Prop) (B : Boxes n) (sc : Fin 80 → Fin n → EReal)
variable (x0 x1 x2 x3 x4 : Vec Ideal S1x80x8 .f32)

/-- The blocks hold the tables of the suppression `R` of the boxes `B` and scores `sc`. -/
def Tables : Prop := btab x0 = table R sc ∧
  ∀ e k, (![btab x1, btab x2, btab x3, btab x4] : Fin 4 → Fin 640 → EReal) e k = B.coord e (chosen R sc k)

variable {R B sc x0 x1 x2 x3 x4}

theorem pick_eq (h : Tables R B sc x0 x1 x2 x3 x4) (r : Fin 8) : pick x0 r.val = place R sc r := by
  unfold pick place
  rw [h.1]
  exact (merge_eq_topPos (table R sc) (table_nonneg R sc) r.val (by omega)).1

theorem rounds_eq (h : Tables R B sc x0 x1 x2 x3 x4) (r : Fin 8) :
    mergeRounds (btab x0) r.val (place R sc r) = table R sc (place R sc r) := by
  rw [h.1]
  exact (merge_eq_topPos (table R sc) (table_nonneg R sc) r.val (by omega)).2

theorem good_iff (h : Tables R B sc x0 x1 x2 x3 x4) (r : Fin 8) : good x0 r.val ↔ 0 < table R sc (place R sc r) := by
  unfold good
  rw [pick_eq h, rounds_eq h]

theorem box_eq (h : Tables R B sc x0 x1 x2 x3 x4) (r : Fin 8) (e : Fin 4) :
    out1_5 (F := Ideal) x0 x1 x2 x3 x4 (ix3 0 r e) = outBox R B sc r e := by
  rw [out1_5_at, h.2, pick_eq h]
  unfold outBox
  exact congrArg (fun v => min 1 (max 0 v)) (if_congr (good_iff h r) rfl rfl)

theorem score_eq (h : Tables R B sc x0 x1 x2 x3 x4) (r : Fin 8) :
    out1_6 (F := Ideal) x0 x1 x2 x3 x4 (ix3 0 0 r) = outScore R sc r := by
  rw [out1_6_at]
  show (if 0 < mergeRounds (btab x0) r.val (pick x0 r.val) then mergeRounds (btab x0) r.val (pick x0 r.val) else 0) = _
  rw [pick_eq h, rounds_eq h]
  rfl

theorem class_eq (h : Tables R B sc x0 x1 x2 x3 x4) (r : Fin 8) :
    out1_7 (F := Ideal) x0 x1 x2 x3 x4 (ix3 0 0 r) = outClass R sc r := by
  rw [out1_7_at, pick_eq h]
  exact if_congr (good_iff h r) rfl rfl

theorem valid_eq (h : Tables R B sc x0 x1 x2 x3 x4) :
    out1_8 (F := Ideal) x0 x1 x2 x3 x4 (ix3 0 0 0) = outValid R sc := by
  rw [out1_8_at]
  exact Finset.fold_congr fun r _ => if_congr (good_iff h r) rfl rfl

end Merge

/-! ## Region 0: the tables -/

section Region0

variable (V : (c : Dev nD) → (b : Ref sig .tc) → Buf (Elt Ideal) ((c : Thread nD τ).loc b))

/-- A point's batch. -/
def bat (t : Fin cfg0.N) : Fin 4 := grid0.coords t 0

/-- A point's class, of its place in the block of forty. -/
def clsAt (t : Fin cfg0.N) (k : Fin 40) : Fin 80 :=
  ⟨(grid0.coords t 1).val * 40 + k.val, by have h : (grid0.coords t 1).val < 2 := (grid0.coords t 1).isLt; omega⟩

theorem idx0 : ∀ t : Fin cfg0.N, win0_0.index t (0 : Fin 3) = (bat t).val ∧ win0_0.index t (1 : Fin 3) = 0 ∧ win0_0.index t (2 : Fin 3) = 0 :=
  (by decide +kernel : ∀ t : Fin grid0.N, _)
theorem idx1 : ∀ t : Fin cfg0.N, win0_1.index t (0 : Fin 3) = (bat t).val ∧ win0_1.index t (1 : Fin 3) = (grid0.coords t 1).val ∧ win0_1.index t (2 : Fin 3) = 0 :=
  (by decide +kernel : ∀ t : Fin grid0.N, _)
theorem idx2 : ∀ t : Fin cfg0.N, win0_2.index t (0 : Fin 3) = (bat t).val ∧ win0_2.index t (1 : Fin 3) = (grid0.coords t 1).val ∧ win0_2.index t (2 : Fin 3) = 0 :=
  (by decide +kernel : ∀ t : Fin grid0.N, _)
theorem idx3 : ∀ t : Fin cfg0.N, win0_3.index t (0 : Fin 3) = (bat t).val ∧ win0_3.index t (1 : Fin 3) = (grid0.coords t 1).val ∧ win0_3.index t (2 : Fin 3) = 0 :=
  (by decide +kernel : ∀ t : Fin grid0.N, _)
theorem idx4 : ∀ t : Fin cfg0.N, win0_4.index t (0 : Fin 3) = (bat t).val ∧ win0_4.index t (1 : Fin 3) = (grid0.coords t 1).val ∧ win0_4.index t (2 : Fin 3) = 0 :=
  (by decide +kernel : ∀ t : Fin grid0.N, _)
theorem idx5 : ∀ t : Fin cfg0.N, win0_5.index t (0 : Fin 3) = (bat t).val ∧ win0_5.index t (1 : Fin 3) = (grid0.coords t 1).val ∧ win0_5.index t (2 : Fin 3) = 0 :=
  (by decide +kernel : ∀ t : Fin grid0.N, _)
theorem idx6 : ∀ t : Fin cfg0.N, win0_6.index t (0 : Fin 3) = (bat t).val ∧ win0_6.index t (1 : Fin 3) = (grid0.coords t 1).val ∧ win0_6.index t (2 : Fin 3) = 0 :=
  (by decide +kernel : ∀ t : Fin grid0.N, _)

theorem emb0_0 (t : Fin cfg0.N) (e : Fin 4) (j : Fin 20000) : ((cfg0.win 0).blk t).view.emb (ix3 (0 : Fin 1) e j) = (ix3 (bat t) e j : S4x4x20000.Idx) := by
  obtain ⟨e0, e1, e2⟩ := idx0 t
  funext a
  apply Fin.ext
  match a with
  | ⟨0, _⟩ => show win0_0.index t (0 : Fin 3) * 1 + 1 * 0 = (bat t).val; omega
  | ⟨1, _⟩ => show win0_0.index t (1 : Fin 3) * 4 + 1 * e.val = e.val; omega
  | ⟨2, _⟩ => show win0_0.index t (2 : Fin 3) * 20000 + 1 * j.val = j.val; omega

theorem emb0_1 (t : Fin cfg0.N) (k : Fin 40) (j : Fin 20000) : ((cfg0.win 1).blk t).view.emb (ix3 (0 : Fin 1) k j) = (ix3 (bat t) (clsAt t k) j : S4x80x20000.Idx) := by
  obtain ⟨e0, e1, e2⟩ := idx1 t
  funext a
  apply Fin.ext
  match a with
  | ⟨0, _⟩ => show win0_1.index t (0 : Fin 3) * 1 + 1 * 0 = (bat t).val; omega
  | ⟨1, _⟩ => show win0_1.index t (1 : Fin 3) * 40 + 1 * k.val = (grid0.coords t 1).val * 40 + k.val; omega
  | ⟨2, _⟩ => show win0_1.index t (2 : Fin 3) * 20000 + 1 * j.val = j.val; omega

theorem emb0_2 (t : Fin cfg0.N) (k : Fin 40) (r : Fin 8) : ((cfg0.win 2).blk t).view.emb (ix3 (0 : Fin 1) k r) = (ix3 (bat t) (clsAt t k) r : S4x80x8.Idx) := by
  obtain ⟨e0, e1, e2⟩ := idx2 t
  funext a
  apply Fin.ext
  match a with
  | ⟨0, _⟩ => show win0_2.index t (0 : Fin 3) * 1 + 1 * 0 = (bat t).val; omega
  | ⟨1, _⟩ => show win0_2.index t (1 : Fin 3) * 40 + 1 * k.val = (grid0.coords t 1).val * 40 + k.val; omega
  | ⟨2, _⟩ => show win0_2.index t (2 : Fin 3) * 8 + 1 * r.val = r.val; omega

theorem emb0_3 (t : Fin cfg0.N) (k : Fin 40) (r : Fin 8) : ((cfg0.win 3).blk t).view.emb (ix3 (0 : Fin 1) k r) = (ix3 (bat t) (clsAt t k) r : S4x80x8.Idx) := by
  obtain ⟨e0, e1, e2⟩ := idx3 t
  funext a
  apply Fin.ext
  match a with
  | ⟨0, _⟩ => show win0_3.index t (0 : Fin 3) * 1 + 1 * 0 = (bat t).val; omega
  | ⟨1, _⟩ => show win0_3.index t (1 : Fin 3) * 40 + 1 * k.val = (grid0.coords t 1).val * 40 + k.val; omega
  | ⟨2, _⟩ => show win0_3.index t (2 : Fin 3) * 8 + 1 * r.val = r.val; omega

theorem emb0_4 (t : Fin cfg0.N) (k : Fin 40) (r : Fin 8) : ((cfg0.win 4).blk t).view.emb (ix3 (0 : Fin 1) k r) = (ix3 (bat t) (clsAt t k) r : S4x80x8.Idx) := by
  obtain ⟨e0, e1, e2⟩ := idx4 t
  funext a
  apply Fin.ext
  match a with
  | ⟨0, _⟩ => show win0_4.index t (0 : Fin 3) * 1 + 1 * 0 = (bat t).val; omega
  | ⟨1, _⟩ => show win0_4.index t (1 : Fin 3) * 40 + 1 * k.val = (grid0.coords t 1).val * 40 + k.val; omega
  | ⟨2, _⟩ => show win0_4.index t (2 : Fin 3) * 8 + 1 * r.val = r.val; omega

theorem emb0_5 (t : Fin cfg0.N) (k : Fin 40) (r : Fin 8) : ((cfg0.win 5).blk t).view.emb (ix3 (0 : Fin 1) k r) = (ix3 (bat t) (clsAt t k) r : S4x80x8.Idx) := by
  obtain ⟨e0, e1, e2⟩ := idx5 t
  funext a
  apply Fin.ext
  match a with
  | ⟨0, _⟩ => show win0_5.index t (0 : Fin 3) * 1 + 1 * 0 = (bat t).val; omega
  | ⟨1, _⟩ => show win0_5.index t (1 : Fin 3) * 40 + 1 * k.val = (grid0.coords t 1).val * 40 + k.val; omega
  | ⟨2, _⟩ => show win0_5.index t (2 : Fin 3) * 8 + 1 * r.val = r.val; omega

theorem emb0_6 (t : Fin cfg0.N) (k : Fin 40) (r : Fin 8) : ((cfg0.win 6).blk t).view.emb (ix3 (0 : Fin 1) k r) = (ix3 (bat t) (clsAt t k) r : S4x80x8.Idx) := by
  obtain ⟨e0, e1, e2⟩ := idx6 t
  funext a
  apply Fin.ext
  match a with
  | ⟨0, _⟩ => show win0_6.index t (0 : Fin 3) * 1 + 1 * 0 = (bat t).val; omega
  | ⟨1, _⟩ => show win0_6.index t (1 : Fin 3) * 40 + 1 * k.val = (grid0.coords t 1).val * 40 + k.val; omega
  | ⟨2, _⟩ => show win0_6.index t (2 : Fin 3) * 8 + 1 * r.val = r.val; omega

/-- The boxes of a batch, of the array that holds them coordinate by coordinate. -/
def kboxes (X0 : Vec Ideal S4x4x20000 .f32) (b : Fin 4) : Boxes 20000 := canon fun j e => X0 (ix3 b e j)

/-- The scores of a batch, class by class. -/
def kscores (X1 : Vec Ideal S4x80x20000 .f32) (b : Fin 4) (c : Fin 80) (j : Fin 20000) : EReal := X1 (ix3 b c j)

/-- The scores of a class of a batch after `r` rounds. -/
def kleft (X0 : Vec Ideal S4x4x20000 .f32) (X1 : Vec Ideal S4x80x20000 .f32) (b : Fin 4) (c : Fin 80) (r : Nat) : Fin 20000 → EReal :=
  left (kboxes X0 b).supK (kscores X1 b c) r

theorem kbox_eq (c : Dev nD) (t : Fin cfg0.N) : Nms.kbox (iblk0 V c 0 t) = kboxes (V c main_v1) (bat t) := by
  unfold Nms.kbox kboxes
  refine congrArg canon ?_
  funext j e
  show V c main_v1 (((cfg0.win 0).blk t).view.emb (ix3 (0 : Fin 1) e j)) = _
  rw [emb0_0]

theorem kscore_eq (c : Dev nD) (t : Fin cfg0.N) (k : Fin 40) (r : Nat) :
    Nms.kscore (iblk0 V c 0 t) (iblk0 V c 1 t) k r = kleft (V c main_v1) (V c main_v2) (bat t) (clsAt t k) r := by
  unfold Nms.kscore kleft left
  rw [kbox_eq]
  refine congrArg (fun s => rounds (kboxes (V c main_v1) (bat t)).supK (filt s) r) ?_
  funext j
  show V c main_v2 (((cfg0.win 1).blk t).view.emb (ix3 (0 : Fin 1) k j)) = _
  rw [emb0_1]
  rfl

/-- The table of scores. -/
def tab2 (X0 : Vec Ideal S4x4x20000 .f32) (X1 : Vec Ideal S4x80x20000 .f32) : Vec Ideal S4x80x8 .f32 := fun i => sel (kleft X0 X1 (i 0) (i 1) (i 2).val)

theorem final0_2 (c : Dev nD) : (dat0 (F := Ideal) V c).arrAt 2 cfg0.N = tab2 (V c main_v1) (V c main_v2) := by
  refine (dat0 (F := Ideal) V c).arrAt_eq_of_covers 2 (tab2 (V c main_v1) (V c main_v2)) (by decide +kernel) fun t hf y => ?_
  obtain ⟨k, r, rfl⟩ : ∃ (k : Fin 40) (r : Fin 8), y = ix3 (0 : Fin 1) k r := ⟨y 1, y 2, by
    refine (eq_ix3 (n0 := 1) (n1 := 40) (n2 := 8) y).trans ?_
    exact congrArg (fun z : Fin 1 => ix3 z (y 1) (y 2)) (Subsingleton.elim _ _)⟩
  rw [emb0_2]
  show (dat0 (F := Ideal) V c).after 2 t (ix3 (0 : Fin 1) k r) = _
  rw [after0_2, Nms.out0_2_at, kscore_eq]
  rfl

/-- The table of coordinates y1. -/
def tab3 (X0 : Vec Ideal S4x4x20000 .f32) (X1 : Vec Ideal S4x80x20000 .f32) : Vec Ideal S4x80x8 .f32 := fun i => (kboxes X0 (i 0)).y1 (amax (kleft X0 X1 (i 0) (i 1) (i 2).val))

theorem final0_3 (c : Dev nD) : (dat0 (F := Ideal) V c).arrAt 3 cfg0.N = tab3 (V c main_v1) (V c main_v2) := by
  refine (dat0 (F := Ideal) V c).arrAt_eq_of_covers 3 (tab3 (V c main_v1) (V c main_v2)) (by decide +kernel) fun t hf y => ?_
  obtain ⟨k, r, rfl⟩ : ∃ (k : Fin 40) (r : Fin 8), y = ix3 (0 : Fin 1) k r := ⟨y 1, y 2, by
    refine (eq_ix3 (n0 := 1) (n1 := 40) (n2 := 8) y).trans ?_
    exact congrArg (fun z : Fin 1 => ix3 z (y 1) (y 2)) (Subsingleton.elim _ _)⟩
  rw [emb0_3]
  show (dat0 (F := Ideal) V c).after 3 t (ix3 (0 : Fin 1) k r) = _
  rw [after0_3, Nms.out0_3_at, kbox_eq, kscore_eq]
  rfl

/-- The table of coordinates x1. -/
def tab4 (X0 : Vec Ideal S4x4x20000 .f32) (X1 : Vec Ideal S4x80x20000 .f32) : Vec Ideal S4x80x8 .f32 := fun i => (kboxes X0 (i 0)).x1 (amax (kleft X0 X1 (i 0) (i 1) (i 2).val))

theorem final0_4 (c : Dev nD) : (dat0 (F := Ideal) V c).arrAt 4 cfg0.N = tab4 (V c main_v1) (V c main_v2) := by
  refine (dat0 (F := Ideal) V c).arrAt_eq_of_covers 4 (tab4 (V c main_v1) (V c main_v2)) (by decide +kernel) fun t hf y => ?_
  obtain ⟨k, r, rfl⟩ : ∃ (k : Fin 40) (r : Fin 8), y = ix3 (0 : Fin 1) k r := ⟨y 1, y 2, by
    refine (eq_ix3 (n0 := 1) (n1 := 40) (n2 := 8) y).trans ?_
    exact congrArg (fun z : Fin 1 => ix3 z (y 1) (y 2)) (Subsingleton.elim _ _)⟩
  rw [emb0_4]
  show (dat0 (F := Ideal) V c).after 4 t (ix3 (0 : Fin 1) k r) = _
  rw [after0_4, Nms.out0_4_at, kbox_eq, kscore_eq]
  rfl

/-- The table of coordinates y2. -/
def tab5 (X0 : Vec Ideal S4x4x20000 .f32) (X1 : Vec Ideal S4x80x20000 .f32) : Vec Ideal S4x80x8 .f32 := fun i => (kboxes X0 (i 0)).y2 (amax (kleft X0 X1 (i 0) (i 1) (i 2).val))

theorem final0_5 (c : Dev nD) : (dat0 (F := Ideal) V c).arrAt 5 cfg0.N = tab5 (V c main_v1) (V c main_v2) := by
  refine (dat0 (F := Ideal) V c).arrAt_eq_of_covers 5 (tab5 (V c main_v1) (V c main_v2)) (by decide +kernel) fun t hf y => ?_
  obtain ⟨k, r, rfl⟩ : ∃ (k : Fin 40) (r : Fin 8), y = ix3 (0 : Fin 1) k r := ⟨y 1, y 2, by
    refine (eq_ix3 (n0 := 1) (n1 := 40) (n2 := 8) y).trans ?_
    exact congrArg (fun z : Fin 1 => ix3 z (y 1) (y 2)) (Subsingleton.elim _ _)⟩
  rw [emb0_5]
  show (dat0 (F := Ideal) V c).after 5 t (ix3 (0 : Fin 1) k r) = _
  rw [after0_5, Nms.out0_5_at, kbox_eq, kscore_eq]
  rfl

/-- The table of coordinates x2. -/
def tab6 (X0 : Vec Ideal S4x4x20000 .f32) (X1 : Vec Ideal S4x80x20000 .f32) : Vec Ideal S4x80x8 .f32 := fun i => (kboxes X0 (i 0)).x2 (amax (kleft X0 X1 (i 0) (i 1) (i 2).val))

theorem final0_6 (c : Dev nD) : (dat0 (F := Ideal) V c).arrAt 6 cfg0.N = tab6 (V c main_v1) (V c main_v2) := by
  refine (dat0 (F := Ideal) V c).arrAt_eq_of_covers 6 (tab6 (V c main_v1) (V c main_v2)) (by decide +kernel) fun t hf y => ?_
  obtain ⟨k, r, rfl⟩ : ∃ (k : Fin 40) (r : Fin 8), y = ix3 (0 : Fin 1) k r := ⟨y 1, y 2, by
    refine (eq_ix3 (n0 := 1) (n1 := 40) (n2 := 8) y).trans ?_
    exact congrArg (fun z : Fin 1 => ix3 z (y 1) (y 2)) (Subsingleton.elim _ _)⟩
  rw [emb0_6]
  show (dat0 (F := Ideal) V c).after 6 t (ix3 (0 : Fin 1) k r) = _
  rw [after0_6, Nms.out0_6_at, kbox_eq, kscore_eq]
  rfl

end Region0

/-! ## Region 1: the results -/

section Region1

variable (V : (c : Dev nD) → (b : Ref sig .tc) → Buf (Elt Ideal) ((c : Thread nD τ).loc b))

/-- A point's batch. -/
def bat1 (t : Fin cfg1.N) : Fin 4 := grid1.coords t 0

theorem idy0 : ∀ t : Fin cfg1.N, win1_0.index t (0 : Fin 3) = (bat1 t).val ∧ win1_0.index t (1 : Fin 3) = 0 ∧ win1_0.index t (2 : Fin 3) = 0 :=
  (by decide +kernel : ∀ t : Fin grid1.N, _)
theorem idy1 : ∀ t : Fin cfg1.N, win1_1.index t (0 : Fin 3) = (bat1 t).val ∧ win1_1.index t (1 : Fin 3) = 0 ∧ win1_1.index t (2 : Fin 3) = 0 :=
  (by decide +kernel : ∀ t : Fin grid1.N, _)
theorem idy2 : ∀ t : Fin cfg1.N, win1_2.index t (0 : Fin 3) = (bat1 t).val ∧ win1_2.index t (1 : Fin 3) = 0 ∧ win1_2.index t (2 : Fin 3) = 0 :=
  (by decide +kernel : ∀ t : Fin grid1.N, _)
theorem idy3 : ∀ t : Fin cfg1.N, win1_3.index t (0 : Fin 3) = (bat1 t).val ∧ win1_3.index t (1 : Fin 3) = 0 ∧ win1_3.index t (2 : Fin 3) = 0 :=
  (by decide +kernel : ∀ t : Fin grid1.N, _)
theorem idy4 : ∀ t : Fin cfg1.N, win1_4.index t (0 : Fin 3) = (bat1 t).val ∧ win1_4.index t (1 : Fin 3) = 0 ∧ win1_4.index t (2 : Fin 3) = 0 :=
  (by decide +kernel : ∀ t : Fin grid1.N, _)
theorem idy5 : ∀ t : Fin cfg1.N, win1_5.index t (0 : Fin 3) = (bat1 t).val ∧ win1_5.index t (1 : Fin 3) = 0 ∧ win1_5.index t (2 : Fin 3) = 0 :=
  (by decide +kernel : ∀ t : Fin grid1.N, _)
theorem idy6 : ∀ t : Fin cfg1.N, win1_6.index t (0 : Fin 3) = (bat1 t).val ∧ win1_6.index t (1 : Fin 3) = 0 ∧ win1_6.index t (2 : Fin 3) = 0 :=
  (by decide +kernel : ∀ t : Fin grid1.N, _)
theorem idy7 : ∀ t : Fin cfg1.N, win1_7.index t (0 : Fin 3) = (bat1 t).val ∧ win1_7.index t (1 : Fin 3) = 0 ∧ win1_7.index t (2 : Fin 3) = 0 :=
  (by decide +kernel : ∀ t : Fin grid1.N, _)
theorem idy8 : ∀ t : Fin cfg1.N, win1_8.index t (0 : Fin 3) = (bat1 t).val ∧ win1_8.index t (1 : Fin 3) = 0 ∧ win1_8.index t (2 : Fin 3) = 0 :=
  (by decide +kernel : ∀ t : Fin grid1.N, _)

theorem emb1_0 (t : Fin cfg1.N) (k : Fin 80) (r : Fin 8) : ((cfg1.win 0).blk t).view.emb (ix3 (0 : Fin 1) k r) = (ix3 (bat1 t) k r : S4x80x8.Idx) := by
  obtain ⟨e0, e1, e2⟩ := idy0 t
  funext a
  apply Fin.ext
  match a with
  | ⟨0, _⟩ => show win1_0.index t (0 : Fin 3) * 1 + 1 * 0 = (bat1 t).val; omega
  | ⟨1, _⟩ => show win1_0.index t (1 : Fin 3) * 80 + 1 * k.val = k.val; omega
  | ⟨2, _⟩ => show win1_0.index t (2 : Fin 3) * 8 + 1 * r.val = r.val; omega

theorem emb1_1 (t : Fin cfg1.N) (k : Fin 80) (r : Fin 8) : ((cfg1.win 1).blk t).view.emb (ix3 (0 : Fin 1) k r) = (ix3 (bat1 t) k r : S4x80x8.Idx) := by
  obtain ⟨e0, e1, e2⟩ := idy1 t
  funext a
  apply Fin.ext
  match a with
  | ⟨0, _⟩ => show win1_1.index t (0 : Fin 3) * 1 + 1 * 0 = (bat1 t).val; omega
  | ⟨1, _⟩ => show win1_1.index t (1 : Fin 3) * 80 + 1 * k.val = k.val; omega
  | ⟨2, _⟩ => show win1_1.index t (2 : Fin 3) * 8 + 1 * r.val = r.val; omega

theorem emb1_2 (t : Fin cfg1.N) (k : Fin 80) (r : Fin 8) : ((cfg1.win 2).blk t).view.emb (ix3 (0 : Fin 1) k r) = (ix3 (bat1 t) k r : S4x80x8.Idx) := by
  obtain ⟨e0, e1, e2⟩ := idy2 t
  funext a
  apply Fin.ext
  match a with
  | ⟨0, _⟩ => show win1_2.index t (0 : Fin 3) * 1 + 1 * 0 = (bat1 t).val; omega
  | ⟨1, _⟩ => show win1_2.index t (1 : Fin 3) * 80 + 1 * k.val = k.val; omega
  | ⟨2, _⟩ => show win1_2.index t (2 : Fin 3) * 8 + 1 * r.val = r.val; omega

theorem emb1_3 (t : Fin cfg1.N) (k : Fin 80) (r : Fin 8) : ((cfg1.win 3).blk t).view.emb (ix3 (0 : Fin 1) k r) = (ix3 (bat1 t) k r : S4x80x8.Idx) := by
  obtain ⟨e0, e1, e2⟩ := idy3 t
  funext a
  apply Fin.ext
  match a with
  | ⟨0, _⟩ => show win1_3.index t (0 : Fin 3) * 1 + 1 * 0 = (bat1 t).val; omega
  | ⟨1, _⟩ => show win1_3.index t (1 : Fin 3) * 80 + 1 * k.val = k.val; omega
  | ⟨2, _⟩ => show win1_3.index t (2 : Fin 3) * 8 + 1 * r.val = r.val; omega

theorem emb1_4 (t : Fin cfg1.N) (k : Fin 80) (r : Fin 8) : ((cfg1.win 4).blk t).view.emb (ix3 (0 : Fin 1) k r) = (ix3 (bat1 t) k r : S4x80x8.Idx) := by
  obtain ⟨e0, e1, e2⟩ := idy4 t
  funext a
  apply Fin.ext
  match a with
  | ⟨0, _⟩ => show win1_4.index t (0 : Fin 3) * 1 + 1 * 0 = (bat1 t).val; omega
  | ⟨1, _⟩ => show win1_4.index t (1 : Fin 3) * 80 + 1 * k.val = k.val; omega
  | ⟨2, _⟩ => show win1_4.index t (2 : Fin 3) * 8 + 1 * r.val = r.val; omega

theorem emb1_5 (t : Fin cfg1.N) (k : Fin 8) (r : Fin 4) : ((cfg1.win 5).blk t).view.emb (ix3 (0 : Fin 1) k r) = (ix3 (bat1 t) k r : S4x8x4.Idx) := by
  obtain ⟨e0, e1, e2⟩ := idy5 t
  funext a
  apply Fin.ext
  match a with
  | ⟨0, _⟩ => show win1_5.index t (0 : Fin 3) * 1 + 1 * 0 = (bat1 t).val; omega
  | ⟨1, _⟩ => show win1_5.index t (1 : Fin 3) * 8 + 1 * k.val = k.val; omega
  | ⟨2, _⟩ => show win1_5.index t (2 : Fin 3) * 4 + 1 * r.val = r.val; omega

theorem emb1_6 (t : Fin cfg1.N) (k : Fin 1) (r : Fin 8) : ((cfg1.win 6).blk t).view.emb (ix3 (0 : Fin 1) k r) = (ix3 (bat1 t) k r : S4x1x8.Idx) := by
  obtain ⟨e0, e1, e2⟩ := idy6 t
  funext a
  apply Fin.ext
  match a with
  | ⟨0, _⟩ => show win1_6.index t (0 : Fin 3) * 1 + 1 * 0 = (bat1 t).val; omega
  | ⟨1, _⟩ => show win1_6.index t (1 : Fin 3) * 1 + 1 * k.val = k.val; omega
  | ⟨2, _⟩ => show win1_6.index t (2 : Fin 3) * 8 + 1 * r.val = r.val; omega

theorem emb1_7 (t : Fin cfg1.N) (k : Fin 1) (r : Fin 8) : ((cfg1.win 7).blk t).view.emb (ix3 (0 : Fin 1) k r) = (ix3 (bat1 t) k r : S4x1x8.Idx) := by
  obtain ⟨e0, e1, e2⟩ := idy7 t
  funext a
  apply Fin.ext
  match a with
  | ⟨0, _⟩ => show win1_7.index t (0 : Fin 3) * 1 + 1 * 0 = (bat1 t).val; omega
  | ⟨1, _⟩ => show win1_7.index t (1 : Fin 3) * 1 + 1 * k.val = k.val; omega
  | ⟨2, _⟩ => show win1_7.index t (2 : Fin 3) * 8 + 1 * r.val = r.val; omega

theorem emb1_8 (t : Fin cfg1.N) (k : Fin 1) (r : Fin 1) : ((cfg1.win 8).blk t).view.emb (ix3 (0 : Fin 1) k r) = (ix3 (bat1 t) k r : S4x1x1.Idx) := by
  obtain ⟨e0, e1, e2⟩ := idy8 t
  funext a
  apply Fin.ext
  match a with
  | ⟨0, _⟩ => show win1_8.index t (0 : Fin 3) * 1 + 1 * 0 = (bat1 t).val; omega
  | ⟨1, _⟩ => show win1_8.index t (1 : Fin 3) * 1 + 1 * k.val = k.val; omega
  | ⟨2, _⟩ => show win1_8.index t (2 : Fin 3) * 1 + 1 * r.val = r.val; omega

/-- The tables of a batch, from arrays that are the tables of the suppression. -/
theorem tables_of (X0 : Vec Ideal S4x4x20000 .f32) (X1 : Vec Ideal S4x80x20000 .f32) (c : Dev nD) (t : Fin cfg1.N)
    (h0 : V c main_v3_0 = tab2 X0 X1)
    (h1 : V c main_v3_1 = tab3 X0 X1)
    (h2 : V c main_v3_2 = tab4 X0 X1)
    (h3 : V c main_v3_3 = tab5 X0 X1)
    (h4 : V c main_v3_4 = tab6 X0 X1) :
    Tables (kboxes X0 (bat1 t)).supK (kboxes X0 (bat1 t)) (kscores X1 (bat1 t)) (iblk1 V c 0 t) (iblk1 V c 1 t) (iblk1 V c 2 t)
      (iblk1 V c 3 t) (iblk1 V c 4 t) := by
  have g0 : ∀ k, Merge.btab (iblk1 V c 0 t) k = tab2 X0 X1 (ix3 (bat1 t) (Merge.cellRow k) (Merge.cellCol k)) := by
    intro k
    show V c main_v3_0 (((cfg1.win 0).blk t).view.emb (ix3 (0 : Fin 1) (Merge.cellRow k) (Merge.cellCol k))) = _
    rw [emb1_0, h0]
  have g1 : ∀ k, Merge.btab (iblk1 V c 1 t) k = tab3 X0 X1 (ix3 (bat1 t) (Merge.cellRow k) (Merge.cellCol k)) := by
    intro k
    show V c main_v3_1 (((cfg1.win 1).blk t).view.emb (ix3 (0 : Fin 1) (Merge.cellRow k) (Merge.cellCol k))) = _
    rw [emb1_1, h1]
  have g2 : ∀ k, Merge.btab (iblk1 V c 2 t) k = tab4 X0 X1 (ix3 (bat1 t) (Merge.cellRow k) (Merge.cellCol k)) := by
    intro k
    show V c main_v3_2 (((cfg1.win 2).blk t).view.emb (ix3 (0 : Fin 1) (Merge.cellRow k) (Merge.cellCol k))) = _
    rw [emb1_2, h2]
  have g3 : ∀ k, Merge.btab (iblk1 V c 3 t) k = tab5 X0 X1 (ix3 (bat1 t) (Merge.cellRow k) (Merge.cellCol k)) := by
    intro k
    show V c main_v3_3 (((cfg1.win 3).blk t).view.emb (ix3 (0 : Fin 1) (Merge.cellRow k) (Merge.cellCol k))) = _
    rw [emb1_3, h3]
  have g4 : ∀ k, Merge.btab (iblk1 V c 4 t) k = tab6 X0 X1 (ix3 (bat1 t) (Merge.cellRow k) (Merge.cellCol k)) := by
    intro k
    show V c main_v3_4 (((cfg1.win 4).blk t).view.emb (ix3 (0 : Fin 1) (Merge.cellRow k) (Merge.cellCol k))) = _
    rw [emb1_4, h4]
  refine ⟨funext fun k => (g0 k).trans rfl, fun e k => ?_⟩
  match e with
  | ⟨0, _⟩ => exact (g1 k).trans rfl
  | ⟨1, _⟩ => exact (g2 k).trans rfl
  | ⟨2, _⟩ => exact (g3 k).trans rfl
  | ⟨3, _⟩ => exact (g4 k).trans rfl

/-- The boxes given. -/
def res5 (X0 : Vec Ideal S4x4x20000 .f32) (X1 : Vec Ideal S4x80x20000 .f32) : Vec Ideal S4x8x4 .f32 := fun i => outBox (kboxes X0 (i 0)).supK (kboxes X0 (i 0)) (kscores X1 (i 0)) (i 1) (i 2)

theorem final1_5 (X0 : Vec Ideal S4x4x20000 .f32) (X1 : Vec Ideal S4x80x20000 .f32) (c : Dev nD)
    (h0 : V c main_v3_0 = tab2 X0 X1) (h1 : V c main_v3_1 = tab3 X0 X1) (h2 : V c main_v3_2 = tab4 X0 X1) (h3 : V c main_v3_3 = tab5 X0 X1) (h4 : V c main_v3_4 = tab6 X0 X1) :
    (dat1 (F := Ideal) V c).arrAt 5 cfg1.N = res5 X0 X1 := by
  refine (dat1 (F := Ideal) V c).arrAt_eq_of_covers 5 (res5 X0 X1) (by decide +kernel) fun t hf y => ?_
  obtain ⟨k, r, rfl⟩ : ∃ (k : Fin 8) (r : Fin 4), y = ix3 (0 : Fin 1) k r := ⟨y 1, y 2, by
    refine (eq_ix3 (n0 := 1) (n1 := 8) (n2 := 4) y).trans ?_
    exact congrArg (fun z : Fin 1 => ix3 z (y 1) (y 2)) (Subsingleton.elim _ _)⟩
  rw [emb1_5]
  show (dat1 (F := Ideal) V c).after 5 t (ix3 (0 : Fin 1) k r) = _
  rw [after1_5, box_eq (tables_of V X0 X1 c t h0 h1 h2 h3 h4)]
  rfl

/-- The scores given. -/
def res6 (X0 : Vec Ideal S4x4x20000 .f32) (X1 : Vec Ideal S4x80x20000 .f32) : Vec Ideal S4x1x8 .f32 := fun i => outScore (kboxes X0 (i 0)).supK (kscores X1 (i 0)) (i 2)

theorem final1_6 (X0 : Vec Ideal S4x4x20000 .f32) (X1 : Vec Ideal S4x80x20000 .f32) (c : Dev nD)
    (h0 : V c main_v3_0 = tab2 X0 X1) (h1 : V c main_v3_1 = tab3 X0 X1) (h2 : V c main_v3_2 = tab4 X0 X1) (h3 : V c main_v3_3 = tab5 X0 X1) (h4 : V c main_v3_4 = tab6 X0 X1) :
    (dat1 (F := Ideal) V c).arrAt 6 cfg1.N = res6 X0 X1 := by
  refine (dat1 (F := Ideal) V c).arrAt_eq_of_covers 6 (res6 X0 X1) (by decide +kernel) fun t hf y => ?_
  obtain ⟨k, r, rfl⟩ : ∃ (k : Fin 1) (r : Fin 8), y = ix3 (0 : Fin 1) k r := ⟨y 1, y 2, by
    refine (eq_ix3 (n0 := 1) (n1 := 1) (n2 := 8) y).trans ?_
    exact congrArg (fun z : Fin 1 => ix3 z (y 1) (y 2)) (Subsingleton.elim _ _)⟩
  rw [emb1_6]
  show (dat1 (F := Ideal) V c).after 6 t (ix3 (0 : Fin 1) k r) = _
  obtain rfl : k = 0 := Subsingleton.elim _ _
  rw [after1_6, score_eq (tables_of V X0 X1 c t h0 h1 h2 h3 h4)]
  rfl

/-- The classes given. -/
def res7 (X0 : Vec Ideal S4x4x20000 .f32) (X1 : Vec Ideal S4x80x20000 .f32) : Vec Ideal S4x1x8 .i32 := fun i => outClass (kboxes X0 (i 0)).supK (kscores X1 (i 0)) (i 2)

theorem final1_7 (X0 : Vec Ideal S4x4x20000 .f32) (X1 : Vec Ideal S4x80x20000 .f32) (c : Dev nD)
    (h0 : V c main_v3_0 = tab2 X0 X1) (h1 : V c main_v3_1 = tab3 X0 X1) (h2 : V c main_v3_2 = tab4 X0 X1) (h3 : V c main_v3_3 = tab5 X0 X1) (h4 : V c main_v3_4 = tab6 X0 X1) :
    (dat1 (F := Ideal) V c).arrAt 7 cfg1.N = res7 X0 X1 := by
  refine (dat1 (F := Ideal) V c).arrAt_eq_of_covers 7 (res7 X0 X1) (by decide +kernel) fun t hf y => ?_
  obtain ⟨k, r, rfl⟩ : ∃ (k : Fin 1) (r : Fin 8), y = ix3 (0 : Fin 1) k r := ⟨y 1, y 2, by
    refine (eq_ix3 (n0 := 1) (n1 := 1) (n2 := 8) y).trans ?_
    exact congrArg (fun z : Fin 1 => ix3 z (y 1) (y 2)) (Subsingleton.elim _ _)⟩
  rw [emb1_7]
  show (dat1 (F := Ideal) V c).after 7 t (ix3 (0 : Fin 1) k r) = _
  obtain rfl : k = 0 := Subsingleton.elim _ _
  rw [after1_7, class_eq (tables_of V X0 X1 c t h0 h1 h2 h3 h4)]
  rfl

/-- The numbers of results given. -/
def res8 (X0 : Vec Ideal S4x4x20000 .f32) (X1 : Vec Ideal S4x80x20000 .f32) : Vec Ideal S4x1x1 .i32 := fun i => outValid (kboxes X0 (i 0)).supK (kscores X1 (i 0))

theorem final1_8 (X0 : Vec Ideal S4x4x20000 .f32) (X1 : Vec Ideal S4x80x20000 .f32) (c : Dev nD)
    (h0 : V c main_v3_0 = tab2 X0 X1) (h1 : V c main_v3_1 = tab3 X0 X1) (h2 : V c main_v3_2 = tab4 X0 X1) (h3 : V c main_v3_3 = tab5 X0 X1) (h4 : V c main_v3_4 = tab6 X0 X1) :
    (dat1 (F := Ideal) V c).arrAt 8 cfg1.N = res8 X0 X1 := by
  refine (dat1 (F := Ideal) V c).arrAt_eq_of_covers 8 (res8 X0 X1) (by decide +kernel) fun t hf y => ?_
  obtain ⟨k, r, rfl⟩ : ∃ (k : Fin 1) (r : Fin 1), y = ix3 (0 : Fin 1) k r := ⟨y 1, y 2, by
    refine (eq_ix3 (n0 := 1) (n1 := 1) (n2 := 1) y).trans ?_
    exact congrArg (fun z : Fin 1 => ix3 z (y 1) (y 2)) (Subsingleton.elim _ _)⟩
  rw [emb1_8]
  show (dat1 (F := Ideal) V c).after 8 t (ix3 (0 : Fin 1) k r) = _
  obtain rfl : k = 0 := Subsingleton.elim _ _
  obtain rfl : r = 0 := Subsingleton.elim _ _
  rw [after1_8, valid_eq (tables_of V X0 X1 c t h0 h1 h2 h3 h4)]
  rfl

end Region1

end Cert.KernelIdeal.Arrays
-- ==== Proof.KernelRun.lean ====
/-
  The kernel's run: what its four result arrays end as, from the contents of its arguments.
-/
module

public import proofs.«01_k».proof.Proof.KernelArrays

@[expose] public section

set_option maxRecDepth 16384

noncomputable section

namespace Cert.KernelIdeal.Arrays

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Nms

local notation "𝕄" => MT nD τ sig Unit (Elt Ideal) ℕ (UR sig nD τ) ℕ

variable (m : (ℓ : Loc nD τ sig) → Buf (Elt Ideal) ℓ) (ρ : Dev nD → PrngReg)

/-- The boxes as the first kernel takes them: the argument's, coordinate by coordinate. -/
def boxIn (c : Dev nD) : Vec Ideal S4x4x20000 .f32 :=
  transpose S4x4x20000 [0, 2, 1] (shapeCast S4x20000x4 (m ((c.tc : Thread nD τ).loc main_arg0) : Vec Ideal S4x20000x1x4 .f32) shapeCasts_S4x20000x1x4_S4x20000x4)
    transposes_S4x20000x4_S4x4x20000_0_2_1

/-- The scores as the first kernel takes them: the argument's, class by class. -/
def scoreIn (c : Dev nD) : Vec Ideal S4x80x20000 .f32 :=
  transpose S4x80x20000 [0, 2, 1] (m ((c.tc : Thread nD τ).loc main_arg1) : Vec Ideal S4x20000x80 .f32) transposes_S4x20000x80_S4x80x20000_0_2_1

theorem V1_boxes (c : Dev nD) : V1 (F := Ideal) m ρ c main_v1 = boxIn m c := by
  show StableHlo.after hostOps0 (W0 m ρ c) (Proc.devRef .tc main_v1) = _
  after_results
  rfl

theorem V1_scores (c : Dev nD) : V1 (F := Ideal) m ρ c main_v2 = scoreIn m c := by
  show StableHlo.after hostOps0 (W0 m ρ c) (Proc.devRef .tc main_v2) = _
  after_results
  rfl

theorem V2_0 (c : Dev nD) : V2 (F := Ideal) m ρ c main_v3_0 = tab2 (boxIn m c) (scoreIn m c) := by
  refine (W2_arr m ρ c 2).trans ?_
  rw [final0_2, V1_boxes, V1_scores]

theorem V2_1 (c : Dev nD) : V2 (F := Ideal) m ρ c main_v3_1 = tab3 (boxIn m c) (scoreIn m c) := by
  refine (W2_arr m ρ c 3).trans ?_
  rw [final0_3, V1_boxes, V1_scores]

theorem V2_2 (c : Dev nD) : V2 (F := Ideal) m ρ c main_v3_2 = tab4 (boxIn m c) (scoreIn m c) := by
  refine (W2_arr m ρ c 4).trans ?_
  rw [final0_4, V1_boxes, V1_scores]

theorem V2_3 (c : Dev nD) : V2 (F := Ideal) m ρ c main_v3_3 = tab5 (boxIn m c) (scoreIn m c) := by
  refine (W2_arr m ρ c 5).trans ?_
  rw [final0_5, V1_boxes, V1_scores]

theorem V2_4 (c : Dev nD) : V2 (F := Ideal) m ρ c main_v3_4 = tab6 (boxIn m c) (scoreIn m c) := by
  refine (W2_arr m ρ c 6).trans ?_
  rw [final0_6, V1_boxes, V1_scores]

theorem V3_5 (c : Dev nD) : W3 (F := Ideal) m ρ c (Proc.devRef .tc main_v4_0) = res5 (boxIn m c) (scoreIn m c) :=
  (W3_arr m ρ c 5).trans (final1_5 (V2 m ρ) (boxIn m c) (scoreIn m c) c (V2_0 m ρ c) (V2_1 m ρ c) (V2_2 m ρ c) (V2_3 m ρ c) (V2_4 m ρ c))

theorem V3_6 (c : Dev nD) : W3 (F := Ideal) m ρ c (Proc.devRef .tc main_v4_1) = res6 (boxIn m c) (scoreIn m c) :=
  (W3_arr m ρ c 6).trans (final1_6 (V2 m ρ) (boxIn m c) (scoreIn m c) c (V2_0 m ρ c) (V2_1 m ρ c) (V2_2 m ρ c) (V2_3 m ρ c) (V2_4 m ρ c))

theorem V3_7 (c : Dev nD) : W3 (F := Ideal) m ρ c (Proc.devRef .tc main_v4_2) = res7 (boxIn m c) (scoreIn m c) :=
  (W3_arr m ρ c 7).trans (final1_7 (V2 m ρ) (boxIn m c) (scoreIn m c) c (V2_0 m ρ c) (V2_1 m ρ c) (V2_2 m ρ c) (V2_3 m ρ c) (V2_4 m ρ c))

theorem V3_8 (c : Dev nD) : W3 (F := Ideal) m ρ c (Proc.devRef .tc main_v4_3) = res8 (boxIn m c) (scoreIn m c) :=
  (W3_arr m ρ c 8).trans (final1_8 (V2 m ρ) (boxIn m c) (scoreIn m c) c (V2_0 m ρ c) (V2_1 m ρ c) (V2_2 m ρ c) (V2_3 m ρ c) (V2_4 m ρ c))

/-- The boxes given. -/
theorem W4_boxes (c : Dev nD) : W4 (F := Ideal) m ρ c (Proc.devRef .tc main_v4_0) = res5 (boxIn m c) (scoreIn m c) :=
  (W4_of m ρ c main_v4_0 (by decide)).trans (V3_5 m ρ c)

/-- The scores given. -/
theorem W4_scores (c : Dev nD) : W4 (F := Ideal) m ρ c (Proc.devRef .tc main_v5) = shapeCast S4x8 (res6 (boxIn m c) (scoreIn m c)) shapeCasts_S4x1x8_S4x8 := by
  show StableHlo.after hostOps2 (W3 m ρ c) (Proc.devRef .tc main_v5) = _
  rw [← V3_6 m ρ c]
  after_results
  rfl

/-- The classes given. -/
theorem W4_classes (c : Dev nD) : W4 (F := Ideal) m ρ c (Proc.devRef .tc main_v6) = shapeCast S4x8 (res7 (boxIn m c) (scoreIn m c)) shapeCasts_S4x1x8_S4x8 := by
  show StableHlo.after hostOps2 (W3 m ρ c) (Proc.devRef .tc main_v6) = _
  rw [← V3_7 m ρ c]
  after_results
  rfl

/-- The numbers of results given. -/
theorem W4_valid (c : Dev nD) : W4 (F := Ideal) m ρ c (Proc.devRef .tc main_v7) = shapeCast S4 (res8 (boxIn m c) (scoreIn m c)) shapeCasts_S4x1x1_S4 := by
  show StableHlo.after hostOps2 (W3 m ρ c) (Proc.devRef .tc main_v7) = _
  rw [← V3_8 m ρ c]
  after_results
  rfl

-- the launch's implicit arguments are found by unifying its conclusion with this one
set_option backward.isDefEq.respectTransparency.types false in
/-- The kernel runs; its four result arrays end as the results of its arguments, which end unchanged. -/
theorem run : θ_run (defs (F := Ideal)) (onTc (τ := τ) (main (F := Ideal))) ⟨m, fun _ => 0, ρ⟩ (fun r => ∀ c : Dev nD,
      r.2.mem ((c.tc : Thread nD τ).loc main_v4_0) = res5 (boxIn m c) (scoreIn m c)
      ∧ r.2.mem ((c.tc : Thread nD τ).loc main_v5) = shapeCast S4x8 (res6 (boxIn m c) (scoreIn m c)) shapeCasts_S4x1x8_S4x8
      ∧ r.2.mem ((c.tc : Thread nD τ).loc main_v6) = shapeCast S4x8 (res7 (boxIn m c) (scoreIn m c)) shapeCasts_S4x1x8_S4x8
      ∧ r.2.mem ((c.tc : Thread nD τ).loc main_v7) = shapeCast S4 (res8 (boxIn m c) (scoreIn m c)) shapeCasts_S4x1x1_S4
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨(h c _ (mem_uc main_v4_0 (by decide))).trans (W4_boxes m ρ c),
       (h c _ (mem_uc main_v5 (by decide))).trans (W4_scores m ρ c),
       (h c _ (mem_uc main_v6 (by decide))).trans (W4_classes m ρ c),
       (h c _ (mem_uc main_v7 (by decide))).trans (W4_valid m ρ c),
       (h c _ (mem_uc main_arg0 (by decide))).trans (W4_main_arg0 m ρ c),
       (h c _ (mem_uc main_arg1 (by decide))).trans (W4_main_arg1 m ρ c)⟩)

/-! ## The results read at an index -/

theorem boxIn_at (c : Dev nD) (b e : Fin 4) (j : Fin 20000) :
    boxIn m c (ix3 b e j) = (m ((c.tc : Thread nD τ).loc main_arg0) : Vec Ideal S4x20000x1x4 .f32) (ix4 b j 0 e) := by
  refine Eq.trans (b := shapeCast S4x20000x4 (m ((c.tc : Thread nD τ).loc main_arg0) : Vec Ideal S4x20000x1x4 .f32)
    shapeCasts_S4x20000x1x4_S4x20000x4 (ix3 b j e)) ?_ ?_
  · unfold boxIn
    pointwise
  · refine shapeCast_apply _ _ _ _ ?_
    show (S4x20000x1x4.rowMajor (ix4 b j 0 e)).val = _
    rw [Shape.rowMajor_val_four, Shape.rowMajor_val_three]
    show ((b.val * 20000 + j.val) * 1 + 0) * 4 + e.val = (b.val * 20000 + j.val) * 4 + e.val
    omega

theorem scoreIn_at (c : Dev nD) (b : Fin 4) (k : Fin 80) (j : Fin 20000) :
    scoreIn m c (ix3 b k j) = (m ((c.tc : Thread nD τ).loc main_arg1) : Vec Ideal S4x20000x80 .f32) (ix3 b j k) := by
  unfold scoreIn
  pointwise

theorem cast8 {α : Type} (x : S4x1x8.Idx → α) (b : Fin 4) (r : Fin 8) : shapeCast S4x8 x shapeCasts_S4x1x8_S4x8 (ix2 b r) = x (ix3 b 0 r) := by
  refine shapeCast_apply _ _ _ _ ?_
  rw [Shape.rowMajor_val_three, Shape.rowMajor_val_two]
  show (b.val * 1 + 0) * 8 + r.val = b.val * 8 + r.val
  omega

theorem cast1 {α : Type} (x : S4x1x1.Idx → α) (b : Fin 4) : shapeCast S4 x shapeCasts_S4x1x1_S4 (ix1 b) = x (ix3 b 0 0) := by
  refine shapeCast_apply _ _ _ _ ?_
  rw [Shape.rowMajor_val_three, Shape.rowMajor_val_one]
  show (b.val * 1 + 0) * 1 + 0 = b.val
  omega

end Cert.KernelIdeal.Arrays
-- ==== Proof.RefArgmax.lean ====
/-
  The reference's arg-max along the last axis is the first greatest position.
-/
module

public import Idealize.ShloMosaic.Lib.Pointwise
public import proofs.«01_k».proof.Proof.Scalars
public import proofs.«01_k».proof.Proof.Gen.ReferenceIdeal

@[expose] public section

set_option maxRecDepth 16384

noncomputable section

namespace Cert.ReferenceIdeal.Ops

open Idealize.ShloMosaic Idealize.ShloMosaic.TcCoe Idealize.SL.Sem
open Cert.ReferenceIdeal Cert.ReferenceIdeal.Gen Cert.Nms

/-- The arg-max's reducer, spelt with conditions. -/
theorem reducer_eq (a b : EReal × BitVec 32) : reducer_argmax_f32_i32 (F := Ideal) a b
    = (if b.1 < a.1 then a.1 else b.1, if b.1 < a.1 ∨ (a.1 = b.1 ∧ a.2.slt b.2 = true) then a.2 else b.2) := by
  obtain ⟨a1, a2⟩ := a
  obtain ⟨b1, b2⟩ := b
  have h1 : FloatOps.cmpf (F := Ideal) (φ := .f32) .ogt a1 b1 = BitVec.ofBool (decide (b1 < a1)) := rfl
  have h2 : FloatOps.cmpf (F := Ideal) (φ := .f32) .oeq a1 b1 = BitVec.ofBool (decide (a1 = b1)) := rfl
  have h3 : FloatOps.cmpf (F := Ideal) (φ := .f32) .une a1 a1 = BitVec.ofBool (decide (a1 ≠ a1)) := rfl
  have h4 : IntOp.cmpi .slt a2 b2 = BitVec.ofBool (a2.slt b2) := rfl
  simp only [reducer_argmax_f32_i32, h1, h2, h3, h4]
  by_cases hp : b1 < a1 <;> by_cases hq : a1 = b1 <;> cases hs : a2.slt b2 <;>
    simp [hp, hq, hs, Scalar.select, IntOp.ori, IntOp.andi]

/-- Signed comparison of the words of small numbers. -/
theorem slt_ofNat {i j : Nat} (hi : i < 20000) (hj : j < 20000) : ((BitVec.ofNat 32 i).slt (BitVec.ofNat 32 j)) = decide (i < j) := by
  rw [BitVec.slt, toInt_ofNat_small i (by omega), toInt_ofNat_small j (by omega)]
  simp

/-- What the fold has found so far: the index it holds has the greatest value among the entries passed, the first of them. -/
def Found (s : Fin 20000 → EReal) (P : Fin 20000 → Prop) (a : EReal × BitVec 32) : Prop :=
  ∃ i : Fin 20000, a.2 = BitVec.ofNat 32 i.val ∧ (a.1 = s i ∨ (a.1 = ⊥ ∧ i = 0)) ∧
    ∀ k, P k → s k < a.1 ∨ (s k = a.1 ∧ i ≤ k)

theorem Found.step {s : Fin 20000 → EReal} {P : Fin 20000 → Prop} {a : EReal × BitVec 32} (h : Found s P a) (j : Fin 20000) :
    Found s (fun k => P k ∨ k = j) (reducer_argmax_f32_i32 (F := Ideal) a (s j, BitVec.ofNat 32 j.val)) := by
  obtain ⟨i, hi, ha, hP⟩ := h
  rw [reducer_eq, hi, slt_ofNat i.isLt j.isLt]
  simp only [decide_eq_true_eq]
  rcases lt_trichotomy (s j) a.1 with hlt | heq | hgt
  · rw [if_pos hlt, if_pos (Or.inl hlt)]
    refine ⟨i, rfl, ha, fun k hk => ?_⟩
    rcases hk with hk | rfl
    · exact hP k hk
    · exact Or.inl hlt
  · rw [if_neg (by rw [heq]; exact lt_irrefl _)]
    by_cases hij : i.val < j.val
    · rw [if_pos (Or.inr ⟨heq.symm, hij⟩)]
      refine ⟨i, rfl, ?_, fun k hk => ?_⟩
      · simpa only [heq] using ha
      · rcases hk with hk | rfl
        · simpa only [heq] using hP k hk
        · exact Or.inr ⟨rfl, le_of_lt hij⟩
    · rw [if_neg (by rintro (h | ⟨-, h⟩) ; exacts [absurd h (by rw [heq]; exact lt_irrefl _), hij h])]
      refine ⟨j, rfl, Or.inl rfl, fun k hk => ?_⟩
      rcases hk with hk | rfl
      · rcases hP k hk with h | ⟨h, h'⟩
        · exact Or.inl (by rw [heq]; exact h)
        · exact Or.inr ⟨by rw [heq]; exact h, le_trans (not_lt.mp hij) h'⟩
      · exact Or.inr ⟨rfl, le_rfl⟩
  · rw [if_neg (not_lt.mpr (le_of_lt hgt)),
      if_neg (by rintro (h | ⟨h, -⟩) ; exacts [absurd h (not_lt.mpr (le_of_lt hgt)), absurd h (ne_of_lt hgt)])]
    refine ⟨j, rfl, Or.inl rfl, fun k hk => ?_⟩
    rcases hk with hk | rfl
    · rcases hP k hk with h | ⟨h, -⟩
      · exact Or.inl (lt_trans h hgt)
      · exact Or.inl (by rw [h]; exact hgt)
    · exact Or.inr ⟨rfl, le_rfl⟩

theorem found_foldl (s : Fin 20000 → EReal) : ∀ (L : List (EReal × BitVec 32)) (P : Fin 20000 → Prop) (a : EReal × BitVec 32),
    (∀ p ∈ L, ∃ k : Fin 20000, p = (s k, BitVec.ofNat 32 k.val)) → Found s P a →
    Found s (fun k => P k ∨ (s k, BitVec.ofNat 32 k.val) ∈ L) (L.foldl (reducer_argmax_f32_i32 (F := Ideal)) a)
  | [], P, a, _, h => by simpa using h
  | p :: L, P, a, hL, h => by
    obtain ⟨k, rfl⟩ := hL p List.mem_cons_self
    have := found_foldl s L _ _ (fun q hq => hL q (List.mem_cons_of_mem _ hq)) (h.step k)
    obtain ⟨i, h1, h2, h3⟩ := this
    refine ⟨i, h1, h2, fun x hx => h3 x ?_⟩
    rcases hx with hx | hx
    · exact Or.inl (Or.inl hx)
    · rcases List.mem_cons.mp hx with hx | hx
      · refine Or.inl (Or.inr (Fin.ext ?_))
        have e := congrArg BitVec.toNat (Prod.mk.inj hx).2
        rw [BitVec.toNat_ofNat, BitVec.toNat_ofNat, Nat.mod_eq_of_lt (by omega), Nat.mod_eq_of_lt (by omega)] at e
        exact e
      · exact Or.inr hx

/-- Dropping the last coordinate. -/
theorem drop_ix3 (b : Fin 4) (c : Fin 80) (k : Fin 20000) : reducesTo_S4x80x20000_S4x80_d2.drop (ix3 b c k) = ix2 b c := by
  funext a
  apply Fin.ext
  match a with
  | ⟨0, _⟩ => exact reducesTo_S4x80x20000_S4x80_d2.drop_apply_val_of_eq _ (0 : Fin 2) (0 : Fin 3)
  | ⟨1, _⟩ => exact reducesTo_S4x80x20000_S4x80_d2.drop_apply_val_of_eq _ (1 : Fin 2) (1 : Fin 3)

theorem drop_iff (i : S4x80x20000.Idx) (b : Fin 4) (c : Fin 80) (h : reducesTo_S4x80x20000_S4x80_d2.drop i = ix2 b c) :
    i = ix3 b c (i 2) := by
  have h0 : (i 0).val = b.val := by
    rw [← reducesTo_S4x80x20000_S4x80_d2.drop_apply_val_of_eq i (0 : Fin 2) (0 : Fin 3) (by decide), h]; rfl
  have h1 : (i 1).val = c.val := by
    rw [← reducesTo_S4x80x20000_S4x80_d2.drop_apply_val_of_eq i (1 : Fin 2) (1 : Fin 3) (by decide), h]; rfl
  funext a
  match a with
  | ⟨0, _⟩ => exact Fin.ext h0
  | ⟨1, _⟩ => exact Fin.ext h1
  | ⟨2, _⟩ => rfl

/-- The reference's arg-max at a class of a batch entry: the word of the first greatest position. -/
theorem argmax_at (s : FVec Ideal S4x80x20000 .f32) (b : Fin 4) (c : Fin 80) :
    (Host.argReduce reducer_argmax_f32_i32 s (iotaInDim S4x80x20000 32 2) (constant (F := Ideal) S_ .f32 0xFF800000#32)
      (constantI S_ 32 0#32) reducesTo_S4x80x20000_S4x80_d2 h_S_ (ix2 b c)).2
      = BitVec.ofNat 32 (amax fun k => s (ix3 b c k)).val := by
  rw [Ideal.argReduce_eq_reduce2, Host.reduce2_eq_foldl_fiber]
  have hinit : ((constant (F := Ideal) S_ .f32 0xFF800000#32) (Shape.Idx.first h_S_), (constantI S_ 32 0#32) (Shape.Idx.first h_S_))
      = ((⊥ : EReal), BitVec.ofNat 32 (0 : Fin 20000).val) := Prod.ext lit_bot rfl
  have hmem : ∀ p ∈ Host.argReduceFiber s (iotaInDim S4x80x20000 32 2) reducesTo_S4x80x20000_S4x80_d2 (ix2 b c),
      ∃ k : Fin 20000, p = (s (ix3 b c k), BitVec.ofNat 32 k.val) := by
    intro p hp
    simp only [Host.argReduceFiber, List.mem_map, List.mem_filter] at hp
    obtain ⟨n, ⟨-, hn⟩, rfl⟩ := hp
    have hd := drop_iff (S4x80x20000.rowMajor.symm n) b c (of_decide_eq_true hn)
    rw [hd]
    exact ⟨_, rfl⟩
  have hall : ∀ k : Fin 20000, (s (ix3 b c k), BitVec.ofNat 32 k.val)
      ∈ Host.argReduceFiber s (iotaInDim S4x80x20000 32 2) reducesTo_S4x80x20000_S4x80_d2 (ix2 b c) := by
    intro k
    simp only [Host.argReduceFiber, List.mem_map, List.mem_filter]
    refine ⟨S4x80x20000.rowMajor (ix3 b c k), ⟨List.mem_finRange _, ?_⟩, ?_⟩
    · rw [Equiv.symm_apply_apply]
      exact decide_eq_true (drop_ix3 b c k)
    · rw [Equiv.symm_apply_apply]; rfl
  have h0 : Found (fun k => s (ix3 b c k)) (fun _ => False) ((⊥ : EReal), BitVec.ofNat 32 (0 : Fin 20000).val) :=
    ⟨0, rfl, Or.inr ⟨rfl, rfl⟩, fun k hk => hk.elim⟩
  rw [hinit]
  obtain ⟨i, h1, h2, h3⟩ := found_foldl (fun k => s (ix3 b c k)) _ _ _ hmem h0
  rw [h1]
  have hs : (fun k => s (ix3 b c k)) i = (List.foldl (reducer_argmax_f32_i32 (F := Ideal)) ((⊥ : EReal), BitVec.ofNat 32 (0 : Fin 20000).val)
      (Host.argReduceFiber s (iotaInDim S4x80x20000 32 2) reducesTo_S4x80x20000_S4x80_d2 (ix2 b c))).1 := by
    rcases h2 with h2 | ⟨h2, rfl⟩
    · exact h2.symm
    · rcases h3 0 (Or.inr (hall 0)) with h | ⟨h, -⟩
      · rw [h2] at h; exact absurd h not_lt_bot
      · exact h
  have : IsFirstMax (fun k => s (ix3 b c k)) i := by
    refine ⟨fun k => ?_, fun k hk => ?_⟩
    · rcases h3 k (Or.inr (hall k)) with h | ⟨h, -⟩
      · exact le_of_lt (by rw [hs]; exact h)
      · exact le_of_eq (by rw [hs]; exact h)
    · rcases h3 k (Or.inr (hall k)) with h | ⟨-, h⟩
      · rw [hs]; exact h
      · exact absurd hk (not_lt.mpr h)
  rw [eq_amax this]

end Cert.ReferenceIdeal.Ops
-- ==== Proof.RefGather.lean ====
/-
  The reference's gathers and range checks, read at an index.
-/
module

public import Idealize.ShloMosaic.Lib.Pointwise
public import proofs.«01_k».proof.Proof.Scalars
public import proofs.«01_k».proof.Proof.Gen.ReferenceIdeal

@[expose] public section

set_option maxRecDepth 16384

noncomputable section

namespace Cert.ReferenceIdeal.Ops

open Idealize.ShloMosaic Idealize.ShloMosaic.TcCoe Idealize.SL.Sem
open Cert.ReferenceIdeal Cert.ReferenceIdeal.Gen Cert.Nms

/-- A clamped start that is in range. -/
theorem clamp_ofNat {n m : Nat} (h : n ≤ m) (hm : m < 100000) : min (BitVec.ofNat 32 n).toInt.toNat m = n := by
  rw [toInt_ofNat_small n (by omega)]
  simpa using h

/-- A gather is read where its index says. -/
theorem gather_read {α : Type} {s si t : Shape} {w : Nat} (d : GatherDims s si t) (x : s.Idx → α) (i : IVec si w) (j : t.Idx) (q : s.Idx)
    (h : ∀ a, d.start j i a + d.batchCoord j a + d.offCoord j a = (q a).val) : Host.gather d x i j = x q :=
  congrArg x (funext fun a => Fin.ext (h a))

/-- The gather of one entry along the last axis. -/
theorem gather_score {α : Type} (x : S4x80x20000.Idx → α) (i : IVec S4x80x1x1 32) (b : Fin 4) (c : Fin 80) (n : Fin 20000)
    (h : i (ix4 b c 0 0) = BitVec.ofNat 32 n.val) :
    Host.gather gather_S4x80x20000_S4x80x1x1_S4x80x1_n_2_01_01_2_3_111 x i (ix3 b c 0) = x (ix3 b c n) := by
  refine gather_read _ x i _ _ fun a => ?_
  match a with
  | ⟨0, _⟩ =>
    show GatherDims.start _ _ i 0 + GatherDims.batchCoord _ _ 0 + GatherDims.offCoord _ _ 0 = _
    rw [GatherDims.start_batching _ _ _ _ (by decide), GatherDims.offCoord_eq_zero _ _ _ (by decide)]
    unfold GatherDims.batchCoord
    rw [dif_pos (by decide)]
    rw [Nat.zero_add, Nat.add_zero]
    rfl
  | ⟨1, _⟩ =>
    show GatherDims.start _ _ i 1 + GatherDims.batchCoord _ _ 1 + GatherDims.offCoord _ _ 1 = _
    rw [GatherDims.start_batching _ _ _ _ (by decide), GatherDims.offCoord_eq_zero _ _ _ (by decide)]
    unfold GatherDims.batchCoord
    rw [dif_pos (by decide)]
    rw [Nat.zero_add, Nat.add_zero]
    rfl
  | ⟨2, _⟩ =>
    show GatherDims.start _ _ i 2 + GatherDims.batchCoord _ _ 2 + GatherDims.offCoord _ _ 2 = _
    rw [GatherDims.batchCoord_eq_zero _ _ _ (by decide), GatherDims.offCoord_eq_zero _ _ _ (by decide)]
    have hs : GatherDims.start gather_S4x80x20000_S4x80x1x1_S4x80x1_n_2_01_01_2_3_111 (ix3 b c 0) i 2 = min (i (ix4 b c 0 0)).toInt.toNat (20000 - 1) := by
      unfold GatherDims.start
      rw [dif_pos (by decide)]
      refine congrArg (fun p => min (i p).toInt.toNat (20000 - 1)) ?_
      funext b
      refine Fin.ext ?_
      match b with
      | ⟨0, _⟩ => rfl
      | ⟨1, _⟩ => rfl
      | ⟨2, _⟩ => rfl
      | ⟨3, _⟩ => rfl
    rw [hs, h, clamp_ofNat (by omega) (by omega)]
    rfl

/-- The gather of a row at a pair of indices. -/
theorem gather_box {α : Type} (x : S4x20000x4.Idx → α) (i : IVec S4x80x2 32) (b : Fin 4) (c : Fin 80) (e : Fin 4) (m : Fin 4) (n : Fin 20000)
    (h0 : i (ix3 b c 0) = BitVec.ofNat 32 m.val) (h1 : i (ix3 b c 1) = BitVec.ofNat 32 n.val) :
    Host.gather gather_S4x20000x4_S4x80x2_S4x80x4_2_01_n_n_01_2_114 x i (ix3 b c e) = x (ix3 m n e) := by
  refine gather_read _ x i _ _ fun a => ?_
  match a with
  | ⟨0, _⟩ =>
    show GatherDims.start _ _ i 0 + GatherDims.batchCoord _ _ 0 + GatherDims.offCoord _ _ 0 = _
    rw [GatherDims.batchCoord_eq_zero _ _ _ (by decide), GatherDims.offCoord_eq_zero _ _ _ (by decide)]
    have hs : GatherDims.start gather_S4x20000x4_S4x80x2_S4x80x4_2_01_n_n_01_2_114 (ix3 b c e) i 0 = min (i (ix3 b c 0)).toInt.toNat (4 - 1) := by
      unfold GatherDims.start
      rw [dif_pos (by decide)]
      refine congrArg (fun p => min (i p).toInt.toNat (4 - 1)) ?_
      funext b
      refine Fin.ext ?_
      match b with
      | ⟨0, _⟩ => rfl
      | ⟨1, _⟩ => rfl
      | ⟨2, _⟩ => rfl
    rw [hs, h0, clamp_ofNat (by omega) (by omega)]
    rfl
  | ⟨1, _⟩ =>
    show GatherDims.start _ _ i 1 + GatherDims.batchCoord _ _ 1 + GatherDims.offCoord _ _ 1 = _
    rw [GatherDims.batchCoord_eq_zero _ _ _ (by decide), GatherDims.offCoord_eq_zero _ _ _ (by decide)]
    have hs : GatherDims.start gather_S4x20000x4_S4x80x2_S4x80x4_2_01_n_n_01_2_114 (ix3 b c e) i 1 = min (i (ix3 b c 1)).toInt.toNat (20000 - 1) := by
      unfold GatherDims.start
      rw [dif_pos (by decide)]
      refine congrArg (fun p => min (i p).toInt.toNat (20000 - 1)) ?_
      funext b
      refine Fin.ext ?_
      match b with
      | ⟨0, _⟩ => rfl
      | ⟨1, _⟩ => rfl
      | ⟨2, _⟩ => rfl
    rw [hs, h1, clamp_ofNat (by omega) (by omega)]
    rfl
  | ⟨2, _⟩ =>
    show GatherDims.start _ _ i 2 + GatherDims.batchCoord _ _ 2 + GatherDims.offCoord _ _ 2 = _
    rw [GatherDims.batchCoord_eq_zero _ _ _ (by decide)]
    unfold GatherDims.start GatherDims.offCoord
    rw [dif_neg (by decide), dif_pos (by decide)]
    rw [Nat.zero_add]
    rfl

/-- The gather of a row of the box table. -/
theorem gather_top_box {α : Type} (x : S4x640x4.Idx → α) (i : IVec S4x8x1 32) (b : Fin 4) (r : Fin 8) (e : Fin 4) (n : Fin 640)
    (h : i (ix3 b r 0) = BitVec.ofNat 32 n.val) :
    Host.gather gather_S4x640x4_S4x8x1_S4x8x4_2_1_0_0_1_2_114 x i (ix3 b r e) = x (ix3 b n e) := by
  refine gather_read _ x i _ _ fun a => ?_
  match a with
  | ⟨0, _⟩ =>
    show GatherDims.start _ _ i 0 + GatherDims.batchCoord _ _ 0 + GatherDims.offCoord _ _ 0 = _
    rw [GatherDims.start_batching _ _ _ _ (by decide), GatherDims.offCoord_eq_zero _ _ _ (by decide)]
    unfold GatherDims.batchCoord
    rw [dif_pos (by decide)]
    rw [Nat.zero_add, Nat.add_zero]
    rfl
  | ⟨1, _⟩ =>
    show GatherDims.start _ _ i 1 + GatherDims.batchCoord _ _ 1 + GatherDims.offCoord _ _ 1 = _
    rw [GatherDims.batchCoord_eq_zero _ _ _ (by decide), GatherDims.offCoord_eq_zero _ _ _ (by decide)]
    have hs : GatherDims.start gather_S4x640x4_S4x8x1_S4x8x4_2_1_0_0_1_2_114 (ix3 b r e) i 1 = min (i (ix3 b r 0)).toInt.toNat (640 - 1) := by
      unfold GatherDims.start
      rw [dif_pos (by decide)]
      refine congrArg (fun p => min (i p).toInt.toNat (640 - 1)) ?_
      funext b
      refine Fin.ext ?_
      match b with
      | ⟨0, _⟩ => rfl
      | ⟨1, _⟩ => rfl
      | ⟨2, _⟩ => rfl
    rw [hs, h, clamp_ofNat (by omega) (by omega)]
    rfl
  | ⟨2, _⟩ =>
    show GatherDims.start _ _ i 2 + GatherDims.batchCoord _ _ 2 + GatherDims.offCoord _ _ 2 = _
    rw [GatherDims.batchCoord_eq_zero _ _ _ (by decide)]
    unfold GatherDims.start GatherDims.offCoord
    rw [dif_neg (by decide), dif_pos (by decide)]
    rw [Nat.zero_add]
    rfl

/-- The gather of an entry of the class table. -/
theorem gather_top_class {α : Type} (x : S4x640.Idx → α) (i : IVec S4x8x1 32) (b : Fin 4) (r : Fin 8) (n : Fin 640)
    (h : i (ix3 b r 0) = BitVec.ofNat 32 n.val) :
    Host.gather gather_S4x640_S4x8x1_S4x8_n_1_0_0_1_2_11 x i (ix2 b r) = x (ix2 b n) := by
  refine gather_read _ x i _ _ fun a => ?_
  match a with
  | ⟨0, _⟩ =>
    show GatherDims.start _ _ i 0 + GatherDims.batchCoord _ _ 0 + GatherDims.offCoord _ _ 0 = _
    rw [GatherDims.start_batching _ _ _ _ (by decide), GatherDims.offCoord_eq_zero _ _ _ (by decide)]
    unfold GatherDims.batchCoord
    rw [dif_pos (by decide)]
    rw [Nat.zero_add, Nat.add_zero]
    rfl
  | ⟨1, _⟩ =>
    show GatherDims.start _ _ i 1 + GatherDims.batchCoord _ _ 1 + GatherDims.offCoord _ _ 1 = _
    rw [GatherDims.batchCoord_eq_zero _ _ _ (by decide), GatherDims.offCoord_eq_zero _ _ _ (by decide)]
    have hs : GatherDims.start gather_S4x640_S4x8x1_S4x8_n_1_0_0_1_2_11 (ix2 b r) i 1 = min (i (ix3 b r 0)).toInt.toNat (640 - 1) := by
      unfold GatherDims.start
      rw [dif_pos (by decide)]
      refine congrArg (fun p => min (i p).toInt.toNat (640 - 1)) ?_
      funext b
      refine Fin.ext ?_
      match b with
      | ⟨0, _⟩ => rfl
      | ⟨1, _⟩ => rfl
      | ⟨2, _⟩ => rfl
    rw [hs, h, clamp_ofNat (by omega) (by omega)]
    rfl

end Cert.ReferenceIdeal.Ops
-- ==== Proof.RefRound.lean ====
/-
  One round of the reference: its operations, read at an index.
-/
module

public import Idealize.ShloMosaic.Lib.Pointwise
public import proofs.«01_k».proof.Proof.Model
public import proofs.«01_k».proof.Proof.Scalars
public import proofs.«01_k».proof.Proof.RefArgmax
public import proofs.«01_k».proof.Proof.RefGather

@[expose] public section

set_option maxRecDepth 16384
set_option maxHeartbeats 4000000

noncomputable section

namespace Cert.ReferenceIdeal.Ops

open scoped Classical
open Idealize.ShloMosaic Idealize.ShloMosaic.TcCoe Idealize.SL.Sem
open Cert.ReferenceIdeal Cert.ReferenceIdeal.Gen Cert.Nms

/-- A conjunction over true entries is true. -/
theorem reduce_and_one {s t u : Shape} {axes : List (Fin s.rank)} (x : IVec s 1) (v : IVec u 1) (h : s.ReducesTo axes t) (hu : 0 < u.numel)
    (hx : ∀ i, x i = 1#1) (hv : ∀ i, v i = 1#1) (j : t.Idx) : Host.reduce IntOp.andi x v h hu j = 1#1 := by
  rw [Host.reduce_eq_foldl, hv]
  have key : ∀ L : List s.Idx, L.foldl (fun r i => IntOp.andi r (x i)) 1#1 = 1#1 := by
    intro L
    induction L with
    | nil => rfl
    | cons a L ih => rw [List.foldl_cons, hx a]; exact ih
  exact key _

/-- The word of a small number is not negative, so an index is not wrapped. -/
theorem wrap_ofNat (n m : Nat) (hn : n < 2 ^ 31) :
    Scalar.select (IntOp.cmpi .slt (BitVec.ofNat 32 n) 0#32) (IntOp.addi (BitVec.ofNat 32 n) (BitVec.ofNat 32 m)) (BitVec.ofNat 32 n)
      = BitVec.ofNat 32 n := by
  have : (BitVec.ofNat 32 n).slt 0#32 = false := by
    rw [BitVec.slt, toInt_ofNat_small n hn]; simp
  simp [Scalar.select, IntOp.cmpi, this]

/-- The word of a number in range passes the range check. -/
theorem in_range (n m : Nat) (hn : n ≤ m) (hm : m < 2 ^ 31) :
    IntOp.andi (IntOp.cmpi .sge (BitVec.ofNat 32 n) 0#32) (IntOp.cmpi .sle (BitVec.ofNat 32 n) (BitVec.ofNat 32 m)) = 1#1 := by
  have h1 : (0#32).sle (BitVec.ofNat 32 n) = true := by
    rw [BitVec.sle, toInt_ofNat_small n (by omega)]; simp
  have h2 : (BitVec.ofNat 32 n).sle (BitVec.ofNat 32 m) = true := by
    rw [BitVec.sle, toInt_ofNat_small n (by omega), toInt_ofNat_small m hm]; simp [hn]
  simp [IntOp.cmpi, IntOp.andi, h1, h2]

/-- The index of the round. -/
theorem round_idx
    {call1_v0 : IVec S4x80x20000 32}
    {call1_cst : FVec Ideal S_ .f32}
    {call1_c : IVec S_ 32}
    {v29 : FVec Ideal S4x80x20000 .f32}
    {v32 : IVec S4x80 32}
    (h_call1_v0 : call1_v0 = (iotaInDim S4x80x20000 32 2))
    (h_call1_cst : call1_cst = (constant (F := Ideal) S_ .f32 0xFF800000#32))
    (h_call1_c : call1_c = (constantI S_ 32 0#32))
    (h_v32 : v32 = fun j => (Host.argReduce reducer_argmax_f32_i32 v29 call1_v0 call1_cst call1_c reducesTo_S4x80x20000_S4x80_d2 h_S_ j).2) :
    ∀ b c, v32 (ix2 b c) = BitVec.ofNat 32 (amax fun k => v29 (ix3 b c k)).val := by
  subst_vars
  intro b c
  exact argmax_at _ b c

/-- The score at the index of the round. -/
theorem round_best
    {v32 : IVec S4x80 32}
    {v33 : IVec S4x80x1 32}
    {call2_c : IVec S_ 32}
    {call2_v0 : IVec S4x80x1 32}
    {call2_v1 : IVec S4x80x1 1}
    {call2_c_0 : IVec S_ 32}
    {call2_v2 : IVec S4x80x1 32}
    {call2_v3 : IVec S4x80x1 32}
    {call2_v4 : IVec S4x80x1 32}
    {call2_v5 : IVec S4x80x1x1 32}
    {call2_c_1 : IVec S1 32}
    {call2_c_2 : IVec S_ 32}
    {call2_v6 : IVec S4x80x1x1 32}
    {call2_v7 : IVec S4x80x1x1 1}
    {call2_v8 : IVec S1x1x1x1 32}
    {call2_v9 : IVec S4x80x1x1 32}
    {call2_v10 : IVec S4x80x1x1 1}
    {call2_v11 : IVec S4x80x1x1 1}
    {call2_c_3 : IVec S_ 1}
    {call2_v12 : IVec S4x80x1 1}
    {v29 : FVec Ideal S4x80x20000 .f32}
    {call2_v13 : FVec Ideal S4x80x1 .f32}
    {call2_cst : FVec Ideal S_ .f32}
    {call2_v14 : FVec Ideal S4x80x1 .f32}
    {v34 : FVec Ideal S4x80x1 .f32}
    {v35 : FVec Ideal S4x80 .f32}
    (h_v33 : v33 = (broadcastInDim S4x80x1 ![0, 1] bcast_S4x80_S4x80x1_0_1) v32)
    (h_call2_c : call2_c = (constantI S_ 32 0#32))
    (h_call2_v0 : call2_v0 = (broadcastInDim S4x80x1 ![] bcast_S_S4x80x1) call2_c)
    (h_call2_v1 : call2_v1 = (cmpi .slt) v33 call2_v0)
    (h_call2_c_0 : call2_c_0 = (constantI S_ 32 20000#32))
    (h_call2_v2 : call2_v2 = (broadcastInDim S4x80x1 ![] bcast_S_S4x80x1) call2_c_0)
    (h_call2_v3 : call2_v3 = addi v33 call2_v2)
    (h_call2_v4 : call2_v4 = select call2_v1 call2_v3 v33)
    (h_call2_v5 : call2_v5 = shapeCast S4x80x1x1 call2_v4 shapeCasts_S4x80x1_S4x80x1x1)
    (h_call2_c_1 : call2_c_1 = (constantI S1 32 19999#32))
    (h_call2_c_2 : call2_c_2 = (constantI S_ 32 0#32))
    (h_call2_v6 : call2_v6 = (broadcastInDim S4x80x1x1 ![] bcast_S_S4x80x1x1) call2_c_2)
    (h_call2_v7 : call2_v7 = (cmpi .sge) call2_v5 call2_v6)
    (h_call2_v8 : call2_v8 = (broadcastInDim S1x1x1x1 ![3] bcast_S1_S1x1x1x1_3) call2_c_1)
    (h_call2_v9 : call2_v9 = (broadcastInDim S4x80x1x1 ![0, 1, 2, 3] bcast_S1x1x1x1_S4x80x1x1_0_1_2_3) call2_v8)
    (h_call2_v10 : call2_v10 = (cmpi .sle) call2_v5 call2_v9)
    (h_call2_v11 : call2_v11 = andi call2_v7 call2_v10)
    (h_call2_c_3 : call2_c_3 = (constantI S_ 1 1#1))
    (h_call2_v12 : call2_v12 = Host.reduce IntOp.andi call2_v11 call2_c_3 reducesTo_S4x80x1x1_S4x80x1_d3 h_S_)
    (h_call2_v13 : call2_v13 = Host.gather gather_S4x80x20000_S4x80x1x1_S4x80x1_n_2_01_01_2_3_111 v29 call2_v5)
    (h_call2_cst : call2_cst = (constant (F := Ideal) S_ .f32 0x7FC00000#32))
    (h_call2_v14 : call2_v14 = (broadcastInDim S4x80x1 ![] bcast_S_S4x80x1) call2_cst)
    (h_v34 : v34 = select call2_v12 call2_v13 call2_v14)
    (h_v35 : v35 = shapeCast S4x80 v34 shapeCasts_S4x80x1_S4x80)
    (hI : ∀ b c, v32 (ix2 b c) = BitVec.ofNat 32 (amax fun k => v29 (ix3 b c k)).val) :
    ∀ b c, v35 (ix2 b c) = v29 (ix3 b c (amax fun k => v29 (ix3 b c k))) := by
  have hw : ∀ b c, call2_v5 (ix4 b c 0 0) = BitVec.ofNat 32 (amax fun k => v29 (ix3 b c k)).val := by
    intro b c
    have := wrap_ofNat (amax fun k => v29 (ix3 b c k)).val 20000 (by omega)
    subst h_call2_v5 h_call2_v4 h_call2_v3 h_call2_v2 h_call2_c_0 h_call2_v1 h_call2_v0 h_call2_c h_v33
    pointwise [hI]
    exact this
  have hr : ∀ i, call2_v11 i = 1#1 := by
    intro i
    obtain ⟨b, c, z, w, rfl⟩ : ∃ b c z w, i = ix4 b c z w := ⟨i 0, i 1, i 2, i 3, by funext a; match a with | ⟨0, _⟩ => rfl | ⟨1, _⟩ => rfl | ⟨2, _⟩ => rfl | ⟨3, _⟩ => rfl⟩
    obtain rfl : z = 0 := Subsingleton.elim _ _
    obtain rfl : w = 0 := Subsingleton.elim _ _
    have := in_range (amax fun k => v29 (ix3 b c k)).val 19999 (by omega) (by omega)
    subst h_call2_v11 h_call2_v10 h_call2_v9 h_call2_v8 h_call2_v7 h_call2_v6 h_call2_c_2 h_call2_c_1
    pointwise [hw]
    exact this
  intro b c
  have hg : call2_v13 (ix3 b c 0) = v29 (ix3 b c (amax fun k => v29 (ix3 b c k))) := by
    rw [h_call2_v13]; exact gather_score _ _ b c _ (hw b c)
  have h12 : call2_v12 (ix3 b c 0) = 1#1 := by
    rw [h_call2_v12]; exact reduce_and_one _ _ _ _ hr (by subst h_call2_c_3; intro i; rfl) _
  rw [h_v35]
  pointwise
  rw [h_v34]
  pointwise [hg, h12]

/-- The box at the index of the round. -/
theorem round_box
    {c : IVec S_ 32}
    {v38 : IVec S4x1 32}
    {v31 : IVec S4x1 32}
    {v39 : IVec S4x1 1}
    {c_2 : IVec S_ 32}
    {v40 : IVec S4x1 32}
    {v41 : IVec S4x1 32}
    {v42 : IVec S4x1 32}
    {c_3 : IVec S_ 32}
    {v43 : IVec S4x80 32}
    {v32 : IVec S4x80 32}
    {v44 : IVec S4x80 1}
    {c_4 : IVec S_ 32}
    {v45 : IVec S4x80 32}
    {v46 : IVec S4x80 32}
    {v47 : IVec S4x80 32}
    {v48 : IVec S4x80 32}
    {v49 : IVec S4x80x1 32}
    {v50 : IVec S4x80x1 32}
    {v51 : IVec S4x80x2 32}
    {v25 : FVec Ideal S4x20000x4 .f32}
    {v52 : FVec Ideal S4x80x4 .f32}
    (h_c : c = (constantI S_ 32 0#32))
    (h_v38 : v38 = (broadcastInDim S4x1 ![] bcast_S_S4x1) c)
    (h_v39 : v39 = (cmpi .slt) v31 v38)
    (h_c_2 : c_2 = (constantI S_ 32 4#32))
    (h_v40 : v40 = (broadcastInDim S4x1 ![] bcast_S_S4x1) c_2)
    (h_v41 : v41 = (addi) v31 v40)
    (h_v42 : v42 = (select) v39 v41 v31)
    (h_c_3 : c_3 = (constantI S_ 32 0#32))
    (h_v43 : v43 = (broadcastInDim S4x80 ![] bcast_S_S4x80) c_3)
    (h_v44 : v44 = (cmpi .slt) v32 v43)
    (h_c_4 : c_4 = (constantI S_ 32 20000#32))
    (h_v45 : v45 = (broadcastInDim S4x80 ![] bcast_S_S4x80) c_4)
    (h_v46 : v46 = (addi) v32 v45)
    (h_v47 : v47 = (select) v44 v46 v32)
    (h_v48 : v48 = (broadcastInDim S4x80 ![0, 1] bcast_S4x1_S4x80_0_1) v42)
    (h_v49 : v49 = (broadcastInDim S4x80x1 ![0, 1] bcast_S4x80_S4x80x1_0_1) v48)
    (h_v50 : v50 = (broadcastInDim S4x80x1 ![0, 1] bcast_S4x80_S4x80x1_0_1) v47)
    (h_v51 : v51 = concatenate S4x80x2 2 [⟨S4x80x1, v49⟩, ⟨S4x80x1, v50⟩] concatenates_S4x80x1_S4x80x1_S4x80x2_d2)
    (h_v52 : v52 = Host.gather gather_S4x20000x4_S4x80x2_S4x80x4_2_01_n_n_01_2_114 v25 v51)
    (h31 : ∀ b, v31 (ix2 b 0) = BitVec.ofNat 32 b.val) (I : Fin 4 → Fin 80 → Fin 20000) (hI : ∀ b c, v32 (ix2 b c) = BitVec.ofNat 32 (I b c).val) :
    ∀ b c e, v52 (ix3 b c e) = v25 (ix3 b (I b c) e) := by
  intro b c e
  rw [h_v52]
  refine gather_box _ _ b c e b (I b c) ?_ ?_
  · have := wrap_ofNat b.val 4 (by omega)
    subst h_v51 h_v49 h_v48 h_v42 h_v41 h_v40 h_c_2 h_v39 h_v38 h_c
    pointwise [h31]
    exact this
  · have := wrap_ofNat (I b c).val 20000 (by omega)
    subst h_v51 h_v50 h_v47 h_v46 h_v45 h_c_4 h_v44 h_v43 h_c_3
    pointwise [hI]
    exact this

/-- Whether the score of the round is positive. -/
theorem round_valid
    {cst_1 : FVec Ideal S_ .f32}
    {v36 : FVec Ideal S4x80 .f32}
    {v35 : FVec Ideal S4x80 .f32}
    {v37 : IVec S4x80 1}
    (h_cst_1 : cst_1 = (constant (F := Ideal) S_ .f32 0x00000000#32))
    (h_v36 : v36 = (broadcastInDim S4x80 ![] bcast_S_S4x80) cst_1)
    (h_v37 : v37 = (cmpf .ogt) v35 v36) :
    ∀ b c, v37 (ix2 b c) = BitVec.ofBool (decide (0 < v35 (ix2 b c))) := by
  subst_vars
  intro b c
  pointwise

/-- What the round adds to the tables. -/
theorem round_tables
    {cst_5 : FVec Ideal S_ .f32}
    {call3_v0 : FVec Ideal S_ .f32}
    {call3_v1 : FVec Ideal S4x80 .f32}
    {v37 : IVec S4x80 1}
    {v35 : FVec Ideal S4x80 .f32}
    {v53 : FVec Ideal S4x80 .f32}
    {v54 : IVec S4x80x1 1}
    {cst_6 : FVec Ideal S_ .f32}
    {call4_v0 : FVec Ideal S_ .f32}
    {call4_v1 : IVec S4x80x4 1}
    {call4_v2 : FVec Ideal S4x80x4 .f32}
    {v52 : FVec Ideal S4x80x4 .f32}
    {v55 : FVec Ideal S4x80x4 .f32}
    (h_cst_5 : cst_5 = (constant (F := Ideal) S_ .f32 0x00000000#32))
    (h_call3_v0 : call3_v0 = cst_5)
    (h_call3_v1 : call3_v1 = (broadcastInDim S4x80 ![] bcast_S_S4x80) call3_v0)
    (h_v53 : v53 = select v37 v35 call3_v1)
    (h_v54 : v54 = (broadcastInDim S4x80x1 ![0, 1] bcast_S4x80_S4x80x1_0_1) v37)
    (h_cst_6 : cst_6 = (constant (F := Ideal) S_ .f32 0x00000000#32))
    (h_call4_v0 : call4_v0 = cst_6)
    (h_call4_v1 : call4_v1 = (broadcastInDim S4x80x4 ![0, 1, 2] bcast_S4x80x1_S4x80x4_0_1_2) v54)
    (h_call4_v2 : call4_v2 = (broadcastInDim S4x80x4 ![] bcast_S_S4x80x4) call4_v0)
    (h_v55 : v55 = select call4_v1 v52 call4_v2)
    (hv : ∀ b c, v37 (ix2 b c) = BitVec.ofBool (decide (0 < v35 (ix2 b c)))) :
    (∀ b c, v53 (ix2 b c) = if 0 < v35 (ix2 b c) then v35 (ix2 b c) else 0) ∧
      ∀ b c e, v55 (ix3 b c e) = if 0 < v35 (ix2 b c) then v52 (ix3 b c e) else 0 := by
  subst_vars
  refine ⟨fun b c => ?_, fun b c e => ?_⟩
  · pointwise [hv]
  · pointwise [hv]

/-- The boxes of a batch entry. -/
def cornerBoxes (bx : FVec Ideal S4x20000x4 .f32) (b : Fin 4) : Boxes 20000 where
  y1 := fun k => bx (ix3 b k 0)
  x1 := fun k => bx (ix3 b k 1)
  y2 := fun k => bx (ix3 b k 2)
  x2 := fun k => bx (ix3 b k 3)

/-- The scores after the round. -/
theorem round_next
    {v52 : FVec Ideal S4x80x4 .f32}
    {v56 : FVec Ideal S4x80x1x4 .f32}
    {v25 : FVec Ideal S4x20000x4 .f32}
    {v57 : FVec Ideal S4x1x20000x4 .f32}
    {v58 : FVec Ideal S4x80x1x2 .f32}
    {v59 : FVec Ideal S4x1x20000x2 .f32}
    {v60 : FVec Ideal S4x80x20000x2 .f32}
    {v61 : FVec Ideal S4x80x20000x2 .f32}
    {v62 : FVec Ideal S4x80x20000x2 .f32}
    {v63 : FVec Ideal S4x80x1x2 .f32}
    {v64 : FVec Ideal S4x1x20000x2 .f32}
    {v65 : FVec Ideal S4x80x20000x2 .f32}
    {v66 : FVec Ideal S4x80x20000x2 .f32}
    {v67 : FVec Ideal S4x80x20000x2 .f32}
    {v68 : FVec Ideal S4x80x20000x2 .f32}
    {cst_7 : FVec Ideal S_ .f32}
    {v69 : FVec Ideal S4x80x20000x2 .f32}
    {v70 : FVec Ideal S4x80x20000x2 .f32}
    {v71 : FVec Ideal S4x80x20000x1 .f32}
    {v72 : FVec Ideal S4x80x20000 .f32}
    {v73 : FVec Ideal S4x80x20000x1 .f32}
    {v74 : FVec Ideal S4x80x20000 .f32}
    {v75 : FVec Ideal S4x80x20000 .f32}
    {v76 : FVec Ideal S4x80x1x1 .f32}
    {v77 : FVec Ideal S4x80x1 .f32}
    {v78 : FVec Ideal S4x80x1x1 .f32}
    {v79 : FVec Ideal S4x80x1 .f32}
    {v80 : FVec Ideal S4x80x1 .f32}
    {v81 : FVec Ideal S4x80x1x1 .f32}
    {v82 : FVec Ideal S4x80x1 .f32}
    {v83 : FVec Ideal S4x80x1x1 .f32}
    {v84 : FVec Ideal S4x80x1 .f32}
    {v85 : FVec Ideal S4x80x1 .f32}
    {v86 : FVec Ideal S4x80x1 .f32}
    {v87 : FVec Ideal S4x1x20000x1 .f32}
    {v88 : FVec Ideal S4x1x20000 .f32}
    {v89 : FVec Ideal S4x1x20000x1 .f32}
    {v90 : FVec Ideal S4x1x20000 .f32}
    {v91 : FVec Ideal S4x1x20000 .f32}
    {v92 : FVec Ideal S4x1x20000x1 .f32}
    {v93 : FVec Ideal S4x1x20000 .f32}
    {v94 : FVec Ideal S4x1x20000x1 .f32}
    {v95 : FVec Ideal S4x1x20000 .f32}
    {v96 : FVec Ideal S4x1x20000 .f32}
    {v97 : FVec Ideal S4x1x20000 .f32}
    {v98 : FVec Ideal S4x80x20000 .f32}
    {v99 : FVec Ideal S4x80x20000 .f32}
    {v100 : FVec Ideal S4x80x20000 .f32}
    {v101 : FVec Ideal S4x80x20000 .f32}
    {cst_8 : FVec Ideal S_ .f32}
    {v102 : FVec Ideal S4x80x20000 .f32}
    {v103 : IVec S4x80x20000 1}
    {v104 : FVec Ideal S4x80x20000 .f32}
    {cst_9 : FVec Ideal S_ .f32}
    {call5_v0 : FVec Ideal S_ .f32}
    {call5_v1 : FVec Ideal S4x80x20000 .f32}
    {v105 : FVec Ideal S4x80x20000 .f32}
    {cst_10 : FVec Ideal S_ .f32}
    {v106 : FVec Ideal S4x80x20000 .f32}
    {v107 : IVec S4x80x20000 1}
    {v37 : IVec S4x80 1}
    {v108 : IVec S4x80x1 1}
    {v109 : IVec S4x80x20000 1}
    {v110 : IVec S4x80x20000 1}
    {cst_11 : FVec Ideal S_ .f32}
    {call6_v0 : FVec Ideal S_ .f32}
    {call6_v1 : FVec Ideal S4x80x20000 .f32}
    {v29 : FVec Ideal S4x80x20000 .f32}
    {v111 : FVec Ideal S4x80x20000 .f32}
    (h_v56 : v56 = (broadcastInDim S4x80x1x4 ![0, 1, 3] bcast_S4x80x4_S4x80x1x4_0_1_3) v52)
    (h_v57 : v57 = (broadcastInDim S4x1x20000x4 ![0, 2, 3] bcast_S4x20000x4_S4x1x20000x4_0_2_3) v25)
    (h_v58 : v58 = extractStridedSlice S4x80x1x2 ![0, 0, 0, 0] v56 slices_S4x80x1x4_S4x80x1x2_0_0_0_0)
    (h_v59 : v59 = extractStridedSlice S4x1x20000x2 ![0, 0, 0, 0] v57 slices_S4x1x20000x4_S4x1x20000x2_0_0_0_0)
    (h_v60 : v60 = (broadcastInDim S4x80x20000x2 ![0, 1, 2, 3] bcast_S4x80x1x2_S4x80x20000x2_0_1_2_3) v58)
    (h_v61 : v61 = (broadcastInDim S4x80x20000x2 ![0, 1, 2, 3] bcast_S4x1x20000x2_S4x80x20000x2_0_1_2_3) v59)
    (h_v62 : v62 = (maximumf) v60 v61)
    (h_v63 : v63 = extractStridedSlice S4x80x1x2 ![0, 0, 0, 2] v56 slices_S4x80x1x4_S4x80x1x2_0_0_0_2)
    (h_v64 : v64 = extractStridedSlice S4x1x20000x2 ![0, 0, 0, 2] v57 slices_S4x1x20000x4_S4x1x20000x2_0_0_0_2)
    (h_v65 : v65 = (broadcastInDim S4x80x20000x2 ![0, 1, 2, 3] bcast_S4x80x1x2_S4x80x20000x2_0_1_2_3) v63)
    (h_v66 : v66 = (broadcastInDim S4x80x20000x2 ![0, 1, 2, 3] bcast_S4x1x20000x2_S4x80x20000x2_0_1_2_3) v64)
    (h_v67 : v67 = (minimumf) v65 v66)
    (h_v68 : v68 = (subf) v67 v62)
    (h_cst_7 : cst_7 = (constant (F := Ideal) S_ .f32 0x00000000#32))
    (h_v69 : v69 = (broadcastInDim S4x80x20000x2 ![] bcast_S_S4x80x20000x2) cst_7)
    (h_v70 : v70 = (maximumf) v68 v69)
    (h_v71 : v71 = extractStridedSlice S4x80x20000x1 ![0, 0, 0, 0] v70 slices_S4x80x20000x2_S4x80x20000x1_0_0_0_0)
    (h_v72 : v72 = shapeCast S4x80x20000 v71 shapeCasts_S4x80x20000x1_S4x80x20000)
    (h_v73 : v73 = extractStridedSlice S4x80x20000x1 ![0, 0, 0, 1] v70 slices_S4x80x20000x2_S4x80x20000x1_0_0_0_1)
    (h_v74 : v74 = shapeCast S4x80x20000 v73 shapeCasts_S4x80x20000x1_S4x80x20000)
    (h_v75 : v75 = (mulf) v72 v74)
    (h_v76 : v76 = extractStridedSlice S4x80x1x1 ![0, 0, 0, 2] v56 slices_S4x80x1x4_S4x80x1x1_0_0_0_2)
    (h_v77 : v77 = shapeCast S4x80x1 v76 shapeCasts_S4x80x1x1_S4x80x1)
    (h_v78 : v78 = extractStridedSlice S4x80x1x1 ![0, 0, 0, 0] v56 slices_S4x80x1x4_S4x80x1x1_0_0_0_0)
    (h_v79 : v79 = shapeCast S4x80x1 v78 shapeCasts_S4x80x1x1_S4x80x1)
    (h_v80 : v80 = (subf) v77 v79)
    (h_v81 : v81 = extractStridedSlice S4x80x1x1 ![0, 0, 0, 3] v56 slices_S4x80x1x4_S4x80x1x1_0_0_0_3)
    (h_v82 : v82 = shapeCast S4x80x1 v81 shapeCasts_S4x80x1x1_S4x80x1)
    (h_v83 : v83 = extractStridedSlice S4x80x1x1 ![0, 0, 0, 1] v56 slices_S4x80x1x4_S4x80x1x1_0_0_0_1)
    (h_v84 : v84 = shapeCast S4x80x1 v83 shapeCasts_S4x80x1x1_S4x80x1)
    (h_v85 : v85 = (subf) v82 v84)
    (h_v86 : v86 = (mulf) v80 v85)
    (h_v87 : v87 = extractStridedSlice S4x1x20000x1 ![0, 0, 0, 2] v57 slices_S4x1x20000x4_S4x1x20000x1_0_0_0_2)
    (h_v88 : v88 = shapeCast S4x1x20000 v87 shapeCasts_S4x1x20000x1_S4x1x20000)
    (h_v89 : v89 = extractStridedSlice S4x1x20000x1 ![0, 0, 0, 0] v57 slices_S4x1x20000x4_S4x1x20000x1_0_0_0_0)
    (h_v90 : v90 = shapeCast S4x1x20000 v89 shapeCasts_S4x1x20000x1_S4x1x20000)
    (h_v91 : v91 = (subf) v88 v90)
    (h_v92 : v92 = extractStridedSlice S4x1x20000x1 ![0, 0, 0, 3] v57 slices_S4x1x20000x4_S4x1x20000x1_0_0_0_3)
    (h_v93 : v93 = shapeCast S4x1x20000 v92 shapeCasts_S4x1x20000x1_S4x1x20000)
    (h_v94 : v94 = extractStridedSlice S4x1x20000x1 ![0, 0, 0, 1] v57 slices_S4x1x20000x4_S4x1x20000x1_0_0_0_1)
    (h_v95 : v95 = shapeCast S4x1x20000 v94 shapeCasts_S4x1x20000x1_S4x1x20000)
    (h_v96 : v96 = (subf) v93 v95)
    (h_v97 : v97 = (mulf) v91 v96)
    (h_v98 : v98 = (broadcastInDim S4x80x20000 ![0, 1, 2] bcast_S4x80x1_S4x80x20000_0_1_2) v86)
    (h_v99 : v99 = (broadcastInDim S4x80x20000 ![0, 1, 2] bcast_S4x1x20000_S4x80x20000_0_1_2) v97)
    (h_v100 : v100 = (addf) v98 v99)
    (h_v101 : v101 = (subf) v100 v75)
    (h_cst_8 : cst_8 = (constant (F := Ideal) S_ .f32 0x00000000#32))
    (h_v102 : v102 = (broadcastInDim S4x80x20000 ![] bcast_S_S4x80x20000) cst_8)
    (h_v103 : v103 = (cmpf .ogt) v101 v102)
    (h_v104 : v104 = (Host.divf) v75 v101)
    (h_cst_9 : cst_9 = (constant (F := Ideal) S_ .f32 0x00000000#32))
    (h_call5_v0 : call5_v0 = cst_9)
    (h_call5_v1 : call5_v1 = (broadcastInDim S4x80x20000 ![] bcast_S_S4x80x20000) call5_v0)
    (h_v105 : v105 = select v103 v104 call5_v1)
    (h_cst_10 : cst_10 = (constant (F := Ideal) S_ .f32 0x3F000000#32))
    (h_v106 : v106 = (broadcastInDim S4x80x20000 ![] bcast_S_S4x80x20000) cst_10)
    (h_v107 : v107 = (cmpf .ogt) v105 v106)
    (h_v108 : v108 = (broadcastInDim S4x80x1 ![0, 1] bcast_S4x80_S4x80x1_0_1) v37)
    (h_v109 : v109 = (broadcastInDim S4x80x20000 ![0, 1, 2] bcast_S4x80x1_S4x80x20000_0_1_2) v108)
    (h_v110 : v110 = (andi) v107 v109)
    (h_cst_11 : cst_11 = (constant (F := Ideal) S_ .f32 0xBF800000#32))
    (h_call6_v0 : call6_v0 = cst_11)
    (h_call6_v1 : call6_v1 = (broadcastInDim S4x80x20000 ![] bcast_S_S4x80x20000) call6_v0)
    (h_v111 : v111 = select v110 call6_v1 v29)
    {v35 : FVec Ideal S4x80 .f32} (hv : ∀ b c, v37 (ix2 b c) = BitVec.ofBool (decide (0 < v35 (ix2 b c))))
    (hs : ∀ b c, v35 (ix2 b c) = v29 (ix3 b c (amax fun k => v29 (ix3 b c k))))
    (hb : ∀ b c e, v52 (ix3 b c e) = v25 (ix3 b (amax fun k => v29 (ix3 b c k)) e)) :
    ∀ b c k, v111 (ix3 b c k) = nextS (cornerBoxes v25 b).supR (fun k => v29 (ix3 b c k)) k := by
  intro b c k
  have hi : ∀ e, v56 (ix4 b c 0 e) = v25 (ix3 b (amax fun k => v29 (ix3 b c k)) e) := by
    intro e
    rw [h_v56]
    pointwise [hb]
  have hj : ∀ e, v57 (ix4 b 0 k e) = v25 (ix3 b k e) := by
    intro e
    rw [h_v57]
    pointwise
  have hdy : v72 (ix3 b c k) = (cornerBoxes v25 b).dy (amax fun k => v29 (ix3 b c k)) k := by
    subst h_v72 h_v71 h_v70 h_v69 h_cst_7 h_v68 h_v67 h_v66 h_v65 h_v64 h_v63 h_v62 h_v61 h_v60 h_v59 h_v58
    pointwise [hi, hj]
    show max (min (v25 (ix3 b (amax fun k => v29 (ix3 b c k)) 2)) (v25 (ix3 b k 2)) - max (v25 (ix3 b (amax fun k => v29 (ix3 b c k)) 0)) (v25 (ix3 b k 0))) 0
      = max (min (v25 (ix3 b k 2)) (v25 (ix3 b (amax fun k => v29 (ix3 b c k)) 2)) - max (v25 (ix3 b k 0)) (v25 (ix3 b (amax fun k => v29 (ix3 b c k)) 0))) 0
    rw [min_comm (v25 (ix3 b k 2)), max_comm (v25 (ix3 b k 0))]
  have hdx : v74 (ix3 b c k) = max ((cornerBoxes v25 b).dx (amax fun k => v29 (ix3 b c k)) k) 0 := by
    subst h_v74 h_v73 h_v70 h_v69 h_cst_7 h_v68 h_v67 h_v66 h_v65 h_v64 h_v63 h_v62 h_v61 h_v60 h_v59 h_v58
    pointwise [hi, hj]
    show max (min (v25 (ix3 b (amax fun k => v29 (ix3 b c k)) 3)) (v25 (ix3 b k 3)) - max (v25 (ix3 b (amax fun k => v29 (ix3 b c k)) 1)) (v25 (ix3 b k 1))) 0
      = max (min (v25 (ix3 b k 3)) (v25 (ix3 b (amax fun k => v29 (ix3 b c k)) 3)) - max (v25 (ix3 b k 1)) (v25 (ix3 b (amax fun k => v29 (ix3 b c k)) 1))) 0
    rw [min_comm (v25 (ix3 b k 3)), max_comm (v25 (ix3 b k 1))]
  have hinter : v75 (ix3 b c k) = (cornerBoxes v25 b).inter (amax fun k => v29 (ix3 b c k)) k := by
    rw [h_v75]
    pointwise [hdy, hdx]
    rfl
  have hai : v86 (ix3 b c 0) = (cornerBoxes v25 b).area (amax fun k => v29 (ix3 b c k)) := by
    subst h_v86 h_v85 h_v84 h_v83 h_v82 h_v81 h_v80 h_v79 h_v78 h_v77 h_v76
    pointwise [hi]
    rfl
  have haj : v97 (ix3 b 0 k) = (cornerBoxes v25 b).area k := by
    subst h_v97 h_v96 h_v95 h_v94 h_v93 h_v92 h_v91 h_v90 h_v89 h_v88 h_v87
    pointwise [hj]
    rfl
  have hun : v101 (ix3 b c k) = (cornerBoxes v25 b).union (amax fun k => v29 (ix3 b c k)) k := by
    subst h_v101 h_v100 h_v99 h_v98
    pointwise [hai, haj, hinter]
    rfl
  have hq : v107 (ix3 b c k) = BitVec.ofBool (decide ((cornerBoxes v25 b).supR (amax fun k => v29 (ix3 b c k)) k)) := by
    subst h_v107 h_v106 h_cst_10 h_v105 h_call5_v1 h_call5_v0 h_cst_9 h_v104 h_v103 h_v102 h_cst_8
    pointwise [hun, hinter]
    rw [lit_half]
    exact congrArg BitVec.ofBool (decide_eq_decide.mpr Iff.rfl)
  subst h_v111 h_call6_v1 h_call6_v0 h_cst_11 h_v110 h_v109 h_v108
  pointwise [hq, hv, hs]
  rw [lit_neg_one]
  exact select_and _ _

/-- A round: its scores and boxes for the tables, and the scores it leaves. -/
theorem round
    {call1_v0 : IVec S4x80x20000 32}
    {call1_cst : FVec Ideal S_ .f32}
    {call1_c : IVec S_ 32}
    {v29 : FVec Ideal S4x80x20000 .f32}
    {v32 : IVec S4x80 32}
    {v33 : IVec S4x80x1 32}
    {call2_c : IVec S_ 32}
    {call2_v0 : IVec S4x80x1 32}
    {call2_v1 : IVec S4x80x1 1}
    {call2_c_0 : IVec S_ 32}
    {call2_v2 : IVec S4x80x1 32}
    {call2_v3 : IVec S4x80x1 32}
    {call2_v4 : IVec S4x80x1 32}
    {call2_v5 : IVec S4x80x1x1 32}
    {call2_c_1 : IVec S1 32}
    {call2_c_2 : IVec S_ 32}
    {call2_v6 : IVec S4x80x1x1 32}
    {call2_v7 : IVec S4x80x1x1 1}
    {call2_v8 : IVec S1x1x1x1 32}
    {call2_v9 : IVec S4x80x1x1 32}
    {call2_v10 : IVec S4x80x1x1 1}
    {call2_v11 : IVec S4x80x1x1 1}
    {call2_c_3 : IVec S_ 1}
    {call2_v12 : IVec S4x80x1 1}
    {call2_v13 : FVec Ideal S4x80x1 .f32}
    {call2_cst : FVec Ideal S_ .f32}
    {call2_v14 : FVec Ideal S4x80x1 .f32}
    {v34 : FVec Ideal S4x80x1 .f32}
    {v35 : FVec Ideal S4x80 .f32}
    {cst_1 : FVec Ideal S_ .f32}
    {v36 : FVec Ideal S4x80 .f32}
    {v37 : IVec S4x80 1}
    {c : IVec S_ 32}
    {v38 : IVec S4x1 32}
    {v31 : IVec S4x1 32}
    {v39 : IVec S4x1 1}
    {c_2 : IVec S_ 32}
    {v40 : IVec S4x1 32}
    {v41 : IVec S4x1 32}
    {v42 : IVec S4x1 32}
    {c_3 : IVec S_ 32}
    {v43 : IVec S4x80 32}
    {v44 : IVec S4x80 1}
    {c_4 : IVec S_ 32}
    {v45 : IVec S4x80 32}
    {v46 : IVec S4x80 32}
    {v47 : IVec S4x80 32}
    {v48 : IVec S4x80 32}
    {v49 : IVec S4x80x1 32}
    {v50 : IVec S4x80x1 32}
    {v51 : IVec S4x80x2 32}
    {v25 : FVec Ideal S4x20000x4 .f32}
    {v52 : FVec Ideal S4x80x4 .f32}
    {cst_5 : FVec Ideal S_ .f32}
    {call3_v0 : FVec Ideal S_ .f32}
    {call3_v1 : FVec Ideal S4x80 .f32}
    {v53 : FVec Ideal S4x80 .f32}
    {v54 : IVec S4x80x1 1}
    {cst_6 : FVec Ideal S_ .f32}
    {call4_v0 : FVec Ideal S_ .f32}
    {call4_v1 : IVec S4x80x4 1}
    {call4_v2 : FVec Ideal S4x80x4 .f32}
    {v55 : FVec Ideal S4x80x4 .f32}
    {v56 : FVec Ideal S4x80x1x4 .f32}
    {v57 : FVec Ideal S4x1x20000x4 .f32}
    {v58 : FVec Ideal S4x80x1x2 .f32}
    {v59 : FVec Ideal S4x1x20000x2 .f32}
    {v60 : FVec Ideal S4x80x20000x2 .f32}
    {v61 : FVec Ideal S4x80x20000x2 .f32}
    {v62 : FVec Ideal S4x80x20000x2 .f32}
    {v63 : FVec Ideal S4x80x1x2 .f32}
    {v64 : FVec Ideal S4x1x20000x2 .f32}
    {v65 : FVec Ideal S4x80x20000x2 .f32}
    {v66 : FVec Ideal S4x80x20000x2 .f32}
    {v67 : FVec Ideal S4x80x20000x2 .f32}
    {v68 : FVec Ideal S4x80x20000x2 .f32}
    {cst_7 : FVec Ideal S_ .f32}
    {v69 : FVec Ideal S4x80x20000x2 .f32}
    {v70 : FVec Ideal S4x80x20000x2 .f32}
    {v71 : FVec Ideal S4x80x20000x1 .f32}
    {v72 : FVec Ideal S4x80x20000 .f32}
    {v73 : FVec Ideal S4x80x20000x1 .f32}
    {v74 : FVec Ideal S4x80x20000 .f32}
    {v75 : FVec Ideal S4x80x20000 .f32}
    {v76 : FVec Ideal S4x80x1x1 .f32}
    {v77 : FVec Ideal S4x80x1 .f32}
    {v78 : FVec Ideal S4x80x1x1 .f32}
    {v79 : FVec Ideal S4x80x1 .f32}
    {v80 : FVec Ideal S4x80x1 .f32}
    {v81 : FVec Ideal S4x80x1x1 .f32}
    {v82 : FVec Ideal S4x80x1 .f32}
    {v83 : FVec Ideal S4x80x1x1 .f32}
    {v84 : FVec Ideal S4x80x1 .f32}
    {v85 : FVec Ideal S4x80x1 .f32}
    {v86 : FVec Ideal S4x80x1 .f32}
    {v87 : FVec Ideal S4x1x20000x1 .f32}
    {v88 : FVec Ideal S4x1x20000 .f32}
    {v89 : FVec Ideal S4x1x20000x1 .f32}
    {v90 : FVec Ideal S4x1x20000 .f32}
    {v91 : FVec Ideal S4x1x20000 .f32}
    {v92 : FVec Ideal S4x1x20000x1 .f32}
    {v93 : FVec Ideal S4x1x20000 .f32}
    {v94 : FVec Ideal S4x1x20000x1 .f32}
    {v95 : FVec Ideal S4x1x20000 .f32}
    {v96 : FVec Ideal S4x1x20000 .f32}
    {v97 : FVec Ideal S4x1x20000 .f32}
    {v98 : FVec Ideal S4x80x20000 .f32}
    {v99 : FVec Ideal S4x80x20000 .f32}
    {v100 : FVec Ideal S4x80x20000 .f32}
    {v101 : FVec Ideal S4x80x20000 .f32}
    {cst_8 : FVec Ideal S_ .f32}
    {v102 : FVec Ideal S4x80x20000 .f32}
    {v103 : IVec S4x80x20000 1}
    {v104 : FVec Ideal S4x80x20000 .f32}
    {cst_9 : FVec Ideal S_ .f32}
    {call5_v0 : FVec Ideal S_ .f32}
    {call5_v1 : FVec Ideal S4x80x20000 .f32}
    {v105 : FVec Ideal S4x80x20000 .f32}
    {cst_10 : FVec Ideal S_ .f32}
    {v106 : FVec Ideal S4x80x20000 .f32}
    {v107 : IVec S4x80x20000 1}
    {v108 : IVec S4x80x1 1}
    {v109 : IVec S4x80x20000 1}
    {v110 : IVec S4x80x20000 1}
    {cst_11 : FVec Ideal S_ .f32}
    {call6_v0 : FVec Ideal S_ .f32}
    {call6_v1 : FVec Ideal S4x80x20000 .f32}
    {v111 : FVec Ideal S4x80x20000 .f32}
    (h_call1_v0 : call1_v0 = (iotaInDim S4x80x20000 32 2))
    (h_call1_cst : call1_cst = (constant (F := Ideal) S_ .f32 0xFF800000#32))
    (h_call1_c : call1_c = (constantI S_ 32 0#32))
    (h_v32 : v32 = fun j => (Host.argReduce reducer_argmax_f32_i32 v29 call1_v0 call1_cst call1_c reducesTo_S4x80x20000_S4x80_d2 h_S_ j).2)
    (h_v33 : v33 = (broadcastInDim S4x80x1 ![0, 1] bcast_S4x80_S4x80x1_0_1) v32)
    (h_call2_c : call2_c = (constantI S_ 32 0#32))
    (h_call2_v0 : call2_v0 = (broadcastInDim S4x80x1 ![] bcast_S_S4x80x1) call2_c)
    (h_call2_v1 : call2_v1 = (cmpi .slt) v33 call2_v0)
    (h_call2_c_0 : call2_c_0 = (constantI S_ 32 20000#32))
    (h_call2_v2 : call2_v2 = (broadcastInDim S4x80x1 ![] bcast_S_S4x80x1) call2_c_0)
    (h_call2_v3 : call2_v3 = addi v33 call2_v2)
    (h_call2_v4 : call2_v4 = select call2_v1 call2_v3 v33)
    (h_call2_v5 : call2_v5 = shapeCast S4x80x1x1 call2_v4 shapeCasts_S4x80x1_S4x80x1x1)
    (h_call2_c_1 : call2_c_1 = (constantI S1 32 19999#32))
    (h_call2_c_2 : call2_c_2 = (constantI S_ 32 0#32))
    (h_call2_v6 : call2_v6 = (broadcastInDim S4x80x1x1 ![] bcast_S_S4x80x1x1) call2_c_2)
    (h_call2_v7 : call2_v7 = (cmpi .sge) call2_v5 call2_v6)
    (h_call2_v8 : call2_v8 = (broadcastInDim S1x1x1x1 ![3] bcast_S1_S1x1x1x1_3) call2_c_1)
    (h_call2_v9 : call2_v9 = (broadcastInDim S4x80x1x1 ![0, 1, 2, 3] bcast_S1x1x1x1_S4x80x1x1_0_1_2_3) call2_v8)
    (h_call2_v10 : call2_v10 = (cmpi .sle) call2_v5 call2_v9)
    (h_call2_v11 : call2_v11 = andi call2_v7 call2_v10)
    (h_call2_c_3 : call2_c_3 = (constantI S_ 1 1#1))
    (h_call2_v12 : call2_v12 = Host.reduce IntOp.andi call2_v11 call2_c_3 reducesTo_S4x80x1x1_S4x80x1_d3 h_S_)
    (h_call2_v13 : call2_v13 = Host.gather gather_S4x80x20000_S4x80x1x1_S4x80x1_n_2_01_01_2_3_111 v29 call2_v5)
    (h_call2_cst : call2_cst = (constant (F := Ideal) S_ .f32 0x7FC00000#32))
    (h_call2_v14 : call2_v14 = (broadcastInDim S4x80x1 ![] bcast_S_S4x80x1) call2_cst)
    (h_v34 : v34 = select call2_v12 call2_v13 call2_v14)
    (h_v35 : v35 = shapeCast S4x80 v34 shapeCasts_S4x80x1_S4x80)
    (h_cst_1 : cst_1 = (constant (F := Ideal) S_ .f32 0x00000000#32))
    (h_v36 : v36 = (broadcastInDim S4x80 ![] bcast_S_S4x80) cst_1)
    (h_v37 : v37 = (cmpf .ogt) v35 v36)
    (h_c : c = (constantI S_ 32 0#32))
    (h_v38 : v38 = (broadcastInDim S4x1 ![] bcast_S_S4x1) c)
    (h_v39 : v39 = (cmpi .slt) v31 v38)
    (h_c_2 : c_2 = (constantI S_ 32 4#32))
    (h_v40 : v40 = (broadcastInDim S4x1 ![] bcast_S_S4x1) c_2)
    (h_v41 : v41 = (addi) v31 v40)
    (h_v42 : v42 = (select) v39 v41 v31)
    (h_c_3 : c_3 = (constantI S_ 32 0#32))
    (h_v43 : v43 = (broadcastInDim S4x80 ![] bcast_S_S4x80) c_3)
    (h_v44 : v44 = (cmpi .slt) v32 v43)
    (h_c_4 : c_4 = (constantI S_ 32 20000#32))
    (h_v45 : v45 = (broadcastInDim S4x80 ![] bcast_S_S4x80) c_4)
    (h_v46 : v46 = (addi) v32 v45)
    (h_v47 : v47 = (select) v44 v46 v32)
    (h_v48 : v48 = (broadcastInDim S4x80 ![0, 1] bcast_S4x1_S4x80_0_1) v42)
    (h_v49 : v49 = (broadcastInDim S4x80x1 ![0, 1] bcast_S4x80_S4x80x1_0_1) v48)
    (h_v50 : v50 = (broadcastInDim S4x80x1 ![0, 1] bcast_S4x80_S4x80x1_0_1) v47)
    (h_v51 : v51 = concatenate S4x80x2 2 [⟨S4x80x1, v49⟩, ⟨S4x80x1, v50⟩] concatenates_S4x80x1_S4x80x1_S4x80x2_d2)
    (h_v52 : v52 = Host.gather gather_S4x20000x4_S4x80x2_S4x80x4_2_01_n_n_01_2_114 v25 v51)
    (h_cst_5 : cst_5 = (constant (F := Ideal) S_ .f32 0x00000000#32))
    (h_call3_v0 : call3_v0 = cst_5)
    (h_call3_v1 : call3_v1 = (broadcastInDim S4x80 ![] bcast_S_S4x80) call3_v0)
    (h_v53 : v53 = select v37 v35 call3_v1)
    (h_v54 : v54 = (broadcastInDim S4x80x1 ![0, 1] bcast_S4x80_S4x80x1_0_1) v37)
    (h_cst_6 : cst_6 = (constant (F := Ideal) S_ .f32 0x00000000#32))
    (h_call4_v0 : call4_v0 = cst_6)
    (h_call4_v1 : call4_v1 = (broadcastInDim S4x80x4 ![0, 1, 2] bcast_S4x80x1_S4x80x4_0_1_2) v54)
    (h_call4_v2 : call4_v2 = (broadcastInDim S4x80x4 ![] bcast_S_S4x80x4) call4_v0)
    (h_v55 : v55 = select call4_v1 v52 call4_v2)
    (h_v56 : v56 = (broadcastInDim S4x80x1x4 ![0, 1, 3] bcast_S4x80x4_S4x80x1x4_0_1_3) v52)
    (h_v57 : v57 = (broadcastInDim S4x1x20000x4 ![0, 2, 3] bcast_S4x20000x4_S4x1x20000x4_0_2_3) v25)
    (h_v58 : v58 = extractStridedSlice S4x80x1x2 ![0, 0, 0, 0] v56 slices_S4x80x1x4_S4x80x1x2_0_0_0_0)
    (h_v59 : v59 = extractStridedSlice S4x1x20000x2 ![0, 0, 0, 0] v57 slices_S4x1x20000x4_S4x1x20000x2_0_0_0_0)
    (h_v60 : v60 = (broadcastInDim S4x80x20000x2 ![0, 1, 2, 3] bcast_S4x80x1x2_S4x80x20000x2_0_1_2_3) v58)
    (h_v61 : v61 = (broadcastInDim S4x80x20000x2 ![0, 1, 2, 3] bcast_S4x1x20000x2_S4x80x20000x2_0_1_2_3) v59)
    (h_v62 : v62 = (maximumf) v60 v61)
    (h_v63 : v63 = extractStridedSlice S4x80x1x2 ![0, 0, 0, 2] v56 slices_S4x80x1x4_S4x80x1x2_0_0_0_2)
    (h_v64 : v64 = extractStridedSlice S4x1x20000x2 ![0, 0, 0, 2] v57 slices_S4x1x20000x4_S4x1x20000x2_0_0_0_2)
    (h_v65 : v65 = (broadcastInDim S4x80x20000x2 ![0, 1, 2, 3] bcast_S4x80x1x2_S4x80x20000x2_0_1_2_3) v63)
    (h_v66 : v66 = (broadcastInDim S4x80x20000x2 ![0, 1, 2, 3] bcast_S4x1x20000x2_S4x80x20000x2_0_1_2_3) v64)
    (h_v67 : v67 = (minimumf) v65 v66)
    (h_v68 : v68 = (subf) v67 v62)
    (h_cst_7 : cst_7 = (constant (F := Ideal) S_ .f32 0x00000000#32))
    (h_v69 : v69 = (broadcastInDim S4x80x20000x2 ![] bcast_S_S4x80x20000x2) cst_7)
    (h_v70 : v70 = (maximumf) v68 v69)
    (h_v71 : v71 = extractStridedSlice S4x80x20000x1 ![0, 0, 0, 0] v70 slices_S4x80x20000x2_S4x80x20000x1_0_0_0_0)
    (h_v72 : v72 = shapeCast S4x80x20000 v71 shapeCasts_S4x80x20000x1_S4x80x20000)
    (h_v73 : v73 = extractStridedSlice S4x80x20000x1 ![0, 0, 0, 1] v70 slices_S4x80x20000x2_S4x80x20000x1_0_0_0_1)
    (h_v74 : v74 = shapeCast S4x80x20000 v73 shapeCasts_S4x80x20000x1_S4x80x20000)
    (h_v75 : v75 = (mulf) v72 v74)
    (h_v76 : v76 = extractStridedSlice S4x80x1x1 ![0, 0, 0, 2] v56 slices_S4x80x1x4_S4x80x1x1_0_0_0_2)
    (h_v77 : v77 = shapeCast S4x80x1 v76 shapeCasts_S4x80x1x1_S4x80x1)
    (h_v78 : v78 = extractStridedSlice S4x80x1x1 ![0, 0, 0, 0] v56 slices_S4x80x1x4_S4x80x1x1_0_0_0_0)
    (h_v79 : v79 = shapeCast S4x80x1 v78 shapeCasts_S4x80x1x1_S4x80x1)
    (h_v80 : v80 = (subf) v77 v79)
    (h_v81 : v81 = extractStridedSlice S4x80x1x1 ![0, 0, 0, 3] v56 slices_S4x80x1x4_S4x80x1x1_0_0_0_3)
    (h_v82 : v82 = shapeCast S4x80x1 v81 shapeCasts_S4x80x1x1_S4x80x1)
    (h_v83 : v83 = extractStridedSlice S4x80x1x1 ![0, 0, 0, 1] v56 slices_S4x80x1x4_S4x80x1x1_0_0_0_1)
    (h_v84 : v84 = shapeCast S4x80x1 v83 shapeCasts_S4x80x1x1_S4x80x1)
    (h_v85 : v85 = (subf) v82 v84)
    (h_v86 : v86 = (mulf) v80 v85)
    (h_v87 : v87 = extractStridedSlice S4x1x20000x1 ![0, 0, 0, 2] v57 slices_S4x1x20000x4_S4x1x20000x1_0_0_0_2)
    (h_v88 : v88 = shapeCast S4x1x20000 v87 shapeCasts_S4x1x20000x1_S4x1x20000)
    (h_v89 : v89 = extractStridedSlice S4x1x20000x1 ![0, 0, 0, 0] v57 slices_S4x1x20000x4_S4x1x20000x1_0_0_0_0)
    (h_v90 : v90 = shapeCast S4x1x20000 v89 shapeCasts_S4x1x20000x1_S4x1x20000)
    (h_v91 : v91 = (subf) v88 v90)
    (h_v92 : v92 = extractStridedSlice S4x1x20000x1 ![0, 0, 0, 3] v57 slices_S4x1x20000x4_S4x1x20000x1_0_0_0_3)
    (h_v93 : v93 = shapeCast S4x1x20000 v92 shapeCasts_S4x1x20000x1_S4x1x20000)
    (h_v94 : v94 = extractStridedSlice S4x1x20000x1 ![0, 0, 0, 1] v57 slices_S4x1x20000x4_S4x1x20000x1_0_0_0_1)
    (h_v95 : v95 = shapeCast S4x1x20000 v94 shapeCasts_S4x1x20000x1_S4x1x20000)
    (h_v96 : v96 = (subf) v93 v95)
    (h_v97 : v97 = (mulf) v91 v96)
    (h_v98 : v98 = (broadcastInDim S4x80x20000 ![0, 1, 2] bcast_S4x80x1_S4x80x20000_0_1_2) v86)
    (h_v99 : v99 = (broadcastInDim S4x80x20000 ![0, 1, 2] bcast_S4x1x20000_S4x80x20000_0_1_2) v97)
    (h_v100 : v100 = (addf) v98 v99)
    (h_v101 : v101 = (subf) v100 v75)
    (h_cst_8 : cst_8 = (constant (F := Ideal) S_ .f32 0x00000000#32))
    (h_v102 : v102 = (broadcastInDim S4x80x20000 ![] bcast_S_S4x80x20000) cst_8)
    (h_v103 : v103 = (cmpf .ogt) v101 v102)
    (h_v104 : v104 = (Host.divf) v75 v101)
    (h_cst_9 : cst_9 = (constant (F := Ideal) S_ .f32 0x00000000#32))
    (h_call5_v0 : call5_v0 = cst_9)
    (h_call5_v1 : call5_v1 = (broadcastInDim S4x80x20000 ![] bcast_S_S4x80x20000) call5_v0)
    (h_v105 : v105 = select v103 v104 call5_v1)
    (h_cst_10 : cst_10 = (constant (F := Ideal) S_ .f32 0x3F000000#32))
    (h_v106 : v106 = (broadcastInDim S4x80x20000 ![] bcast_S_S4x80x20000) cst_10)
    (h_v107 : v107 = (cmpf .ogt) v105 v106)
    (h_v108 : v108 = (broadcastInDim S4x80x1 ![0, 1] bcast_S4x80_S4x80x1_0_1) v37)
    (h_v109 : v109 = (broadcastInDim S4x80x20000 ![0, 1, 2] bcast_S4x80x1_S4x80x20000_0_1_2) v108)
    (h_v110 : v110 = (andi) v107 v109)
    (h_cst_11 : cst_11 = (constant (F := Ideal) S_ .f32 0xBF800000#32))
    (h_call6_v0 : call6_v0 = cst_11)
    (h_call6_v1 : call6_v1 = (broadcastInDim S4x80x20000 ![] bcast_S_S4x80x20000) call6_v0)
    (h_v111 : v111 = select v110 call6_v1 v29)
    (h31 : ∀ b, v31 (ix2 b 0) = BitVec.ofNat 32 b.val) :
    (∀ b c, v53 (ix2 b c) = sel fun k => v29 (ix3 b c k)) ∧
      (∀ b c e, v55 (ix3 b c e) = if 0 < v29 (ix3 b c (amax fun k => v29 (ix3 b c k)))
        then v25 (ix3 b (amax fun k => v29 (ix3 b c k)) e) else 0) ∧
      ∀ b c k, v111 (ix3 b c k) = nextS (cornerBoxes v25 b).supR (fun k => v29 (ix3 b c k)) k := by
  have hI := round_idx h_call1_v0 h_call1_cst h_call1_c h_v32
  have hs := round_best h_v33 h_call2_c h_call2_v0 h_call2_v1 h_call2_c_0 h_call2_v2 h_call2_v3 h_call2_v4 h_call2_v5 h_call2_c_1 h_call2_c_2 h_call2_v6 h_call2_v7 h_call2_v8 h_call2_v9 h_call2_v10 h_call2_v11 h_call2_c_3 h_call2_v12 h_call2_v13 h_call2_cst h_call2_v14 h_v34 h_v35 hI
  have hv := round_valid h_cst_1 h_v36 h_v37
  have hb := round_box h_c h_v38 h_v39 h_c_2 h_v40 h_v41 h_v42 h_c_3 h_v43 h_v44 h_c_4 h_v45 h_v46 h_v47 h_v48 h_v49 h_v50 h_v51 h_v52 h31 (fun b c => amax fun k => v29 (ix3 b c k)) hI
  obtain ⟨h1, h2⟩ := round_tables h_cst_5 h_call3_v0 h_call3_v1 h_v53 h_v54 h_cst_6 h_call4_v0 h_call4_v1 h_call4_v2 h_v55 hv
  have h3 := round_next h_v56 h_v57 h_v58 h_v59 h_v60 h_v61 h_v62 h_v63 h_v64 h_v65 h_v66 h_v67 h_v68 h_cst_7 h_v69 h_v70 h_v71 h_v72 h_v73 h_v74 h_v75 h_v76 h_v77 h_v78 h_v79 h_v80 h_v81 h_v82 h_v83 h_v84 h_v85 h_v86 h_v87 h_v88 h_v89 h_v90 h_v91 h_v92 h_v93 h_v94 h_v95 h_v96 h_v97 h_v98 h_v99 h_v100 h_v101 h_cst_8 h_v102 h_v103 h_v104 h_cst_9 h_call5_v0 h_call5_v1 h_v105 h_cst_10 h_v106 h_v107 h_v108 h_v109 h_v110 h_cst_11 h_call6_v0 h_call6_v1 h_v111 hv hs hb
  refine ⟨fun b c => ?_, fun b c e => ?_, h3⟩
  · rw [h1, hs]
    rfl
  · rw [h2, hs, hb]

end Cert.ReferenceIdeal.Ops
-- ==== Proof.RefPost.lean ====
/-
  The reference's operations before and after the rounds, read at an index.
-/
module

public import Idealize.ShloMosaic.Lib.Pointwise
public import proofs.«01_k».proof.Proof.Model
public import proofs.«01_k».proof.Proof.Scalars
public import proofs.«01_k».proof.Proof.RefRound

@[expose] public section

set_option maxRecDepth 16384
set_option maxHeartbeats 400000

noncomputable section

namespace Cert.ReferenceIdeal.Ops

open scoped Classical
open Idealize.ShloMosaic Idealize.ShloMosaic.TcCoe Idealize.SL.Sem
open Cert.ReferenceIdeal Cert.ReferenceIdeal.Gen Cert.Nms

/-- The place of class `c`'s entry of round `r` in the tables. -/
def key (c : Fin 80) (r : Fin 8) : Fin 640 := ⟨c.val * 8 + r.val, by omega⟩

/-- Every place is the place of a class and a round. -/
theorem key_split (k : Fin 640) : k = key ⟨k.val / 8, by omega⟩ ⟨k.val % 8, by omega⟩ := Fin.ext (by simp only [key]; omega)

/-- The boxes the rounds work on: the corners put in order. -/
theorem pre_boxes
    {arg0 : FVec Ideal S4x20000x1x4 .f32}
    {v0 : FVec Ideal S4x20000x4 .f32}
    {v1 : FVec Ideal S4x20000x1 .f32}
    {v2 : FVec Ideal S4x20000 .f32}
    {v3 : FVec Ideal S4x20000x1 .f32}
    {v4 : FVec Ideal S4x20000 .f32}
    {v5 : FVec Ideal S4x20000 .f32}
    {v6 : FVec Ideal S4x20000x1 .f32}
    {v7 : FVec Ideal S4x20000 .f32}
    {v8 : FVec Ideal S4x20000x1 .f32}
    {v9 : FVec Ideal S4x20000 .f32}
    {v10 : FVec Ideal S4x20000 .f32}
    {v11 : FVec Ideal S4x20000x1 .f32}
    {v12 : FVec Ideal S4x20000 .f32}
    {v13 : FVec Ideal S4x20000x1 .f32}
    {v14 : FVec Ideal S4x20000 .f32}
    {v15 : FVec Ideal S4x20000 .f32}
    {v16 : FVec Ideal S4x20000x1 .f32}
    {v17 : FVec Ideal S4x20000 .f32}
    {v18 : FVec Ideal S4x20000x1 .f32}
    {v19 : FVec Ideal S4x20000 .f32}
    {v20 : FVec Ideal S4x20000 .f32}
    {v21 : FVec Ideal S4x20000x1 .f32}
    {v22 : FVec Ideal S4x20000x1 .f32}
    {v23 : FVec Ideal S4x20000x1 .f32}
    {v24 : FVec Ideal S4x20000x1 .f32}
    {v25 : FVec Ideal S4x20000x4 .f32}
    (h_v0 : v0 = shapeCast S4x20000x4 arg0 shapeCasts_S4x20000x1x4_S4x20000x4)
    (h_v1 : v1 = extractStridedSlice S4x20000x1 ![0, 0, 0] v0 slices_S4x20000x4_S4x20000x1_0_0_0)
    (h_v2 : v2 = shapeCast S4x20000 v1 shapeCasts_S4x20000x1_S4x20000)
    (h_v3 : v3 = extractStridedSlice S4x20000x1 ![0, 0, 2] v0 slices_S4x20000x4_S4x20000x1_0_0_2)
    (h_v4 : v4 = shapeCast S4x20000 v3 shapeCasts_S4x20000x1_S4x20000)
    (h_v5 : v5 = (minimumf) v2 v4)
    (h_v6 : v6 = extractStridedSlice S4x20000x1 ![0, 0, 1] v0 slices_S4x20000x4_S4x20000x1_0_0_1)
    (h_v7 : v7 = shapeCast S4x20000 v6 shapeCasts_S4x20000x1_S4x20000)
    (h_v8 : v8 = extractStridedSlice S4x20000x1 ![0, 0, 3] v0 slices_S4x20000x4_S4x20000x1_0_0_3)
    (h_v9 : v9 = shapeCast S4x20000 v8 shapeCasts_S4x20000x1_S4x20000)
    (h_v10 : v10 = (minimumf) v7 v9)
    (h_v11 : v11 = extractStridedSlice S4x20000x1 ![0, 0, 0] v0 slices_S4x20000x4_S4x20000x1_0_0_0)
    (h_v12 : v12 = shapeCast S4x20000 v11 shapeCasts_S4x20000x1_S4x20000)
    (h_v13 : v13 = extractStridedSlice S4x20000x1 ![0, 0, 2] v0 slices_S4x20000x4_S4x20000x1_0_0_2)
    (h_v14 : v14 = shapeCast S4x20000 v13 shapeCasts_S4x20000x1_S4x20000)
    (h_v15 : v15 = (maximumf) v12 v14)
    (h_v16 : v16 = extractStridedSlice S4x20000x1 ![0, 0, 1] v0 slices_S4x20000x4_S4x20000x1_0_0_1)
    (h_v17 : v17 = shapeCast S4x20000 v16 shapeCasts_S4x20000x1_S4x20000)
    (h_v18 : v18 = extractStridedSlice S4x20000x1 ![0, 0, 3] v0 slices_S4x20000x4_S4x20000x1_0_0_3)
    (h_v19 : v19 = shapeCast S4x20000 v18 shapeCasts_S4x20000x1_S4x20000)
    (h_v20 : v20 = (maximumf) v17 v19)
    (h_v21 : v21 = (broadcastInDim S4x20000x1 ![0, 1] bcast_S4x20000_S4x20000x1_0_1) v5)
    (h_v22 : v22 = (broadcastInDim S4x20000x1 ![0, 1] bcast_S4x20000_S4x20000x1_0_1) v10)
    (h_v23 : v23 = (broadcastInDim S4x20000x1 ![0, 1] bcast_S4x20000_S4x20000x1_0_1) v15)
    (h_v24 : v24 = (broadcastInDim S4x20000x1 ![0, 1] bcast_S4x20000_S4x20000x1_0_1) v20)
    (h_v25 : v25 = (concatenate S4x20000x4 2 [⟨S4x20000x1, (v21)⟩, ⟨S4x20000x1, (v22)⟩, ⟨S4x20000x1, (v23)⟩, ⟨S4x20000x1, (v24)⟩] concatenates_S4x20000x1_S4x20000x1_S4x20000x1_S4x20000x1_S4x20000x4_d2)) :
    ∀ b, cornerBoxes v25 b = canon fun j e => arg0 (ix4 b j 0 e) := by
  intro b
  have h0 : ∀ j e, v0 (ix3 b j e) = arg0 (ix4 b j 0 e) := by
    intro j e
    rw [h_v0]
    pointwise
  have e0 : ∀ j, v25 (ix3 b j 0) = min (arg0 (ix4 b j 0 0)) (arg0 (ix4 b j 0 2)) := by
    intro j
    subst h_v25 h_v21 h_v5 h_v4 h_v3 h_v2 h_v1
    pointwise [h0]
  have e1 : ∀ j, v25 (ix3 b j 1) = min (arg0 (ix4 b j 0 1)) (arg0 (ix4 b j 0 3)) := by
    intro j
    subst h_v25 h_v22 h_v10 h_v9 h_v8 h_v7 h_v6
    pointwise [h0]
  have e2 : ∀ j, v25 (ix3 b j 2) = max (arg0 (ix4 b j 0 0)) (arg0 (ix4 b j 0 2)) := by
    intro j
    subst h_v25 h_v23 h_v15 h_v14 h_v13 h_v12 h_v11
    pointwise [h0]
  have e3 : ∀ j, v25 (ix3 b j 3) = max (arg0 (ix4 b j 0 1)) (arg0 (ix4 b j 0 3)) := by
    intro j
    subst h_v25 h_v24 h_v20 h_v19 h_v18 h_v17 h_v16
    pointwise [h0]
  unfold cornerBoxes canon
  simp only [e0, e1, e2, e3]

/-- The scores the rounds start from: those over the threshold, the others `-1`. -/
theorem pre_scores
    {arg1 : FVec Ideal S4x20000x80 .f32}
    {v26 : FVec Ideal S4x80x20000 .f32}
    {cst : FVec Ideal S_ .f32}
    {v27 : FVec Ideal S4x80x20000 .f32}
    {v28 : IVec S4x80x20000 1}
    {cst_0 : FVec Ideal S_ .f32}
    {call0_v0 : FVec Ideal S_ .f32}
    {call0_v1 : FVec Ideal S4x80x20000 .f32}
    {v29 : FVec Ideal S4x80x20000 .f32}
    (h_v26 : v26 = transpose S4x80x20000 [0, 2, 1] arg1 transposes_S4x20000x80_S4x80x20000_0_2_1)
    (h_cst : cst = (constant (F := Ideal) S_ .f32 0x3F000000#32))
    (h_v27 : v27 = (broadcastInDim S4x80x20000 ![] bcast_S_S4x80x20000) cst)
    (h_v28 : v28 = (cmpf .ogt) v26 v27)
    (h_cst_0 : cst_0 = (constant (F := Ideal) S_ .f32 0xBF800000#32))
    (h_call0_v0 : call0_v0 = cst_0)
    (h_call0_v1 : call0_v1 = (broadcastInDim S4x80x20000 ![] bcast_S_S4x80x20000) call0_v0)
    (h_v29 : v29 = select v28 v26 call0_v1) :
    ∀ b c k, v29 (ix3 b c k) = filt (fun j => arg1 (ix3 b j c)) k := by
  intro b c k
  subst_vars
  pointwise
  rw [lit_half, lit_neg_one]
  rfl

/-- The batch numbers. -/
theorem pre_batch
    {v30 : IVec S4 32}
    {v31 : IVec S4x1 32}
    (h_v30 : v30 = (iotaInDim S4 32 0))
    (h_v31 : v31 = (broadcastInDim S4x1 ![0] bcast_S4_S4x1_0) v30) :
    ∀ b, v31 (ix2 b 0) = BitVec.ofNat 32 b.val := by
  intro b
  subst_vars
  pointwise

/-- The score table. -/
theorem post_scores
    {v53 : FVec Ideal S4x80 .f32}
    {v672 : FVec Ideal S4x80x1 .f32}
    {v133 : FVec Ideal S4x80 .f32}
    {v673 : FVec Ideal S4x80x1 .f32}
    {v213 : FVec Ideal S4x80 .f32}
    {v674 : FVec Ideal S4x80x1 .f32}
    {v293 : FVec Ideal S4x80 .f32}
    {v675 : FVec Ideal S4x80x1 .f32}
    {v373 : FVec Ideal S4x80 .f32}
    {v676 : FVec Ideal S4x80x1 .f32}
    {v453 : FVec Ideal S4x80 .f32}
    {v677 : FVec Ideal S4x80x1 .f32}
    {v533 : FVec Ideal S4x80 .f32}
    {v678 : FVec Ideal S4x80x1 .f32}
    {v613 : FVec Ideal S4x80 .f32}
    {v679 : FVec Ideal S4x80x1 .f32}
    {v680 : FVec Ideal S4x80x8 .f32}
    {v681 : FVec Ideal S4x640 .f32}
    (h_v672 : v672 = (broadcastInDim S4x80x1 ![0, 1] bcast_S4x80_S4x80x1_0_1) v53)
    (h_v673 : v673 = (broadcastInDim S4x80x1 ![0, 1] bcast_S4x80_S4x80x1_0_1) v133)
    (h_v674 : v674 = (broadcastInDim S4x80x1 ![0, 1] bcast_S4x80_S4x80x1_0_1) v213)
    (h_v675 : v675 = (broadcastInDim S4x80x1 ![0, 1] bcast_S4x80_S4x80x1_0_1) v293)
    (h_v676 : v676 = (broadcastInDim S4x80x1 ![0, 1] bcast_S4x80_S4x80x1_0_1) v373)
    (h_v677 : v677 = (broadcastInDim S4x80x1 ![0, 1] bcast_S4x80_S4x80x1_0_1) v453)
    (h_v678 : v678 = (broadcastInDim S4x80x1 ![0, 1] bcast_S4x80_S4x80x1_0_1) v533)
    (h_v679 : v679 = (broadcastInDim S4x80x1 ![0, 1] bcast_S4x80_S4x80x1_0_1) v613)
    (h_v680 : v680 = (concatenate S4x80x8 2 [⟨S4x80x1, (v672)⟩, ⟨S4x80x1, (v673)⟩, ⟨S4x80x1, (v674)⟩, ⟨S4x80x1, (v675)⟩, ⟨S4x80x1, (v676)⟩, ⟨S4x80x1, (v677)⟩, ⟨S4x80x1, (v678)⟩, ⟨S4x80x1, (v679)⟩] concatenates_S4x80x1_S4x80x1_S4x80x1_S4x80x1_S4x80x1_S4x80x1_S4x80x1_S4x80x1_S4x80x8_d2))
    (h_v681 : v681 = shapeCast S4x640 v680 shapeCasts_S4x80x8_S4x640) :
    ∀ b c r, v681 (ix2 b (key c r)) = (![v53 (ix2 b c), v133 (ix2 b c), v213 (ix2 b c), v293 (ix2 b c), v373 (ix2 b c), v453 (ix2 b c), v533 (ix2 b c), v613 (ix2 b c)] : Fin 8 → EReal) r := by
  intro b c r
  have hr : v681 (ix2 b (key c r)) = v680 (ix3 b c r) := by
    rw [h_v681]
    refine shapeCast_apply _ _ _ _ ?_
    rw [Shape.rowMajor_val_three, Shape.rowMajor_val_two]
    show (b.val * 80 + c.val) * 8 + r.val = b.val * 640 + (c.val * 8 + r.val)
    omega
  rw [hr]
  subst h_v680
  match r with
  | ⟨0, _⟩ =>
    subst h_v672
    show concatenate _ _ _ _ (ix3 b c 0) = v53 (ix2 b c)
    pointwise
  | ⟨1, _⟩ =>
    subst h_v673
    show concatenate _ _ _ _ (ix3 b c 1) = v133 (ix2 b c)
    pointwise
  | ⟨2, _⟩ =>
    subst h_v674
    show concatenate _ _ _ _ (ix3 b c 2) = v213 (ix2 b c)
    pointwise
  | ⟨3, _⟩ =>
    subst h_v675
    show concatenate _ _ _ _ (ix3 b c 3) = v293 (ix2 b c)
    pointwise
  | ⟨4, _⟩ =>
    subst h_v676
    show concatenate _ _ _ _ (ix3 b c 4) = v373 (ix2 b c)
    pointwise
  | ⟨5, _⟩ =>
    subst h_v677
    show concatenate _ _ _ _ (ix3 b c 5) = v453 (ix2 b c)
    pointwise
  | ⟨6, _⟩ =>
    subst h_v678
    show concatenate _ _ _ _ (ix3 b c 6) = v533 (ix2 b c)
    pointwise
  | ⟨7, _⟩ =>
    subst h_v679
    show concatenate _ _ _ _ (ix3 b c 7) = v613 (ix2 b c)
    pointwise

/-- The box table. -/
theorem post_boxes
    {v55 : FVec Ideal S4x80x4 .f32}
    {v682 : FVec Ideal S4x80x1x4 .f32}
    {v135 : FVec Ideal S4x80x4 .f32}
    {v683 : FVec Ideal S4x80x1x4 .f32}
    {v215 : FVec Ideal S4x80x4 .f32}
    {v684 : FVec Ideal S4x80x1x4 .f32}
    {v295 : FVec Ideal S4x80x4 .f32}
    {v685 : FVec Ideal S4x80x1x4 .f32}
    {v375 : FVec Ideal S4x80x4 .f32}
    {v686 : FVec Ideal S4x80x1x4 .f32}
    {v455 : FVec Ideal S4x80x4 .f32}
    {v687 : FVec Ideal S4x80x1x4 .f32}
    {v535 : FVec Ideal S4x80x4 .f32}
    {v688 : FVec Ideal S4x80x1x4 .f32}
    {v615 : FVec Ideal S4x80x4 .f32}
    {v689 : FVec Ideal S4x80x1x4 .f32}
    {v690 : FVec Ideal S4x80x8x4 .f32}
    {v691 : FVec Ideal S4x640x4 .f32}
    (h_v682 : v682 = (broadcastInDim S4x80x1x4 ![0, 1, 3] bcast_S4x80x4_S4x80x1x4_0_1_3) v55)
    (h_v683 : v683 = (broadcastInDim S4x80x1x4 ![0, 1, 3] bcast_S4x80x4_S4x80x1x4_0_1_3) v135)
    (h_v684 : v684 = (broadcastInDim S4x80x1x4 ![0, 1, 3] bcast_S4x80x4_S4x80x1x4_0_1_3) v215)
    (h_v685 : v685 = (broadcastInDim S4x80x1x4 ![0, 1, 3] bcast_S4x80x4_S4x80x1x4_0_1_3) v295)
    (h_v686 : v686 = (broadcastInDim S4x80x1x4 ![0, 1, 3] bcast_S4x80x4_S4x80x1x4_0_1_3) v375)
    (h_v687 : v687 = (broadcastInDim S4x80x1x4 ![0, 1, 3] bcast_S4x80x4_S4x80x1x4_0_1_3) v455)
    (h_v688 : v688 = (broadcastInDim S4x80x1x4 ![0, 1, 3] bcast_S4x80x4_S4x80x1x4_0_1_3) v535)
    (h_v689 : v689 = (broadcastInDim S4x80x1x4 ![0, 1, 3] bcast_S4x80x4_S4x80x1x4_0_1_3) v615)
    (h_v690 : v690 = (concatenate S4x80x8x4 2 [⟨S4x80x1x4, (v682)⟩, ⟨S4x80x1x4, (v683)⟩, ⟨S4x80x1x4, (v684)⟩, ⟨S4x80x1x4, (v685)⟩, ⟨S4x80x1x4, (v686)⟩, ⟨S4x80x1x4, (v687)⟩, ⟨S4x80x1x4, (v688)⟩, ⟨S4x80x1x4, (v689)⟩] concatenates_S4x80x1x4_S4x80x1x4_S4x80x1x4_S4x80x1x4_S4x80x1x4_S4x80x1x4_S4x80x1x4_S4x80x1x4_S4x80x8x4_d2))
    (h_v691 : v691 = shapeCast S4x640x4 v690 shapeCasts_S4x80x8x4_S4x640x4) :
    ∀ b c r e, v691 (ix3 b (key c r) e) = (![v55 (ix3 b c e), v135 (ix3 b c e), v215 (ix3 b c e), v295 (ix3 b c e), v375 (ix3 b c e), v455 (ix3 b c e), v535 (ix3 b c e), v615 (ix3 b c e)] : Fin 8 → EReal) r := by
  intro b c r e
  have hr : v691 (ix3 b (key c r) e) = v690 (ix4 b c r e) := by
    rw [h_v691]
    refine shapeCast_apply _ _ _ _ ?_
    rw [Shape.rowMajor_val_four, Shape.rowMajor_val_three]
    show ((b.val * 80 + c.val) * 8 + r.val) * 4 + e.val = (b.val * 640 + (c.val * 8 + r.val)) * 4 + e.val
    omega
  rw [hr]
  subst h_v690
  match r with
  | ⟨0, _⟩ =>
    subst h_v682
    show concatenate _ _ _ _ (ix4 b c 0 e) = v55 (ix3 b c e)
    pointwise
  | ⟨1, _⟩ =>
    subst h_v683
    show concatenate _ _ _ _ (ix4 b c 1 e) = v135 (ix3 b c e)
    pointwise
  | ⟨2, _⟩ =>
    subst h_v684
    show concatenate _ _ _ _ (ix4 b c 2 e) = v215 (ix3 b c e)
    pointwise
  | ⟨3, _⟩ =>
    subst h_v685
    show concatenate _ _ _ _ (ix4 b c 3 e) = v295 (ix3 b c e)
    pointwise
  | ⟨4, _⟩ =>
    subst h_v686
    show concatenate _ _ _ _ (ix4 b c 4 e) = v375 (ix3 b c e)
    pointwise
  | ⟨5, _⟩ =>
    subst h_v687
    show concatenate _ _ _ _ (ix4 b c 5 e) = v455 (ix3 b c e)
    pointwise
  | ⟨6, _⟩ =>
    subst h_v688
    show concatenate _ _ _ _ (ix4 b c 6 e) = v535 (ix3 b c e)
    pointwise
  | ⟨7, _⟩ =>
    subst h_v689
    show concatenate _ _ _ _ (ix4 b c 7 e) = v615 (ix3 b c e)
    pointwise

/-- The class of a place. -/
theorem post_classes
    {v692 : IVec S80 32}
    {v693 : IVec S80x1 32}
    {v694 : IVec S80x8 32}
    {v695 : IVec S640 32}
    {v696 : IVec S1x640 32}
    {v697 : IVec S4x640 32}
    (h_v692 : v692 = (iotaInDim S80 32 0))
    (h_v693 : v693 = (broadcastInDim S80x1 ![0] bcast_S80_S80x1_0) v692)
    (h_v694 : v694 = (broadcastInDim S80x8 ![0, 1] bcast_S80x1_S80x8_0_1) v693)
    (h_v695 : v695 = shapeCast S640 v694 shapeCasts_S80x8_S640)
    (h_v696 : v696 = (broadcastInDim S1x640 ![1] bcast_S640_S1x640_1) v695)
    (h_v697 : v697 = (broadcastInDim S4x640 ![0, 1] bcast_S1x640_S4x640_0_1) v696) :
    ∀ b k, v697 (ix2 b k) = BitVec.ofNat 32 (k.val / 8) := by
  intro b k
  have hr : v695 (ix1 k) = v694 (ix2 ⟨k.val / 8, by omega⟩ ⟨k.val % 8, by omega⟩) := by
    rw [h_v695]
    refine shapeCast_apply _ _ _ _ ?_
    rw [Shape.rowMajor_val_two, Shape.rowMajor_val_one]
    show (k.val / 8) * 8 + k.val % 8 = k.val
    omega
  subst h_v697 h_v696
  pointwise [hr]
  subst h_v694 h_v693 h_v692
  pointwise

/-- The greatest entries of a row and where they are. -/
theorem topK_at (x : FVec Ideal S4x640 .f32) (b : Fin 4) (r : Fin 8) :
    (Host.topK S4x8 1 (FloatOps.cmpfTotal .gt) x sliceFits_S4x640_S4x8).1 (ix2 b r) = x (ix2 b (topPos (fun k => x (ix2 b k)) ⟨r.val, by omega⟩)) ∧
    (Host.topK S4x8 1 (FloatOps.cmpfTotal .gt) x sliceFits_S4x640_S4x8).2 (ix2 b r)
      = BitVec.ofNat 32 (topPos (fun k => x (ix2 b k)) ⟨r.val, by omega⟩).val := by
  have hal : ∀ q k : Fin 640, Shape.Idx.along (ix2 b q : S4x640.Idx) (1 : Fin 2) k = ix2 b k := by
    intro q k
    funext a
    match a with
    | ⟨0, _⟩ => rfl
    | ⟨1, _⟩ => rfl
  have hc : ∀ u v : EReal, (FloatOps.cmpfTotal (F := Ideal) (φ := .f32) .gt u v == 1#1) = decide (v < u) := by
    intro u v
    have : FloatOps.cmpfTotal (F := Ideal) (φ := .f32) .gt u v = BitVec.ofBool (decide (v < u)) := rfl
    rw [this]
    by_cases h : v < u <;> simp [h]
  have hpos : ∀ q : Fin 640, sortedFrom (fun k k' : Fin 640 =>
      FloatOps.cmpfTotal (F := Ideal) (φ := .f32) .gt (x (Shape.Idx.along (ix2 b q : S4x640.Idx) (1 : Fin 2) k))
        (x (Shape.Idx.along (ix2 b q : S4x640.Idx) (1 : Fin 2) k')) == 1#1) q = topPos (fun k => x (ix2 b k)) q := by
    intro q
    unfold topPos
    refine congrArg (fun f => sortedFrom f q) ?_
    funext k k'
    rw [hc, hal, hal]
  have hsl : ∀ {α : Type} (v : S4x640.Idx → α), extractStridedSlice S4x8 (fun _ => 0) v sliceFits_S4x640_S4x8 (ix2 b r) = v (ix2 b ⟨r.val, by omega⟩) := by
    intro α v
    pointwise
  have hd : 1 < S4x640.rank := by decide
  have hal' : ∀ (q : Fin 640) (k : Fin (S4x640.size ⟨1, hd⟩)), Shape.Idx.along (ix2 b q : S4x640.Idx) ⟨1, hd⟩ k = ix2 b k := hal
  constructor
  · dsimp only [Host.topK]
    rw [hsl, Host.sort2, dif_pos hd]
    refine congrArg x ((hal' _ _).trans ?_)
    exact congrArg (fun k : Fin 640 => (ix2 b k : S4x640.Idx)) (hpos ⟨r.val, by omega⟩)
  · dsimp only [Host.topK]
    rw [hsl, Host.sort2, dif_pos hd]
    have hio : ∀ k : Fin 640, (fun i : S4x640.Idx => if hd : 1 < S4x640.rank then iotaInDim S4x640 32 ⟨1, hd⟩ i else 0#32) (ix2 b k) = BitVec.ofNat 32 k.val := by
      intro k
      beta_reduce
      rw [dif_pos hd]
      rfl
    refine Eq.trans ?_ (hio _)
    refine congrArg (fun i : S4x640.Idx => if hd : 1 < S4x640.rank then iotaInDim S4x640 32 ⟨1, hd⟩ i else 0#32) ((hal' _ _).trans ?_)
    exact congrArg (fun k : Fin 640 => (ix2 b k : S4x640.Idx)) (hpos ⟨r.val, by omega⟩)

/-- The greatest scores of a row of the table and their places. -/
theorem post_top
    {v681 : FVec Ideal S4x640 .f32}
    {values : FVec Ideal S4x8 .f32}
    {indices : IVec S4x8 32}
    (h_values : values = (Host.topK S4x8 1 (FloatOps.cmpfTotal .gt) v681 sliceFits_S4x640_S4x8).1)
    (h_indices : indices = (Host.topK S4x8 1 (FloatOps.cmpfTotal .gt) v681 sliceFits_S4x640_S4x8).2) :
    (∀ b (r : Fin 8), values (ix2 b r) = v681 (ix2 b (topPos (fun k => v681 (ix2 b k)) ⟨r.val, by omega⟩))) ∧
      ∀ b (r : Fin 8), indices (ix2 b r) = BitVec.ofNat 32 (topPos (fun k => v681 (ix2 b k)) ⟨r.val, by omega⟩).val := by
  subst_vars
  exact ⟨fun b r => (topK_at _ b r).1, fun b r => (topK_at _ b r).2⟩

/-- The boxes at the places. -/
theorem post_box
    {indices : IVec S4x8 32}
    {v698 : IVec S4x8x1 32}
    {call49_c : IVec S_ 32}
    {call49_v0 : IVec S4x8x1 32}
    {call49_v1 : IVec S4x8x1 1}
    {call49_c_0 : IVec S_ 32}
    {call49_v2 : IVec S4x8x1 32}
    {call49_v3 : IVec S4x8x1 32}
    {call49_v4 : IVec S4x8x1 32}
    {call49_c_1 : IVec S1 32}
    {call49_c_2 : IVec S_ 32}
    {call49_v5 : IVec S4x8x1 32}
    {call49_v6 : IVec S4x8x1 1}
    {call49_v7 : IVec S1x1x1 32}
    {call49_v8 : IVec S4x8x1 32}
    {call49_v9 : IVec S4x8x1 1}
    {call49_v10 : IVec S4x8x1 1}
    {call49_c_3 : IVec S_ 1}
    {call49_v11 : IVec S4x8 1}
    {v691 : FVec Ideal S4x640x4 .f32}
    {call49_v12 : FVec Ideal S4x8x4 .f32}
    {call49_v13 : IVec S4x8x4 1}
    {call49_cst : FVec Ideal S_ .f32}
    {call49_v14 : FVec Ideal S4x8x4 .f32}
    {v699 : FVec Ideal S4x8x4 .f32}
    (h_v698 : v698 = (broadcastInDim S4x8x1 ![0, 1] bcast_S4x8_S4x8x1_0_1) indices)
    (h_call49_c : call49_c = (constantI S_ 32 0#32))
    (h_call49_v0 : call49_v0 = (broadcastInDim S4x8x1 ![] bcast_S_S4x8x1) call49_c)
    (h_call49_v1 : call49_v1 = (cmpi .slt) v698 call49_v0)
    (h_call49_c_0 : call49_c_0 = (constantI S_ 32 640#32))
    (h_call49_v2 : call49_v2 = (broadcastInDim S4x8x1 ![] bcast_S_S4x8x1) call49_c_0)
    (h_call49_v3 : call49_v3 = addi v698 call49_v2)
    (h_call49_v4 : call49_v4 = select call49_v1 call49_v3 v698)
    (h_call49_c_1 : call49_c_1 = (constantI S1 32 639#32))
    (h_call49_c_2 : call49_c_2 = (constantI S_ 32 0#32))
    (h_call49_v5 : call49_v5 = (broadcastInDim S4x8x1 ![] bcast_S_S4x8x1) call49_c_2)
    (h_call49_v6 : call49_v6 = (cmpi .sge) call49_v4 call49_v5)
    (h_call49_v7 : call49_v7 = (broadcastInDim S1x1x1 ![2] bcast_S1_S1x1x1_2) call49_c_1)
    (h_call49_v8 : call49_v8 = (broadcastInDim S4x8x1 ![0, 1, 2] bcast_S1x1x1_S4x8x1_0_1_2) call49_v7)
    (h_call49_v9 : call49_v9 = (cmpi .sle) call49_v4 call49_v8)
    (h_call49_v10 : call49_v10 = andi call49_v6 call49_v9)
    (h_call49_c_3 : call49_c_3 = (constantI S_ 1 1#1))
    (h_call49_v11 : call49_v11 = Host.reduce IntOp.andi call49_v10 call49_c_3 reducesTo_S4x8x1_S4x8_d2 h_S_)
    (h_call49_v12 : call49_v12 = Host.gather gather_S4x640x4_S4x8x1_S4x8x4_2_1_0_0_1_2_114 v691 call49_v4)
    (h_call49_v13 : call49_v13 = (broadcastInDim S4x8x4 ![0, 1] bcast_S4x8_S4x8x4_0_1) call49_v11)
    (h_call49_cst : call49_cst = (constant (F := Ideal) S_ .f32 0x7FC00000#32))
    (h_call49_v14 : call49_v14 = (broadcastInDim S4x8x4 ![] bcast_S_S4x8x4) call49_cst)
    (h_v699 : v699 = select call49_v13 call49_v12 call49_v14)
    (p : Fin 4 → Fin 8 → Fin 640) (hp : ∀ b r, indices (ix2 b r) = BitVec.ofNat 32 (p b r).val) :
    ∀ b r e, v699 (ix3 b r e) = v691 (ix3 b (p b r) e) := by
  have hw : ∀ b r, call49_v4 (ix3 b r 0) = BitVec.ofNat 32 (p b r).val := by
    intro b r
    have := wrap_ofNat (p b r).val 640 (by omega)
    subst h_call49_v4 h_call49_v3 h_call49_v2 h_call49_c_0 h_call49_v1 h_call49_v0 h_call49_c h_v698
    pointwise [hp]
    exact this
  have hr : ∀ i, call49_v10 i = 1#1 := by
    intro i
    obtain ⟨b, r, z, rfl⟩ : ∃ b r z, i = ix3 b r z := ⟨i 0, i 1, i 2, by funext a; match a with | ⟨0, _⟩ => rfl | ⟨1, _⟩ => rfl | ⟨2, _⟩ => rfl⟩
    obtain rfl : z = 0 := Subsingleton.elim _ _
    have := in_range (p b r).val 639 (by omega) (by omega)
    subst h_call49_v10 h_call49_v9 h_call49_v8 h_call49_v7 h_call49_c_1 h_call49_v6 h_call49_v5 h_call49_c_2
    pointwise [hw]
    exact this
  intro b r e
  have hg : call49_v12 (ix3 b r e) = v691 (ix3 b (p b r) e) := by
    rw [h_call49_v12]; exact gather_top_box _ _ b r e _ (hw b r)
  have h11 : call49_v11 (ix2 b r) = 1#1 := by
    rw [h_call49_v11]; exact reduce_and_one _ _ _ _ hr (by subst h_call49_c_3; intro i; rfl) _
  rw [h_v699]
  subst h_call49_v13
  pointwise [hg, h11]

/-- The classes at the places. -/
theorem post_class
    {call50_c : IVec S_ 32}
    {call50_v0 : IVec S4x8 32}
    {indices : IVec S4x8 32}
    {call50_v1 : IVec S4x8 1}
    {call50_c_0 : IVec S_ 32}
    {call50_v2 : IVec S4x8 32}
    {call50_v3 : IVec S4x8 32}
    {call50_v4 : IVec S4x8 32}
    {call50_v5 : IVec S4x8x1 32}
    {call50_c_1 : IVec S1 32}
    {call50_c_2 : IVec S_ 32}
    {call50_v6 : IVec S4x8x1 32}
    {call50_v7 : IVec S4x8x1 1}
    {call50_v8 : IVec S1x1x1 32}
    {call50_v9 : IVec S4x8x1 32}
    {call50_v10 : IVec S4x8x1 1}
    {call50_v11 : IVec S4x8x1 1}
    {call50_c_3 : IVec S_ 1}
    {call50_v12 : IVec S4x8 1}
    {v697 : IVec S4x640 32}
    {call50_v13 : IVec S4x8 32}
    {call50_c_4 : IVec S_ 32}
    {call50_v14 : IVec S4x8 32}
    {v700 : IVec S4x8 32}
    (h_call50_c : call50_c = (constantI S_ 32 0#32))
    (h_call50_v0 : call50_v0 = (broadcastInDim S4x8 ![] bcast_S_S4x8) call50_c)
    (h_call50_v1 : call50_v1 = (cmpi .slt) indices call50_v0)
    (h_call50_c_0 : call50_c_0 = (constantI S_ 32 640#32))
    (h_call50_v2 : call50_v2 = (broadcastInDim S4x8 ![] bcast_S_S4x8) call50_c_0)
    (h_call50_v3 : call50_v3 = addi indices call50_v2)
    (h_call50_v4 : call50_v4 = select call50_v1 call50_v3 indices)
    (h_call50_v5 : call50_v5 = shapeCast S4x8x1 call50_v4 shapeCasts_S4x8_S4x8x1)
    (h_call50_c_1 : call50_c_1 = (constantI S1 32 639#32))
    (h_call50_c_2 : call50_c_2 = (constantI S_ 32 0#32))
    (h_call50_v6 : call50_v6 = (broadcastInDim S4x8x1 ![] bcast_S_S4x8x1) call50_c_2)
    (h_call50_v7 : call50_v7 = (cmpi .sge) call50_v5 call50_v6)
    (h_call50_v8 : call50_v8 = (broadcastInDim S1x1x1 ![2] bcast_S1_S1x1x1_2) call50_c_1)
    (h_call50_v9 : call50_v9 = (broadcastInDim S4x8x1 ![0, 1, 2] bcast_S1x1x1_S4x8x1_0_1_2) call50_v8)
    (h_call50_v10 : call50_v10 = (cmpi .sle) call50_v5 call50_v9)
    (h_call50_v11 : call50_v11 = andi call50_v7 call50_v10)
    (h_call50_c_3 : call50_c_3 = (constantI S_ 1 1#1))
    (h_call50_v12 : call50_v12 = Host.reduce IntOp.andi call50_v11 call50_c_3 reducesTo_S4x8x1_S4x8_d2 h_S_)
    (h_call50_v13 : call50_v13 = Host.gather gather_S4x640_S4x8x1_S4x8_n_1_0_0_1_2_11 v697 call50_v5)
    (h_call50_c_4 : call50_c_4 = (constantI S_ 32 2147483648#32))
    (h_call50_v14 : call50_v14 = (broadcastInDim S4x8 ![] bcast_S_S4x8) call50_c_4)
    (h_v700 : v700 = select call50_v12 call50_v13 call50_v14)
    (p : Fin 4 → Fin 8 → Fin 640) (hp : ∀ b r, indices (ix2 b r) = BitVec.ofNat 32 (p b r).val) :
    ∀ b r, v700 (ix2 b r) = v697 (ix2 b (p b r)) := by
  have hw : ∀ b r, call50_v5 (ix3 b r 0) = BitVec.ofNat 32 (p b r).val := by
    intro b r
    have := wrap_ofNat (p b r).val 640 (by omega)
    subst h_call50_v5 h_call50_v4 h_call50_v3 h_call50_v2 h_call50_c_0 h_call50_v1 h_call50_v0 h_call50_c
    pointwise [hp]
    exact this
  have hr : ∀ i, call50_v11 i = 1#1 := by
    intro i
    obtain ⟨b, r, z, rfl⟩ : ∃ b r z, i = ix3 b r z := ⟨i 0, i 1, i 2, by funext a; match a with | ⟨0, _⟩ => rfl | ⟨1, _⟩ => rfl | ⟨2, _⟩ => rfl⟩
    obtain rfl : z = 0 := Subsingleton.elim _ _
    have := in_range (p b r).val 639 (by omega) (by omega)
    subst h_call50_v11 h_call50_v10 h_call50_v9 h_call50_v8 h_call50_c_1 h_call50_v7 h_call50_v6 h_call50_c_2
    pointwise [hw]
    exact this
  intro b r
  have hg : call50_v13 (ix2 b r) = v697 (ix2 b (p b r)) := by
    rw [h_call50_v13]; exact gather_top_class _ _ b r _ (hw b r)
  have h11 : call50_v12 (ix2 b r) = 1#1 := by
    rw [h_call50_v12]; exact reduce_and_one _ _ _ _ hr (by subst h_call50_c_3; intro i; rfl) _
  rw [h_v700]
  pointwise [hg, h11]

/-- The results, masked by whether the score is positive. -/
theorem post_results
    {cst_96 : FVec Ideal S_ .f32}
    {v701 : FVec Ideal S4x8 .f32}
    {values : FVec Ideal S4x8 .f32}
    {v702 : IVec S4x8 1}
    {v703 : IVec S4x8x1 1}
    {cst_97 : FVec Ideal S_ .f32}
    {call51_v0 : FVec Ideal S_ .f32}
    {call51_v1 : IVec S4x8x4 1}
    {call51_v2 : FVec Ideal S4x8x4 .f32}
    {v699 : FVec Ideal S4x8x4 .f32}
    {v704 : FVec Ideal S4x8x4 .f32}
    {cst_98 : FVec Ideal S_ .f32}
    {cst_99 : FVec Ideal S_ .f32}
    {call52_v0 : FVec Ideal S_ .f32}
    {call52_v1 : FVec Ideal S4x8x4 .f32}
    {call52_v2 : FVec Ideal S4x8x4 .f32}
    {call52_v3 : FVec Ideal S_ .f32}
    {call52_v4 : FVec Ideal S4x8x4 .f32}
    {v705 : FVec Ideal S4x8x4 .f32}
    {cst_100 : FVec Ideal S_ .f32}
    {call53_v0 : FVec Ideal S_ .f32}
    {call53_v1 : FVec Ideal S4x8 .f32}
    {v706 : FVec Ideal S4x8 .f32}
    {c_101 : IVec S_ 32}
    {call54_v0 : IVec S_ 32}
    {call54_v1 : IVec S4x8 32}
    {v700 : IVec S4x8 32}
    {v707 : IVec S4x8 32}
    {v708 : IVec S4x8 32}
    {c_102 : IVec S_ 32}
    {v709 : IVec S4 32}
    (h_cst_96 : cst_96 = (constant (F := Ideal) S_ .f32 0x00000000#32))
    (h_v701 : v701 = (broadcastInDim S4x8 ![] bcast_S_S4x8) cst_96)
    (h_v702 : v702 = (cmpf .ogt) values v701)
    (h_v703 : v703 = (broadcastInDim S4x8x1 ![0, 1] bcast_S4x8_S4x8x1_0_1) v702)
    (h_cst_97 : cst_97 = (constant (F := Ideal) S_ .f32 0x00000000#32))
    (h_call51_v0 : call51_v0 = cst_97)
    (h_call51_v1 : call51_v1 = (broadcastInDim S4x8x4 ![0, 1, 2] bcast_S4x8x1_S4x8x4_0_1_2) v703)
    (h_call51_v2 : call51_v2 = (broadcastInDim S4x8x4 ![] bcast_S_S4x8x4) call51_v0)
    (h_v704 : v704 = select call51_v1 v699 call51_v2)
    (h_cst_98 : cst_98 = (constant (F := Ideal) S_ .f32 0x00000000#32))
    (h_cst_99 : cst_99 = (constant (F := Ideal) S_ .f32 0x3F800000#32))
    (h_call52_v0 : call52_v0 = cst_98)
    (h_call52_v1 : call52_v1 = (broadcastInDim S4x8x4 ![] bcast_S_S4x8x4) call52_v0)
    (h_call52_v2 : call52_v2 = maximumf call52_v1 v704)
    (h_call52_v3 : call52_v3 = cst_99)
    (h_call52_v4 : call52_v4 = (broadcastInDim S4x8x4 ![] bcast_S_S4x8x4) call52_v3)
    (h_v705 : v705 = minimumf call52_v4 call52_v2)
    (h_cst_100 : cst_100 = (constant (F := Ideal) S_ .f32 0x00000000#32))
    (h_call53_v0 : call53_v0 = cst_100)
    (h_call53_v1 : call53_v1 = (broadcastInDim S4x8 ![] bcast_S_S4x8) call53_v0)
    (h_v706 : v706 = select v702 values call53_v1)
    (h_c_101 : c_101 = (constantI S_ 32 0#32))
    (h_call54_v0 : call54_v0 = c_101)
    (h_call54_v1 : call54_v1 = (broadcastInDim S4x8 ![] bcast_S_S4x8) call54_v0)
    (h_v707 : v707 = select v702 v700 call54_v1)
    (h_v708 : v708 = extui 32 v702 natLt_1_32)
    (h_c_102 : c_102 = (constantI S_ 32 0#32))
    (h_v709 : v709 = Host.reduce IntOp.addi v708 c_102 reducesTo_S4x8_S4_d1 h_S_) :
    (∀ b r e, v705 (ix3 b r e) = min 1 (max 0 (if 0 < values (ix2 b r) then v699 (ix3 b r e) else 0))) ∧
      (∀ b r, v706 (ix2 b r) = if 0 < values (ix2 b r) then values (ix2 b r) else 0) ∧
      (∀ b r, v707 (ix2 b r) = if 0 < values (ix2 b r) then v700 (ix2 b r) else 0#32) ∧
      ∀ b, v709 (ix1 b) = Finset.univ.fold IntOp.addi 0#32 fun r : Fin 8 => if 0 < values (ix2 b r) then 1#32 else 0#32 := by
  have hv : ∀ b r, v702 (ix2 b r) = BitVec.ofBool (decide (0 < values (ix2 b r))) := by
    intro b r
    subst h_v702 h_v701 h_cst_96
    pointwise
  refine ⟨fun b r e => ?_, fun b r => ?_, fun b r => ?_, fun b => ?_⟩
  · subst h_v705 h_call52_v4 h_call52_v3 h_cst_99 h_call52_v2 h_call52_v1 h_call52_v0 h_cst_98 h_v704 h_call51_v2 h_call51_v1 h_call51_v0 h_cst_97 h_v703
    pointwise [hv]
  · subst h_v706 h_call53_v1 h_call53_v0 h_cst_100
    pointwise [hv]
  · subst h_v707 h_call54_v1 h_call54_v0 h_c_101
    pointwise [hv]
  · have h8 : ∀ b r, v708 (ix2 b r) = if 0 < values (ix2 b r) then 1#32 else 0#32 := by
      intro b r
      rw [h_v708]
      pointwise [hv]
      by_cases h : 0 < values (ix2 b r) <;> simp [h]
    rw [h_v709, Host.reduce_eq_fold_single IntOp.addi _ _ reducesTo_S4x8_S4_d1 (by decide) h_S_ (ix1 b)]
    have hc : c_102 (Shape.Idx.first h_S_) = 0#32 := by rw [h_c_102]; rfl
    rw [hc]
    refine Finset.fold_congr fun r _ => ?_
    refine (congrArg v708 (funext fun a => Fin.ext ?_)).trans (h8 b r)
    match a with
    | ⟨0, _⟩ => rfl
    | ⟨1, _⟩ => rfl

end Cert.ReferenceIdeal.Ops
-- ==== Proof.Line.lean ====
/-
  A straight line of operations in which every operation writes one buffer, numbered by its place in the line, and reads
  buffers of smaller numbers only. After such a line, every operation's equation holds of the final contents: what its
  result buffer holds is the operation's function of what its operand buffers hold.
-/
module

public import Idealize.ShloMosaic.Lib.Claim

@[expose] public section

namespace Cert.Line

open Idealize.ShloMosaic Idealize.ShloMosaic.StableHlo Idealize.ShloMosaic.TcCoe Idealize.SL.Sem

variable {τ : Topo} {sig : RefSig} {Val : EltTy → Type}

/-- The number of a buffer in its memory space. -/
def rk (r : Ref sig .tc) : Nat := r.idx.val

/-- The operation writes the buffer numbered `n` only, and what it writes depends on buffers of smaller numbers only. -/
structure OpAt (op : HloOp τ sig Val) (n : Nat) : Prop where
  ex : ∃ y : Ref sig .tc, op.writes = {Proc.devRef .tc y} ∧ rk y = n ∧
    ∀ F G : Valuation τ sig Val, (∀ r : Ref sig .tc, rk r < n → F (Proc.devRef .tc r) = G (Proc.devRef .tc r)) →
      op.result F (Proc.devRef .tc y) = op.result G (Proc.devRef .tc y)

/-- The operations of the line write the buffers numbered from `n` on, in order. -/
def Lined : Nat → List (HloOp τ sig Val) → Prop
  | _, [] => True
  | n, op :: ops => OpAt op n ∧ Lined (n + 1) ops

theorem Lined.append : ∀ {n : Nat} {l₁ l₂ : List (HloOp τ sig Val)}, Lined n l₁ → Lined (n + l₁.length) l₂ →
    Lined n (l₁ ++ l₂)
  | _, [], _, _, h => h
  | n, op :: l₁, l₂, h₁, h₂ => ⟨h₁.1, Lined.append h₁.2 (by
      rw [List.length_cons, ← Nat.add_assoc, Nat.add_right_comm] at h₂; exact h₂)⟩

/-- Buffers of smaller numbers keep their contents. -/
theorem Lined.keep : ∀ {n : Nat} {ops : List (HloOp τ sig Val)}, Lined n ops → ∀ (V : Valuation τ sig Val)
    (r : Ref sig .tc), rk r < n → after ops V (Proc.devRef .tc r) = V (Proc.devRef .tc r)
  | _, [], _, _, _, _ => rfl
  | n, op :: ops, h, V, r, hr => by
    obtain ⟨y, hw, hy, -⟩ := h.1.ex
    rw [after_cons, Lined.keep h.2 _ r (by omega), op.result_of_not_mem]
    rw [hw, Finset.mem_singleton]
    exact devRef_ne_of_ne fun e => by rw [e] at hr; omega

/-- The operation's equation holds of the contents `F`. -/
def Sat (op : HloOp τ sig Val) (F : Valuation τ sig Val) : Prop := ∀ b ∈ op.writes, F b = op.result F b

/-- After the line every operation's equation holds. -/
theorem Lined.sat : ∀ {n : Nat} {ops : List (HloOp τ sig Val)}, Lined n ops → ∀ (V : Valuation τ sig Val),
    ∀ op ∈ ops, Sat op (after ops V)
  | n, op :: ops, h, V, o, ho => by
    rcases List.mem_cons.mp ho with rfl | ho
    · obtain ⟨y, hw, hy, hF⟩ := h.1.ex
      intro b hb
      rw [hw, Finset.mem_singleton] at hb
      subst hb
      rw [after_cons, Lined.keep h.2 _ y (by omega)]
      refine hF _ _ fun r hr => ?_
      rw [← after_cons]
      exact (Lined.keep (ops := o :: ops) h V r hr).symm
    · exact Lined.sat h.2 _ o ho

variable (x a b c e y : Ref sig .tc)

theorem opAt_of {op : HloOp τ sig Val} {y : Ref sig .tc} {n : Nat} (hw : op.writes = {Proc.devRef .tc y}) (hy : rk y = n)
    (h : ∀ F G : Valuation τ sig Val, (∀ r : Ref sig .tc, rk r < n → F (Proc.devRef .tc r) = G (Proc.devRef .tc r)) →
      op.result F (Proc.devRef .tc y) = op.result G (Proc.devRef .tc y)) : OpAt op n := ⟨y, hw, hy, h⟩

theorem nullary_at (v : y.ty.Contents Val) (hy) {n : Nat} (h : rk y = n) : OpAt (nullary (τ := τ) y v hy) n :=
  opAt_of rfl h fun F G _ => by rw [nullary_result, nullary_result]
theorem unary_at (f : x.ty.Contents Val → y.ty.Contents Val) (hx hy) {n : Nat} (h : rk y = n) (h₁ : rk x < n) :
    OpAt (unary (τ := τ) x y f hx hy) n :=
  opAt_of rfl h fun F G hFG => by rw [unary_result, unary_result, hFG x h₁]
theorem reshape_at (he hn hx hy) {n : Nat} (h : rk y = n) (h₁ : rk x < n) :
    OpAt (reshape (τ := τ) (Val := Val) x y he hn hx hy) n :=
  opAt_of rfl h fun F G hFG => by rw [reshape_result, reshape_result, hFG x h₁]
theorem binary_at (f : a.ty.Contents Val → b.ty.Contents Val → y.ty.Contents Val) (ha hb hy) {n : Nat} (h : rk y = n)
    (h₁ : rk a < n) (h₂ : rk b < n) : OpAt (binary (τ := τ) a b y f ha hb hy) n :=
  opAt_of rfl h fun F G hFG => by rw [binary_result, binary_result, hFG a h₁, hFG b h₂]
theorem ternary_at (f : c.ty.Contents Val → a.ty.Contents Val → b.ty.Contents Val → y.ty.Contents Val) (hc ha hb hy)
    {n : Nat} (h : rk y = n) (h₀ : rk c < n) (h₁ : rk a < n) (h₂ : rk b < n) :
    OpAt (ternary (τ := τ) c a b y f hc ha hb hy) n :=
  opAt_of rfl h fun F G hFG => by rw [ternary_result, ternary_result, hFG c h₀, hFG a h₁, hFG b h₂]
theorem quaternary_at
    (f : a.ty.Contents Val → b.ty.Contents Val → c.ty.Contents Val → e.ty.Contents Val → y.ty.Contents Val) (ha hb hc he hy)
    {n : Nat} (h : rk y = n) (h₁ : rk a < n) (h₂ : rk b < n) (h₃ : rk c < n) (h₄ : rk e < n) :
    OpAt (quaternary (τ := τ) a b c e y f ha hb hc he hy) n :=
  opAt_of rfl h fun F G hFG => by rw [quaternary_result, quaternary_result, hFG a h₁, hFG b h₂, hFG c h₃, hFG e h₄]
theorem nary_at {k : Nat} (xs : Fin k → Ref sig .tc) (f : ((k : Fin k) → (xs k).ty.Contents Val) → y.ty.Contents Val)
    (hxs hy) {n : Nat} (h : rk y = n) (h₁ : ∀ i, rk (xs i) < n) : OpAt (nary (τ := τ) xs y f hxs hy) n :=
  opAt_of rfl h fun F G hFG => by rw [nary_result, nary_result, funext fun i => hFG (xs i) (h₁ i)]

/-! The equation of each kind of operation. -/

theorem sat_of {op : HloOp τ sig Val} {y : Ref sig .tc} (hw : op.writes = {Proc.devRef .tc y}) (F : Valuation τ sig Val) :
    Sat op F ↔ F (Proc.devRef .tc y) = op.result F (Proc.devRef .tc y) := by
  unfold Sat; rw [hw]; simp only [Finset.mem_singleton, forall_eq]

theorem nullary_sat (v : y.ty.Contents Val) (hy) (F : Valuation τ sig Val) :
    Sat (nullary (τ := τ) y v hy) F ↔ F (Proc.devRef .tc y) = v := by
  rw [sat_of (nullary_writes y v hy), nullary_result]
theorem unary_sat (f : x.ty.Contents Val → y.ty.Contents Val) (hx hy) (F : Valuation τ sig Val) :
    Sat (unary (τ := τ) x y f hx hy) F ↔ F (Proc.devRef .tc y) = f (F (Proc.devRef .tc x)) := by
  rw [sat_of (unary_writes x y f hx hy), unary_result]
theorem reshape_sat (he hn hx hy) (F : Valuation τ sig Val) :
    Sat (reshape (τ := τ) (Val := Val) x y he hn hx hy) F ↔
      F (Proc.devRef .tc y) = fun i => he ▸ shapeCast y.ty.shape (F (Proc.devRef .tc x)) hn i := by
  rw [sat_of (reshape_writes x y he hn hx hy), reshape_result]
theorem binary_sat (f : a.ty.Contents Val → b.ty.Contents Val → y.ty.Contents Val) (ha hb hy) (F : Valuation τ sig Val) :
    Sat (binary (τ := τ) a b y f ha hb hy) F ↔
      F (Proc.devRef .tc y) = f (F (Proc.devRef .tc a)) (F (Proc.devRef .tc b)) := by
  rw [sat_of (binary_writes a b y f ha hb hy), binary_result]
theorem ternary_sat (f : c.ty.Contents Val → a.ty.Contents Val → b.ty.Contents Val → y.ty.Contents Val) (hc ha hb hy)
    (F : Valuation τ sig Val) :
    Sat (ternary (τ := τ) c a b y f hc ha hb hy) F ↔
      F (Proc.devRef .tc y) = f (F (Proc.devRef .tc c)) (F (Proc.devRef .tc a)) (F (Proc.devRef .tc b)) := by
  rw [sat_of (ternary_writes _ _ _ _ _ _ _ _ _), ternary_result]
theorem quaternary_sat
    (f : a.ty.Contents Val → b.ty.Contents Val → c.ty.Contents Val → e.ty.Contents Val → y.ty.Contents Val) (ha hb hc he hy)
    (F : Valuation τ sig Val) :
    Sat (quaternary (τ := τ) a b c e y f ha hb hc he hy) F ↔
      F (Proc.devRef .tc y)
        = f (F (Proc.devRef .tc a)) (F (Proc.devRef .tc b)) (F (Proc.devRef .tc c)) (F (Proc.devRef .tc e)) := by
  rw [sat_of (quaternary_writes _ _ _ _ _ _ _ _ _ _ _), quaternary_result]
theorem nary_sat {k : Nat} (xs : Fin k → Ref sig .tc) (f : ((k : Fin k) → (xs k).ty.Contents Val) → y.ty.Contents Val)
    (hxs hy) (F : Valuation τ sig Val) :
    Sat (nary (τ := τ) xs y f hxs hy) F ↔ F (Proc.devRef .tc y) = f fun i => F (Proc.devRef .tc (xs i)) := by
  rw [sat_of (nary_writes y xs f hxs hy), nary_result]

/-- A step of a line followed by the rest. -/
theorem isSeq_append {nD : Nat} {Λ : Labels} {p q : Prog (TpuEff nD τ sig Val Λ .tc) PUnit} {l₁ l₂ : List (HloOp τ sig Val)}
    (h₁ : IsSeq p l₁) (h₂ : IsSeq q l₂) : IsSeq (p >>= fun _ => q) (l₁ ++ l₂) := by
  unfold IsSeq at *; rw [h₁, h₂, seq_append]

end Cert.Line
-- ==== Proof.LinesA.lean ====
/-
  The reference's program, statements 0 to 239: a straight line of host operations, each of which writes its own buffer.
-/
module

public import proofs.«01_k».proof.Proof.Line
public import proofs.«01_k».proof.Proof.Gen.ReferenceIdeal

@[expose] public section

set_option maxRecDepth 16384
set_option maxHeartbeats 4000000

noncomputable section

namespace Cert.ReferenceIdeal.Lines

open Cert.ReferenceIdeal Cert.ReferenceIdeal.Gen Cert.Line
open Idealize.ShloMosaic Idealize.ShloMosaic.StableHlo Idealize.ShloMosaic.TcCoe Idealize.SL.Sem

variable {F : FTy → Type} [FloatOps F]

/-- The operations of statements 0 to 59, in order. -/
def part0 : {ops : List (HloOp τ sig (Elt F)) // ∀ d, IsSeq (main_part0 (F := F) d) ops} := by
  apply Subtype.mk
  hlo_seq

/-- They write buffers 2, 3, … and read only earlier ones. -/
theorem lined0 : Lined 2 (part0 (F := F)).1 := by
  unfold part0
  repeat' (first | apply And.intro | exact True.intro)
  all_goals first
    | exact unary_at _ _ _ _ _ rfl (by decide +kernel)
    | exact nullary_at _ _ _ rfl
    | exact binary_at _ _ _ _ _ _ _ rfl (by decide +kernel) (by decide +kernel)
    | exact reshape_at _ _ _ _ _ _ rfl (by decide +kernel)
    | exact ternary_at _ _ _ _ _ _ _ _ _ rfl (by decide +kernel) (by decide +kernel) (by decide +kernel)
    | exact quaternary_at _ _ _ _ _ _ _ _ _ _ _ rfl (by decide +kernel) (by decide +kernel) (by decide +kernel) (by decide +kernel)
    | exact nary_at _ _ _ _ _ rfl (by decide +kernel)

theorem length0 : (part0 (F := F)).1.length = 87 := rfl

theorem bufs0 : (part0 (F := F)).1.Forall fun op => op.bufs ⊆ tcRefs τ sig := by unfold part0; simp

theorem fresh0 : (part0 (F := F)).1.Forall fun op => op.fresh = ∅ := forall_fresh_of_map rfl

/-- The operations of statements 60 to 119, in order. -/
def part1 : {ops : List (HloOp τ sig (Elt F)) // ∀ d, IsSeq (main_part1 (F := F) d) ops} := by
  apply Subtype.mk
  hlo_seq

/-- They write buffers 89, 90, … and read only earlier ones. -/
theorem lined1 : Lined 89 (part1 (F := F)).1 := by
  unfold part1
  repeat' (first | apply And.intro | exact True.intro)
  all_goals first
    | exact unary_at _ _ _ _ _ rfl (by decide +kernel)
    | exact nullary_at _ _ _ rfl
    | exact binary_at _ _ _ _ _ _ _ rfl (by decide +kernel) (by decide +kernel)
    | exact reshape_at _ _ _ _ _ _ rfl (by decide +kernel)
    | exact ternary_at _ _ _ _ _ _ _ _ _ rfl (by decide +kernel) (by decide +kernel) (by decide +kernel)
    | exact quaternary_at _ _ _ _ _ _ _ _ _ _ _ rfl (by decide +kernel) (by decide +kernel) (by decide +kernel) (by decide +kernel)
    | exact nary_at _ _ _ _ _ rfl (by decide +kernel)

theorem length1 : (part1 (F := F)).1.length = 67 := rfl

theorem bufs1 : (part1 (F := F)).1.Forall fun op => op.bufs ⊆ tcRefs τ sig := by unfold part1; simp

theorem fresh1 : (part1 (F := F)).1.Forall fun op => op.fresh = ∅ := forall_fresh_of_map rfl

/-- The operations of statements 120 to 179, in order. -/
def part2 : {ops : List (HloOp τ sig (Elt F)) // ∀ d, IsSeq (main_part2 (F := F) d) ops} := by
  apply Subtype.mk
  hlo_seq

/-- They write buffers 156, 157, … and read only earlier ones. -/
theorem lined2 : Lined 156 (part2 (F := F)).1 := by
  unfold part2
  repeat' (first | apply And.intro | exact True.intro)
  all_goals first
    | exact unary_at _ _ _ _ _ rfl (by decide +kernel)
    | exact nullary_at _ _ _ rfl
    | exact binary_at _ _ _ _ _ _ _ rfl (by decide +kernel) (by decide +kernel)
    | exact reshape_at _ _ _ _ _ _ rfl (by decide +kernel)
    | exact ternary_at _ _ _ _ _ _ _ _ _ rfl (by decide +kernel) (by decide +kernel) (by decide +kernel)
    | exact quaternary_at _ _ _ _ _ _ _ _ _ _ _ rfl (by decide +kernel) (by decide +kernel) (by decide +kernel) (by decide +kernel)
    | exact nary_at _ _ _ _ _ rfl (by decide +kernel)

theorem length2 : (part2 (F := F)).1.length = 92 := rfl

theorem bufs2 : (part2 (F := F)).1.Forall fun op => op.bufs ⊆ tcRefs τ sig := by unfold part2; simp

theorem fresh2 : (part2 (F := F)).1.Forall fun op => op.fresh = ∅ := forall_fresh_of_map rfl

/-- The operations of statements 180 to 239, in order. -/
def part3 : {ops : List (HloOp τ sig (Elt F)) // ∀ d, IsSeq (main_part3 (F := F) d) ops} := by
  apply Subtype.mk
  hlo_seq

/-- They write buffers 248, 249, … and read only earlier ones. -/
theorem lined3 : Lined 248 (part3 (F := F)).1 := by
  unfold part3
  repeat' (first | apply And.intro | exact True.intro)
  all_goals first
    | exact unary_at _ _ _ _ _ rfl (by decide +kernel)
    | exact nullary_at _ _ _ rfl
    | exact binary_at _ _ _ _ _ _ _ rfl (by decide +kernel) (by decide +kernel)
    | exact reshape_at _ _ _ _ _ _ rfl (by decide +kernel)
    | exact ternary_at _ _ _ _ _ _ _ _ _ rfl (by decide +kernel) (by decide +kernel) (by decide +kernel)
    | exact quaternary_at _ _ _ _ _ _ _ _ _ _ _ rfl (by decide +kernel) (by decide +kernel) (by decide +kernel) (by decide +kernel)
    | exact nary_at _ _ _ _ _ rfl (by decide +kernel)

theorem length3 : (part3 (F := F)).1.length = 89 := rfl

theorem bufs3 : (part3 (F := F)).1.Forall fun op => op.bufs ⊆ tcRefs τ sig := by unfold part3; simp

theorem fresh3 : (part3 (F := F)).1.Forall fun op => op.fresh = ∅ := forall_fresh_of_map rfl

end Cert.ReferenceIdeal.Lines
-- ==== Proof.LinesD.lean ====
/-
  The reference's program, statements 660 to 839: a straight line of host operations, each of which writes its own buffer.
-/
module

public import proofs.«01_k».proof.Proof.Line
public import proofs.«01_k».proof.Proof.Gen.ReferenceIdeal

@[expose] public section

set_option maxRecDepth 16384
set_option maxHeartbeats 4000000

noncomputable section

namespace Cert.ReferenceIdeal.Lines

open Cert.ReferenceIdeal Cert.ReferenceIdeal.Gen Cert.Line
open Idealize.ShloMosaic Idealize.ShloMosaic.StableHlo Idealize.ShloMosaic.TcCoe Idealize.SL.Sem

variable {F : FTy → Type} [FloatOps F]

/-- The operations of statements 660 to 719, in order. -/
def part11 : {ops : List (HloOp τ sig (Elt F)) // ∀ d, IsSeq (main_part11 (F := F) d) ops} := by
  apply Subtype.mk
  hlo_seq

/-- They write buffers 898, 899, … and read only earlier ones. -/
theorem lined11 : Lined 898 (part11 (F := F)).1 := by
  unfold part11
  repeat' (first | apply And.intro | exact True.intro)
  all_goals first
    | exact unary_at _ _ _ _ _ rfl (by decide +kernel)
    | exact nullary_at _ _ _ rfl
    | exact binary_at _ _ _ _ _ _ _ rfl (by decide +kernel) (by decide +kernel)
    | exact reshape_at _ _ _ _ _ _ rfl (by decide +kernel)
    | exact ternary_at _ _ _ _ _ _ _ _ _ rfl (by decide +kernel) (by decide +kernel) (by decide +kernel)
    | exact quaternary_at _ _ _ _ _ _ _ _ _ _ _ rfl (by decide +kernel) (by decide +kernel) (by decide +kernel) (by decide +kernel)
    | exact nary_at _ _ _ _ _ rfl (by decide +kernel)

theorem length11 : (part11 (F := F)).1.length = 94 := rfl

theorem bufs11 : (part11 (F := F)).1.Forall fun op => op.bufs ⊆ tcRefs τ sig := by unfold part11; simp

theorem fresh11 : (part11 (F := F)).1.Forall fun op => op.fresh = ∅ := forall_fresh_of_map rfl

/-- The operations of statements 720 to 779, in order. -/
def part12 : {ops : List (HloOp τ sig (Elt F)) // ∀ d, IsSeq (main_part12 (F := F) d) ops} := by
  apply Subtype.mk
  hlo_seq

/-- They write buffers 992, 993, … and read only earlier ones. -/
theorem lined12 : Lined 992 (part12 (F := F)).1 := by
  unfold part12
  repeat' (first | apply And.intro | exact True.intro)
  all_goals first
    | exact unary_at _ _ _ _ _ rfl (by decide +kernel)
    | exact nullary_at _ _ _ rfl
    | exact binary_at _ _ _ _ _ _ _ rfl (by decide +kernel) (by decide +kernel)
    | exact reshape_at _ _ _ _ _ _ rfl (by decide +kernel)
    | exact ternary_at _ _ _ _ _ _ _ _ _ rfl (by decide +kernel) (by decide +kernel) (by decide +kernel)
    | exact quaternary_at _ _ _ _ _ _ _ _ _ _ _ rfl (by decide +kernel) (by decide +kernel) (by decide +kernel) (by decide +kernel)
    | exact nary_at _ _ _ _ _ rfl (by decide +kernel)

theorem length12 : (part12 (F := F)).1.length = 64 := rfl

theorem bufs12 : (part12 (F := F)).1.Forall fun op => op.bufs ⊆ tcRefs τ sig := by unfold part12; simp

theorem fresh12 : (part12 (F := F)).1.Forall fun op => op.fresh = ∅ := forall_fresh_of_map rfl

/-- The operations of statements 780 to 839, in order. -/
def part13 : {ops : List (HloOp τ sig (Elt F)) // ∀ d, IsSeq (main_part13 (F := F) d) ops} := by
  apply Subtype.mk
  hlo_seq

/-- They write buffers 1056, 1057, … and read only earlier ones. -/
theorem lined13 : Lined 1056 (part13 (F := F)).1 := by
  unfold part13
  repeat' (first | apply And.intro | exact True.intro)
  all_goals first
    | exact unary_at _ _ _ _ _ rfl (by decide +kernel)
    | exact nullary_at _ _ _ rfl
    | exact binary_at _ _ _ _ _ _ _ rfl (by decide +kernel) (by decide +kernel)
    | exact reshape_at _ _ _ _ _ _ rfl (by decide +kernel)
    | exact ternary_at _ _ _ _ _ _ _ _ _ rfl (by decide +kernel) (by decide +kernel) (by decide +kernel)
    | exact quaternary_at _ _ _ _ _ _ _ _ _ _ _ rfl (by decide +kernel) (by decide +kernel) (by decide +kernel) (by decide +kernel)
    | exact nary_at _ _ _ _ _ rfl (by decide +kernel)

theorem length13 : (part13 (F := F)).1.length = 91 := rfl

theorem bufs13 : (part13 (F := F)).1.Forall fun op => op.bufs ⊆ tcRefs τ sig := by unfold part13; simp

theorem fresh13 : (part13 (F := F)).1.Forall fun op => op.fresh = ∅ := forall_fresh_of_map rfl

end Cert.ReferenceIdeal.Lines
-- ==== Proof.RefEnds.lean ====
/-
  What the reference computes before and after its rounds, from the equations of its operations.
-/
module

public import proofs.«01_k».proof.Proof.RefPost
public import proofs.«01_k».proof.Proof.LinesA
public import proofs.«01_k».proof.Proof.LinesD

@[expose] public section

set_option maxRecDepth 16384
set_option maxHeartbeats 4000000

noncomputable section

namespace Cert.ReferenceIdeal.Lines

open Cert.ReferenceIdeal Cert.ReferenceIdeal.Gen Cert.Line Cert.Nms
open Idealize.ShloMosaic Idealize.ShloMosaic.StableHlo Idealize.ShloMosaic.TcCoe Idealize.SL.Sem

/-- Before the rounds: the boxes with their corners in order, the scores over the threshold, the batch numbers. -/
def PreEq (a0 : FVec Ideal S4x20000x1x4 .f32) (a1 : FVec Ideal S4x20000x80 .f32) (bx : FVec Ideal S4x20000x4 .f32)
    (s : FVec Ideal S4x80x20000 .f32) (bt : IVec S4x1 32) : Prop :=
  (∀ b, Ops.cornerBoxes bx b = canon fun j e => a0 (ix4 b j 0 e)) ∧
  (∀ b c k, s (ix3 b c k) = filt (fun j => a1 (ix3 b j c)) k) ∧
  ∀ b : Fin 4, bt (ix2 b 0) = BitVec.ofNat 32 b.val

/-- What the reference computes before its rounds. -/
theorem pre (V : Valuation τ sig (Elt Ideal)) (p0 : ∀ op ∈ (part0 (F := Ideal)).1, Sat op V) :
    PreEq (V (Proc.devRef .tc main_arg0) : FVec Ideal S4x20000x1x4 .f32) (V (Proc.devRef .tc main_arg1) : FVec Ideal S4x20000x80 .f32) (V (Proc.devRef .tc main_v25) : FVec Ideal S4x20000x4 .f32) (V (Proc.devRef .tc main_v29) : FVec Ideal S4x80x20000 .f32) (V (Proc.devRef .tc main_v31) : IVec S4x1 32) := by
  unfold part0 at p0
  simp only [List.forall_mem_cons, nullary_sat, unary_sat, binary_sat, reshape_sat, ternary_sat, quaternary_sat, nary_sat] at p0
  obtain ⟨h0, h1, h2, h3, h4, h5, h6, h7, h8, h9, h10, h11, h12, h13, h14, h15, h16, h17, h18, h19, h20, h21, h22, h23, h24, h25, h26, h27, h28, h29, h30, h31, h32, h33, h34, h35, _, _, _, _, _, _, _, _, _, _, _, _, _, _, _, _, _, _, _, _, _, _, _, _, _, _, _, _, _, _, _, _, _, _, _, _, _, _, _, _, _, _, _, _, _, _, _, _, _, _, _, _⟩ := p0
  exact ⟨Ops.pre_boxes h0 h1 h2 h3 h4 h5 h6 h7 h8 h9 h10 h11 h12 h13 h14 h15 h16 h17 h18 h19 h20 h21 h22 h23 h24 h25, Ops.pre_scores h26 h27 h28 h29 h30 h31 h32 h33, Ops.pre_batch h34 h35⟩

/-- The place of the `r`-th greatest score of a batch. -/
def spot (t : FVec Ideal S4x640 .f32) (b : Fin 4) (r : Fin 8) : Fin 640 := topPos (fun k => t (ix2 b k)) ⟨r.val, by omega⟩

/-- After the rounds: the tables of their scores and boxes, and the results from the places of the greatest scores. -/
def PostEq (s0 s1 s2 s3 s4 s5 s6 s7 : FVec Ideal S4x80 .f32) (x0 x1 x2 x3 x4 x5 x6 x7 : FVec Ideal S4x80x4 .f32)
    (t : FVec Ideal S4x640 .f32) (u : FVec Ideal S4x640x4 .f32) (box : FVec Ideal S4x8x4 .f32) (score : FVec Ideal S4x8 .f32)
    (cls : IVec S4x8 32) (valid : IVec S4 32) : Prop :=
  (∀ b c r, t (ix2 b (Ops.key c r)) = (![s0 (ix2 b c), s1 (ix2 b c), s2 (ix2 b c), s3 (ix2 b c), s4 (ix2 b c), s5 (ix2 b c), s6 (ix2 b c), s7 (ix2 b c)] : Fin 8 → EReal) r) ∧
  (∀ b c r e, u (ix3 b (Ops.key c r) e) = (![x0 (ix3 b c e), x1 (ix3 b c e), x2 (ix3 b c e), x3 (ix3 b c e), x4 (ix3 b c e), x5 (ix3 b c e), x6 (ix3 b c e), x7 (ix3 b c e)] : Fin 8 → EReal) r) ∧
  (∀ b r e, box (ix3 b r e) = min 1 (max 0 (if 0 < t (ix2 b (spot t b r)) then u (ix3 b (spot t b r) e) else 0))) ∧
  (∀ b r, score (ix2 b r) = if 0 < t (ix2 b (spot t b r)) then t (ix2 b (spot t b r)) else 0) ∧
  (∀ b r, cls (ix2 b r) = if 0 < t (ix2 b (spot t b r)) then BitVec.ofNat 32 ((spot t b r).val / 8) else 0#32) ∧
  ∀ b, valid (ix1 b) = Finset.univ.fold IntOp.addi 0#32 fun r : Fin 8 => if 0 < t (ix2 b (spot t b r)) then 1#32 else 0#32

/-- The steps after the rounds put together. -/
theorem PostEq.of {s0 s1 s2 s3 s4 s5 s6 s7 : FVec Ideal S4x80 .f32} {x0 x1 x2 x3 x4 x5 x6 x7 : FVec Ideal S4x80x4 .f32}
    {t : FVec Ideal S4x640 .f32} {u : FVec Ideal S4x640x4 .f32} {box0 : FVec Ideal S4x8x4 .f32} {box : FVec Ideal S4x8x4 .f32} {top score : FVec Ideal S4x8 .f32}
    {ks : IVec S4x640 32} {ix cls0 cls : IVec S4x8 32} {valid : IVec S4 32}
    (hs : ∀ b c r, t (ix2 b (Ops.key c r)) = (![s0 (ix2 b c), s1 (ix2 b c), s2 (ix2 b c), s3 (ix2 b c), s4 (ix2 b c), s5 (ix2 b c), s6 (ix2 b c), s7 (ix2 b c)] : Fin 8 → EReal) r)
    (hx : ∀ b c r e, u (ix3 b (Ops.key c r) e) = (![x0 (ix3 b c e), x1 (ix3 b c e), x2 (ix3 b c e), x3 (ix3 b c e), x4 (ix3 b c e), x5 (ix3 b c e), x6 (ix3 b c e), x7 (ix3 b c e)] : Fin 8 → EReal) r)
    (hc : ∀ (b : Fin 4) (k : Fin 640), ks (ix2 b k) = BitVec.ofNat 32 (k.val / 8))
    (ht : (∀ b (r : Fin 8), top (ix2 b r) = t (ix2 b (spot t b r))) ∧ ∀ b (r : Fin 8), ix (ix2 b r) = BitVec.ofNat 32 (spot t b r).val)
    (hb : (∀ b r, ix (ix2 b r) = BitVec.ofNat 32 (spot t b r).val) → ∀ b r e, box0 (ix3 b r e) = u (ix3 b (spot t b r) e))
    (hk : (∀ b r, ix (ix2 b r) = BitVec.ofNat 32 (spot t b r).val) → ∀ b r, cls0 (ix2 b r) = ks (ix2 b (spot t b r)))
    (h : (∀ b r e, box (ix3 b r e) = min 1 (max 0 (if 0 < top (ix2 b r) then box0 (ix3 b r e) else 0))) ∧
      (∀ b r, score (ix2 b r) = if 0 < top (ix2 b r) then top (ix2 b r) else 0) ∧
      (∀ b r, cls (ix2 b r) = if 0 < top (ix2 b r) then cls0 (ix2 b r) else 0#32) ∧
      ∀ b, valid (ix1 b) = Finset.univ.fold IntOp.addi 0#32 fun r : Fin 8 => if 0 < top (ix2 b r) then 1#32 else 0#32) :
    PostEq s0 s1 s2 s3 s4 s5 s6 s7 x0 x1 x2 x3 x4 x5 x6 x7 t u box score cls valid := by
  obtain ⟨ht, hi⟩ := ht
  have hb := hb hi
  have hk := hk hi
  obtain ⟨h1, h2, h3, h4⟩ := h
  refine ⟨hs, hx, fun b r e => ?_, fun b r => ?_, fun b r => ?_, fun b => ?_⟩
  · rw [h1, hb, ht]
  · rw [h2, ht]
  · rw [h3, hk, hc, ht]
  · rw [h4]
    refine Finset.fold_congr fun r _ => ?_
    rw [ht]

/-- What the reference computes after its rounds. -/
theorem post (V : Valuation τ sig (Elt Ideal)) (p12 : ∀ op ∈ (part12 (F := Ideal)).1, Sat op V) (p13 : ∀ op ∈ (part13 (F := Ideal)).1, Sat op V) :
    PostEq (V (Proc.devRef .tc main_v53) : FVec Ideal S4x80 .f32) (V (Proc.devRef .tc main_v133) : FVec Ideal S4x80 .f32) (V (Proc.devRef .tc main_v213) : FVec Ideal S4x80 .f32) (V (Proc.devRef .tc main_v293) : FVec Ideal S4x80 .f32) (V (Proc.devRef .tc main_v373) : FVec Ideal S4x80 .f32) (V (Proc.devRef .tc main_v453) : FVec Ideal S4x80 .f32) (V (Proc.devRef .tc main_v533) : FVec Ideal S4x80 .f32) (V (Proc.devRef .tc main_v613) : FVec Ideal S4x80 .f32) (V (Proc.devRef .tc main_v55) : FVec Ideal S4x80x4 .f32) (V (Proc.devRef .tc main_v135) : FVec Ideal S4x80x4 .f32) (V (Proc.devRef .tc main_v215) : FVec Ideal S4x80x4 .f32) (V (Proc.devRef .tc main_v295) : FVec Ideal S4x80x4 .f32) (V (Proc.devRef .tc main_v375) : FVec Ideal S4x80x4 .f32) (V (Proc.devRef .tc main_v455) : FVec Ideal S4x80x4 .f32) (V (Proc.devRef .tc main_v535) : FVec Ideal S4x80x4 .f32) (V (Proc.devRef .tc main_v615) : FVec Ideal S4x80x4 .f32)
      (V (Proc.devRef .tc main_v681) : FVec Ideal S4x640 .f32) (V (Proc.devRef .tc main_v691) : FVec Ideal S4x640x4 .f32) (V (Proc.devRef .tc main_v705) : FVec Ideal S4x8x4 .f32) (V (Proc.devRef .tc main_v706) : FVec Ideal S4x8 .f32) (V (Proc.devRef .tc main_v707) : IVec S4x8 32) (V (Proc.devRef .tc main_v709) : IVec S4 32) := by
  unfold part12 at p12
  simp only [List.forall_mem_cons, nullary_sat, unary_sat, binary_sat, reshape_sat, ternary_sat, quaternary_sat, nary_sat] at p12
  obtain ⟨_, _, _, _, _, _, _, _, _, _, _, _, _, _, _, _, _, _, _, _, _, _, _, _, _, _, _, _, _, _, _, _, _, _, _, _, _, _, _, _, _, _, _, _, _, _, _, _, _, _, _, _, _, _, h1044, h1045, h1046, h1047, h1048, h1049, h1050, h1051, h1052, h1053, _⟩ := p12
  unfold part13 at p13
  simp only [List.forall_mem_cons, nullary_sat, unary_sat, binary_sat, reshape_sat, ternary_sat, quaternary_sat, nary_sat] at p13
  obtain ⟨h1054, h1055, h1056, h1057, h1058, h1059, h1060, h1061, h1062, h1063, h1064, h1065, h1066, h1067, h1068, h1069, h1070, h1071, h1072, h1073, h1074, h1075, h1076, h1077, h1078, h1079, h1080, h1081, h1082, h1083, h1084, h1085, h1086, h1087, h1088, h1089, h1090, h1091, h1092, h1093, h1094, h1095, h1096, h1097, h1098, h1099, h1100, h1101, h1102, h1103, h1104, h1105, h1106, h1107, h1108, h1109, h1110, h1111, h1112, h1113, h1114, h1115, h1116, h1117, h1118, h1119, h1120, h1121, h1122, h1123, h1124, h1125, h1126, h1127, h1128, h1129, h1130, h1131, h1132, h1133, h1134, h1135, h1136, h1137, h1138, h1139, h1140, h1141, h1142, h1143, h1144, _⟩ := p13
  exact PostEq.of (t := (V (Proc.devRef .tc main_v681) : FVec Ideal S4x640 .f32)) (Ops.post_scores h1044 h1045 h1046 h1047 h1048 h1049 h1050 h1051 h1052 h1053)
    (Ops.post_boxes h1054 h1055 h1056 h1057 h1058 h1059 h1060 h1061 h1062 h1063)
    (Ops.post_classes h1064 h1065 h1066 h1067 h1068 h1069)
    (Ops.post_top h1070 h1071)
    (fun hi => Ops.post_box h1072 h1073 h1074 h1075 h1076 h1077 h1078 h1079 h1080 h1081 h1082 h1083 h1084 h1085 h1086 h1087 h1088 h1089 h1090 h1091 h1092 h1093 h1094 (spot (V (Proc.devRef .tc main_v681))) hi)
    (fun hi => Ops.post_class h1095 h1096 h1097 h1098 h1099 h1100 h1101 h1102 h1103 h1104 h1105 h1106 h1107 h1108 h1109 h1110 h1111 h1112 h1113 h1114 h1115 h1116 (spot (V (Proc.devRef .tc main_v681))) hi)
    (Ops.post_results h1117 h1118 h1119 h1120 h1121 h1122 h1123 h1124 h1125 h1126 h1127 h1128 h1129 h1130 h1131 h1132 h1133 h1134 h1135 h1136 h1137 h1138 h1139 h1140 h1141 h1142 h1143 h1144)

end Cert.ReferenceIdeal.Lines
-- ==== Proof.RoundEq.lean ====
/-
  What a round of the reference computes.
-/
module

public import proofs.«01_k».proof.Proof.RefRound
public import proofs.«01_k».proof.Proof.Line

@[expose] public section

set_option maxRecDepth 16384
set_option maxHeartbeats 4000000

noncomputable section

namespace Cert.ReferenceIdeal.Lines

open Cert.ReferenceIdeal Cert.ReferenceIdeal.Gen Cert.Line Cert.Nms
open Idealize.ShloMosaic Idealize.ShloMosaic.StableHlo Idealize.ShloMosaic.TcCoe Idealize.SL.Sem

/-- A round: of the boxes and the scores it finds, the scores and boxes it selects and the scores it leaves. -/
def RoundEq (bx : FVec Ideal S4x20000x4 .f32) (s : FVec Ideal S4x80x20000 .f32) (score : FVec Ideal S4x80 .f32)
    (box : FVec Ideal S4x80x4 .f32) (next : FVec Ideal S4x80x20000 .f32) : Prop :=
  (∀ b c, score (ix2 b c) = sel fun k => s (ix3 b c k)) ∧
  (∀ b c e, box (ix3 b c e) = if 0 < s (ix3 b c (amax fun k => s (ix3 b c k))) then bx (ix3 b (amax fun k => s (ix3 b c k)) e) else 0) ∧
  ∀ b c k, next (ix3 b c k) = nextS (Ops.cornerBoxes bx b).supR (fun k => s (ix3 b c k)) k

end Cert.ReferenceIdeal.Lines
-- ==== Proof.RefValue.lean ====
/-
  The reference's results as what both programs compute, from what its rounds and its ends compute.
-/
module

public import proofs.«01_k».proof.Proof.RefEnds
public import proofs.«01_k».proof.Proof.RoundEq
public import proofs.«01_k».proof.Proof.Spec

@[expose] public section

set_option maxRecDepth 16384
set_option maxHeartbeats 4000000

noncomputable section

namespace Cert.ReferenceIdeal.Lines

open Cert.ReferenceIdeal Cert.ReferenceIdeal.Gen Cert.Line Cert.Nms
open Idealize.ShloMosaic Idealize.ShloMosaic.StableHlo Idealize.ShloMosaic.TcCoe Idealize.SL.Sem

theorem vec8 {α : Type} (g : Nat → α) (r : Fin 8) : (![g 0, g 1, g 2, g 3, g 4, g 5, g 6, g 7] : Fin 8 → α) r = g r.val := by
  fin_cases r <;> rfl

/-- The canonical boxes of a batch. -/
def boxesOf (a0 : FVec Ideal S4x20000x1x4 .f32) (b : Fin 4) : Boxes 20000 := canon fun j e => a0 (ix4 b j 0 e)

/-- The scores of a batch, class by class. -/
def scoresOf (a1 : FVec Ideal S4x20000x80 .f32) (b : Fin 4) (c : Fin 80) (j : Fin 20000) : EReal := a1 (ix3 b j c)

theorem coord_at (bx : FVec Ideal S4x20000x4 .f32) (b : Fin 4) (j : Fin 20000) (e : Fin 4) :
    bx (ix3 b j e) = (Ops.cornerBoxes bx b).coord e j := by
  match e with
  | ⟨0, _⟩ => rfl
  | ⟨1, _⟩ => rfl
  | ⟨2, _⟩ => rfl
  | ⟨3, _⟩ => rfl

variable {a0 : FVec Ideal S4x20000x1x4 .f32} {a1 : FVec Ideal S4x20000x80 .f32} {bx : FVec Ideal S4x20000x4 .f32} {bt : IVec S4x1 32}

/-- A round finds the scores left by the rounds before and leaves those after it. -/
theorem RoundEq.row {s next : FVec Ideal S4x80x20000 .f32} {score : FVec Ideal S4x80 .f32} {box : FVec Ideal S4x80x4 .f32}
    (h : RoundEq bx s score box next) (hB : ∀ b, Ops.cornerBoxes bx b = boxesOf a0 b) (n : Nat)
    (hs : ∀ b c, (fun k => s (ix3 b c k)) = left (boxesOf a0 b).supR (scoresOf a1 b c) n) (b : Fin 4) (c : Fin 80) :
    (fun k => next (ix3 b c k)) = left (boxesOf a0 b).supR (scoresOf a1 b c) (n + 1) := by
  funext k
  rw [h.2.2 b c k, hs, hB]
  rfl

theorem RoundEq.score_at {s next : FVec Ideal S4x80x20000 .f32} {score : FVec Ideal S4x80 .f32} {box : FVec Ideal S4x80x4 .f32}
    (h : RoundEq bx s score box next) (n : Nat)
    (hs : ∀ b c, (fun k => s (ix3 b c k)) = left (boxesOf a0 b).supR (scoresOf a1 b c) n) (b : Fin 4) (c : Fin 80) :
    score (ix2 b c) = sel (left (boxesOf a0 b).supR (scoresOf a1 b c) n) := by
  rw [h.1 b c, hs]

theorem RoundEq.box_at {s next : FVec Ideal S4x80x20000 .f32} {score : FVec Ideal S4x80 .f32} {box : FVec Ideal S4x80x4 .f32}
    (h : RoundEq bx s score box next) (hB : ∀ b, Ops.cornerBoxes bx b = boxesOf a0 b) (n : Nat)
    (hs : ∀ b c, (fun k => s (ix3 b c k)) = left (boxesOf a0 b).supR (scoresOf a1 b c) n) (b : Fin 4) (c : Fin 80) (e : Fin 4) :
    box (ix3 b c e) = if 0 < sel (left (boxesOf a0 b).supR (scoresOf a1 b c) n)
      then (boxesOf a0 b).coord e (amax (left (boxesOf a0 b).supR (scoresOf a1 b c) n)) else 0 := by
  have hv : s (ix3 b c (amax fun k => s (ix3 b c k))) = (fun k => s (ix3 b c k)) (amax fun k => s (ix3 b c k)) := rfl
  rw [h.2.1 b c e, hv, hs, coord_at bx, hB]
  exact if_congr (sel_pos _).symm rfl rfl

/-- The results of the reference. -/
theorem value {s0 s1 s2 s3 s4 s5 s6 s7 s8 : FVec Ideal S4x80x20000 .f32} {c0 c1 c2 c3 c4 c5 c6 c7 : FVec Ideal S4x80 .f32}
    {x0 x1 x2 x3 x4 x5 x6 x7 : FVec Ideal S4x80x4 .f32} {t : FVec Ideal S4x640 .f32} {u : FVec Ideal S4x640x4 .f32}
    {box : FVec Ideal S4x8x4 .f32} {score : FVec Ideal S4x8 .f32} {cls : IVec S4x8 32} {valid : IVec S4 32}
    (hp : PreEq a0 a1 bx s0 bt) (h0 : RoundEq bx s0 c0 x0 s1) (h1 : RoundEq bx s1 c1 x1 s2) (h2 : RoundEq bx s2 c2 x2 s3) (h3 : RoundEq bx s3 c3 x3 s4) (h4 : RoundEq bx s4 c4 x4 s5) (h5 : RoundEq bx s5 c5 x5 s6) (h6 : RoundEq bx s6 c6 x6 s7) (h7 : RoundEq bx s7 c7 x7 s8)
    (hq : PostEq c0 c1 c2 c3 c4 c5 c6 c7 x0 x1 x2 x3 x4 x5 x6 x7 t u box score cls valid) :
    (∀ b r e, box (ix3 b r e) = outBox (boxesOf a0 b).supR (boxesOf a0 b) (scoresOf a1 b) r e) ∧
    (∀ b r, score (ix2 b r) = outScore (boxesOf a0 b).supR (scoresOf a1 b) r) ∧
    (∀ b r, cls (ix2 b r) = outClass (boxesOf a0 b).supR (scoresOf a1 b) r) ∧
    ∀ b, valid (ix1 b) = outValid (boxesOf a0 b).supR (scoresOf a1 b) := by
  obtain ⟨hB, hF, -⟩ := hp
  replace hB : ∀ b, Ops.cornerBoxes bx b = boxesOf a0 b := hB
  have r0 : ∀ b c, (fun k => s0 (ix3 b c k)) = left (boxesOf a0 b).supR (scoresOf a1 b c) 0 := by
    intro b c
    funext k
    exact hF b c k
  have r1 := h0.row hB 0 r0
  have r2 := h1.row hB 1 r1
  have r3 := h2.row hB 2 r2
  have r4 := h3.row hB 3 r3
  have r5 := h4.row hB 4 r4
  have r6 := h5.row hB 5 r5
  have r7 := h6.row hB 6 r6
  obtain ⟨q1, q2, q3, q4, q5, q6⟩ := hq
  have hk : ∀ k : Fin 640, k = Ops.key ⟨k.val / 8, by omega⟩ ⟨k.val % 8, by omega⟩ := by
    intro k
    apply Fin.ext
    show k.val = k.val / 8 * 8 + k.val % 8
    omega
  have ht : ∀ b k, t (ix2 b k) = table (boxesOf a0 b).supR (scoresOf a1 b) k := by
    intro b k
    rw [congrArg (fun k : Fin 640 => t (ix2 b k)) (hk k)]
    show t (ix2 b (Ops.key ⟨k.val / 8, _⟩ ⟨k.val % 8, _⟩)) = _
    rw [q1, h0.score_at 0 r0, h1.score_at 1 r1, h2.score_at 2 r2, h3.score_at 3 r3, h4.score_at 4 r4, h5.score_at 5 r5, h6.score_at 6 r6, h7.score_at 7 r7]
    exact vec8 (fun n => sel (left (boxesOf a0 b).supR (scoresOf a1 b ⟨k.val / 8, by omega⟩) n)) ⟨k.val % 8, by omega⟩
  have hu : ∀ b k e, u (ix3 b k e) = if 0 < table (boxesOf a0 b).supR (scoresOf a1 b) k
      then (boxesOf a0 b).coord e (chosen (boxesOf a0 b).supR (scoresOf a1 b) k) else 0 := by
    intro b k e
    rw [congrArg (fun k : Fin 640 => u (ix3 b k e)) (hk k)]
    show u (ix3 b (Ops.key ⟨k.val / 8, _⟩ ⟨k.val % 8, _⟩) e) = _
    rw [q2, h0.box_at hB 0 r0, h1.box_at hB 1 r1, h2.box_at hB 2 r2, h3.box_at hB 3 r3, h4.box_at hB 4 r4, h5.box_at hB 5 r5, h6.box_at hB 6 r6, h7.box_at hB 7 r7]
    exact vec8 (fun n => if 0 < sel (left (boxesOf a0 b).supR (scoresOf a1 b ⟨k.val / 8, by omega⟩) n)
      then (boxesOf a0 b).coord e (amax (left (boxesOf a0 b).supR (scoresOf a1 b ⟨k.val / 8, by omega⟩) n)) else 0) ⟨k.val % 8, by omega⟩
  have hs : ∀ b r, spot t b r = place (boxesOf a0 b).supR (scoresOf a1 b) r := by
    intro b r
    unfold spot place
    rw [show (fun k => t (ix2 b k)) = table (boxesOf a0 b).supR (scoresOf a1 b) from funext (ht b)]
  refine ⟨fun b r e => ?_, fun b r => ?_, fun b r => ?_, fun b => ?_⟩
  · rw [q3, hs, ht, hu]
    unfold outBox
    by_cases h : 0 < table (boxesOf a0 b).supR (scoresOf a1 b) (place (boxesOf a0 b).supR (scoresOf a1 b) r)
    · rw [if_pos h, if_pos h]
    · rw [if_neg h, if_neg h]
  · rw [q4, hs, ht]
    rfl
  · rw [q5, hs, ht]
    rfl
  · rw [q6]
    refine Finset.fold_congr fun r _ => ?_
    rw [hs, ht]

end Cert.ReferenceIdeal.Lines
-- ==== Proof.Round0.lean ====
/-
  Round 0 of the reference, from the equations of its operations.
-/
module

public import proofs.«01_k».proof.Proof.RoundEq
public import proofs.«01_k».proof.Proof.LinesA

@[expose] public section

set_option maxRecDepth 16384
set_option maxHeartbeats 4000000

noncomputable section

namespace Cert.ReferenceIdeal.Lines

open Cert.ReferenceIdeal Cert.ReferenceIdeal.Gen Cert.Line Cert.Nms
open Idealize.ShloMosaic Idealize.ShloMosaic.StableHlo Idealize.ShloMosaic.TcCoe Idealize.SL.Sem

/-- Round 0 of the reference: the scores, the boxes and the scores left. -/
theorem round0 (V : Valuation τ sig (Elt Ideal)) (p0 : ∀ op ∈ (part0 (F := Ideal)).1, Sat op V) (p1 : ∀ op ∈ (part1 (F := Ideal)).1, Sat op V) (p2 : ∀ op ∈ (part2 (F := Ideal)).1, Sat op V)
    (hb : ∀ b : Fin 4, (V (Proc.devRef .tc main_v31) : IVec S4x1 32) (ix2 b 0) = BitVec.ofNat 32 b.val) :
    RoundEq (V (Proc.devRef .tc main_v25) : FVec Ideal S4x20000x4 .f32) (V (Proc.devRef .tc main_v29) : FVec Ideal S4x80x20000 .f32) (V (Proc.devRef .tc main_v53) : FVec Ideal S4x80 .f32)
      (V (Proc.devRef .tc main_v55) : FVec Ideal S4x80x4 .f32) (V (Proc.devRef .tc main_v111) : FVec Ideal S4x80x20000 .f32) := by
  unfold part0 at p0
  simp only [List.forall_mem_cons, nullary_sat, unary_sat, binary_sat, reshape_sat, ternary_sat, quaternary_sat, nary_sat] at p0
  obtain ⟨_, _, _, _, _, _, _, _, _, _, _, _, _, _, _, _, _, _, _, _, _, _, _, _, _, _, _, _, _, _, _, _, _, _, _, _, h36, h37, h38, _, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, _⟩ := p0
  unfold part1 at p1
  simp only [List.forall_mem_cons, nullary_sat, unary_sat, binary_sat, reshape_sat, ternary_sat, quaternary_sat, nary_sat] at p1
  obtain ⟨h87, h88, h89, h90, h91, h92, h93, h94, h95, h96, h97, h98, h99, h100, h101, h102, h103, h104, h105, h106, h107, h108, h109, h110, h111, h112, h113, h114, h115, h116, h117, h118, h119, h120, h121, h122, h123, h124, h125, h126, h127, h128, h129, h130, h131, h132, h133, h134, h135, h136, h137, h138, h139, h140, h141, h142, h143, h144, h145, h146, h147, h148, h149, h150, h151, h152, h153, _⟩ := p1
  unfold part2 at p2
  simp only [List.forall_mem_cons, nullary_sat, unary_sat, binary_sat, reshape_sat, ternary_sat, quaternary_sat, nary_sat] at p2
  obtain ⟨h154, h155, h156, h157, h158, h159, h160, h161, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _⟩ := p2
  exact Ops.round h36 h37 h38 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127 h128 h129 h130 h131 h132 h133 h134 h135 h136 h137 h138 h139 h140 h141 h142 h143 h144 h145 h146 h147 h148 h149 h150 h151 h152 h153 h154 h155 h156 h157 h158 h159 h160 h161 hb

end Cert.ReferenceIdeal.Lines
-- ==== Proof.Round1.lean ====
/-
  Round 1 of the reference, from the equations of its operations.
-/
module

public import proofs.«01_k».proof.Proof.RoundEq
public import proofs.«01_k».proof.Proof.LinesA

@[expose] public section

set_option maxRecDepth 16384
set_option maxHeartbeats 4000000

noncomputable section

namespace Cert.ReferenceIdeal.Lines

open Cert.ReferenceIdeal Cert.ReferenceIdeal.Gen Cert.Line Cert.Nms
open Idealize.ShloMosaic Idealize.ShloMosaic.StableHlo Idealize.ShloMosaic.TcCoe Idealize.SL.Sem

/-- Round 1 of the reference: the scores, the boxes and the scores left. -/
theorem round1 (V : Valuation τ sig (Elt Ideal)) (p2 : ∀ op ∈ (part2 (F := Ideal)).1, Sat op V) (p3 : ∀ op ∈ (part3 (F := Ideal)).1, Sat op V)
    (hb : ∀ b : Fin 4, (V (Proc.devRef .tc main_v31) : IVec S4x1 32) (ix2 b 0) = BitVec.ofNat 32 b.val) :
    RoundEq (V (Proc.devRef .tc main_v25) : FVec Ideal S4x20000x4 .f32) (V (Proc.devRef .tc main_v111) : FVec Ideal S4x80x20000 .f32) (V (Proc.devRef .tc main_v133) : FVec Ideal S4x80 .f32)
      (V (Proc.devRef .tc main_v135) : FVec Ideal S4x80x4 .f32) (V (Proc.devRef .tc main_v191) : FVec Ideal S4x80x20000 .f32) := by
  unfold part2 at p2
  simp only [List.forall_mem_cons, nullary_sat, unary_sat, binary_sat, reshape_sat, ternary_sat, quaternary_sat, nary_sat] at p2
  obtain ⟨_, _, _, _, _, _, _, _, h162, h163, h164, _, h166, h167, h168, h169, h170, h171, h172, h173, h174, h175, h176, h177, h178, h179, h180, h181, h182, h183, h184, h185, h186, h187, h188, h189, h190, h191, h192, h193, h194, h195, h196, h197, h198, h199, h200, h201, h202, h203, h204, h205, h206, h207, h208, h209, h210, h211, h212, h213, h214, h215, h216, h217, h218, h219, h220, h221, h222, h223, h224, h225, h226, h227, h228, h229, h230, h231, h232, h233, h234, h235, h236, h237, h238, h239, h240, h241, h242, h243, h244, h245, _⟩ := p2
  unfold part3 at p3
  simp only [List.forall_mem_cons, nullary_sat, unary_sat, binary_sat, reshape_sat, ternary_sat, quaternary_sat, nary_sat] at p3
  obtain ⟨h246, h247, h248, h249, h250, h251, h252, h253, h254, h255, h256, h257, h258, h259, h260, h261, h262, h263, h264, h265, h266, h267, h268, h269, h270, h271, h272, h273, h274, h275, h276, h277, h278, h279, h280, h281, h282, h283, h284, h285, h286, h287, _, _, _, _, _, _, _, _, _, _, _, _, _, _, _, _, _, _, _, _, _, _, _, _, _, _, _, _, _, _, _, _, _, _, _, _, _, _, _, _, _, _, _, _, _, _, _, _⟩ := p3
  exact Ops.round h162 h163 h164 h166 h167 h168 h169 h170 h171 h172 h173 h174 h175 h176 h177 h178 h179 h180 h181 h182 h183 h184 h185 h186 h187 h188 h189 h190 h191 h192 h193 h194 h195 h196 h197 h198 h199 h200 h201 h202 h203 h204 h205 h206 h207 h208 h209 h210 h211 h212 h213 h214 h215 h216 h217 h218 h219 h220 h221 h222 h223 h224 h225 h226 h227 h228 h229 h230 h231 h232 h233 h234 h235 h236 h237 h238 h239 h240 h241 h242 h243 h244 h245 h246 h247 h248 h249 h250 h251 h252 h253 h254 h255 h256 h257 h258 h259 h260 h261 h262 h263 h264 h265 h266 h267 h268 h269 h270 h271 h272 h273 h274 h275 h276 h277 h278 h279 h280 h281 h282 h283 h284 h285 h286 h287 hb

end Cert.ReferenceIdeal.Lines
-- ==== Proof.LinesB.lean ====
/-
  The reference's program, statements 240 to 479: a straight line of host operations, each of which writes its own buffer.
-/
module

public import proofs.«01_k».proof.Proof.Line
public import proofs.«01_k».proof.Proof.Gen.ReferenceIdeal

@[expose] public section

set_option maxRecDepth 16384
set_option maxHeartbeats 4000000

noncomputable section

namespace Cert.ReferenceIdeal.Lines

open Cert.ReferenceIdeal Cert.ReferenceIdeal.Gen Cert.Line
open Idealize.ShloMosaic Idealize.ShloMosaic.StableHlo Idealize.ShloMosaic.TcCoe Idealize.SL.Sem

variable {F : FTy → Type} [FloatOps F]

/-- The operations of statements 240 to 299, in order. -/
def part4 : {ops : List (HloOp τ sig (Elt F)) // ∀ d, IsSeq (main_part4 (F := F) d) ops} := by
  apply Subtype.mk
  hlo_seq

/-- They write buffers 337, 338, … and read only earlier ones. -/
theorem lined4 : Lined 337 (part4 (F := F)).1 := by
  unfold part4
  repeat' (first | apply And.intro | exact True.intro)
  all_goals first
    | exact unary_at _ _ _ _ _ rfl (by decide +kernel)
    | exact nullary_at _ _ _ rfl
    | exact binary_at _ _ _ _ _ _ _ rfl (by decide +kernel) (by decide +kernel)
    | exact reshape_at _ _ _ _ _ _ rfl (by decide +kernel)
    | exact ternary_at _ _ _ _ _ _ _ _ _ rfl (by decide +kernel) (by decide +kernel) (by decide +kernel)
    | exact quaternary_at _ _ _ _ _ _ _ _ _ _ _ rfl (by decide +kernel) (by decide +kernel) (by decide +kernel) (by decide +kernel)
    | exact nary_at _ _ _ _ _ rfl (by decide +kernel)

theorem length4 : (part4 (F := F)).1.length = 65 := rfl

theorem bufs4 : (part4 (F := F)).1.Forall fun op => op.bufs ⊆ tcRefs τ sig := by unfold part4; simp

theorem fresh4 : (part4 (F := F)).1.Forall fun op => op.fresh = ∅ := forall_fresh_of_map rfl

/-- The operations of statements 300 to 359, in order. -/
def part5 : {ops : List (HloOp τ sig (Elt F)) // ∀ d, IsSeq (main_part5 (F := F) d) ops} := by
  apply Subtype.mk
  hlo_seq

/-- They write buffers 402, 403, … and read only earlier ones. -/
theorem lined5 : Lined 402 (part5 (F := F)).1 := by
  unfold part5
  repeat' (first | apply And.intro | exact True.intro)
  all_goals first
    | exact unary_at _ _ _ _ _ rfl (by decide +kernel)
    | exact nullary_at _ _ _ rfl
    | exact binary_at _ _ _ _ _ _ _ rfl (by decide +kernel) (by decide +kernel)
    | exact reshape_at _ _ _ _ _ _ rfl (by decide +kernel)
    | exact ternary_at _ _ _ _ _ _ _ _ _ rfl (by decide +kernel) (by decide +kernel) (by decide +kernel)
    | exact quaternary_at _ _ _ _ _ _ _ _ _ _ _ rfl (by decide +kernel) (by decide +kernel) (by decide +kernel) (by decide +kernel)
    | exact nary_at _ _ _ _ _ rfl (by decide +kernel)

theorem length5 : (part5 (F := F)).1.length = 94 := rfl

theorem bufs5 : (part5 (F := F)).1.Forall fun op => op.bufs ⊆ tcRefs τ sig := by unfold part5; simp

theorem fresh5 : (part5 (F := F)).1.Forall fun op => op.fresh = ∅ := forall_fresh_of_map rfl

/-- The operations of statements 360 to 419, in order. -/
def part6 : {ops : List (HloOp τ sig (Elt F)) // ∀ d, IsSeq (main_part6 (F := F) d) ops} := by
  apply Subtype.mk
  hlo_seq

/-- They write buffers 496, 497, … and read only earlier ones. -/
theorem lined6 : Lined 496 (part6 (F := F)).1 := by
  unfold part6
  repeat' (first | apply And.intro | exact True.intro)
  all_goals first
    | exact unary_at _ _ _ _ _ rfl (by decide +kernel)
    | exact nullary_at _ _ _ rfl
    | exact binary_at _ _ _ _ _ _ _ rfl (by decide +kernel) (by decide +kernel)
    | exact reshape_at _ _ _ _ _ _ rfl (by decide +kernel)
    | exact ternary_at _ _ _ _ _ _ _ _ _ rfl (by decide +kernel) (by decide +kernel) (by decide +kernel)
    | exact quaternary_at _ _ _ _ _ _ _ _ _ _ _ rfl (by decide +kernel) (by decide +kernel) (by decide +kernel) (by decide +kernel)
    | exact nary_at _ _ _ _ _ rfl (by decide +kernel)

theorem length6 : (part6 (F := F)).1.length = 89 := rfl

theorem bufs6 : (part6 (F := F)).1.Forall fun op => op.bufs ⊆ tcRefs τ sig := by unfold part6; simp

theorem fresh6 : (part6 (F := F)).1.Forall fun op => op.fresh = ∅ := forall_fresh_of_map rfl

/-- The operations of statements 420 to 479, in order. -/
def part7 : {ops : List (HloOp τ sig (Elt F)) // ∀ d, IsSeq (main_part7 (F := F) d) ops} := by
  apply Subtype.mk
  hlo_seq

/-- They write buffers 585, 586, … and read only earlier ones. -/
theorem lined7 : Lined 585 (part7 (F := F)).1 := by
  unfold part7
  repeat' (first | apply And.intro | exact True.intro)
  all_goals first
    | exact unary_at _ _ _ _ _ rfl (by decide +kernel)
    | exact nullary_at _ _ _ rfl
    | exact binary_at _ _ _ _ _ _ _ rfl (by decide +kernel) (by decide +kernel)
    | exact reshape_at _ _ _ _ _ _ rfl (by decide +kernel)
    | exact ternary_at _ _ _ _ _ _ _ _ _ rfl (by decide +kernel) (by decide +kernel) (by decide +kernel)
    | exact quaternary_at _ _ _ _ _ _ _ _ _ _ _ rfl (by decide +kernel) (by decide +kernel) (by decide +kernel) (by decide +kernel)
    | exact nary_at _ _ _ _ _ rfl (by decide +kernel)

theorem length7 : (part7 (F := F)).1.length = 65 := rfl

theorem bufs7 : (part7 (F := F)).1.Forall fun op => op.bufs ⊆ tcRefs τ sig := by unfold part7; simp

theorem fresh7 : (part7 (F := F)).1.Forall fun op => op.fresh = ∅ := forall_fresh_of_map rfl

end Cert.ReferenceIdeal.Lines
-- ==== Proof.Round2.lean ====
/-
  Round 2 of the reference, from the equations of its operations.
-/
module

public import proofs.«01_k».proof.Proof.RoundEq
public import proofs.«01_k».proof.Proof.LinesA
public import proofs.«01_k».proof.Proof.LinesB

@[expose] public section

set_option maxRecDepth 16384
set_option maxHeartbeats 4000000

noncomputable section

namespace Cert.ReferenceIdeal.Lines

open Cert.ReferenceIdeal Cert.ReferenceIdeal.Gen Cert.Line Cert.Nms
open Idealize.ShloMosaic Idealize.ShloMosaic.StableHlo Idealize.ShloMosaic.TcCoe Idealize.SL.Sem

/-- Round 2 of the reference: the scores, the boxes and the scores left. -/
theorem round2 (V : Valuation τ sig (Elt Ideal)) (p3 : ∀ op ∈ (part3 (F := Ideal)).1, Sat op V) (p4 : ∀ op ∈ (part4 (F := Ideal)).1, Sat op V) (p5 : ∀ op ∈ (part5 (F := Ideal)).1, Sat op V)
    (hb : ∀ b : Fin 4, (V (Proc.devRef .tc main_v31) : IVec S4x1 32) (ix2 b 0) = BitVec.ofNat 32 b.val) :
    RoundEq (V (Proc.devRef .tc main_v25) : FVec Ideal S4x20000x4 .f32) (V (Proc.devRef .tc main_v191) : FVec Ideal S4x80x20000 .f32) (V (Proc.devRef .tc main_v213) : FVec Ideal S4x80 .f32)
      (V (Proc.devRef .tc main_v215) : FVec Ideal S4x80x4 .f32) (V (Proc.devRef .tc main_v271) : FVec Ideal S4x80x20000 .f32) := by
  unfold part3 at p3
  simp only [List.forall_mem_cons, nullary_sat, unary_sat, binary_sat, reshape_sat, ternary_sat, quaternary_sat, nary_sat] at p3
  obtain ⟨_, _, _, _, _, _, _, _, _, _, _, _, _, _, _, _, _, _, _, _, _, _, _, _, _, _, _, _, _, _, _, _, _, _, _, _, _, _, _, _, _, _, h288, h289, h290, _, h292, h293, h294, h295, h296, h297, h298, h299, h300, h301, h302, h303, h304, h305, h306, h307, h308, h309, h310, h311, h312, h313, h314, h315, h316, h317, h318, h319, h320, h321, h322, h323, h324, h325, h326, h327, h328, h329, h330, h331, h332, h333, h334, _⟩ := p3
  unfold part4 at p4
  simp only [List.forall_mem_cons, nullary_sat, unary_sat, binary_sat, reshape_sat, ternary_sat, quaternary_sat, nary_sat] at p4
  obtain ⟨h335, h336, h337, h338, h339, h340, h341, h342, h343, h344, h345, h346, h347, h348, h349, h350, h351, h352, h353, h354, h355, h356, h357, h358, h359, h360, h361, h362, h363, h364, h365, h366, h367, h368, h369, h370, h371, h372, h373, h374, h375, h376, h377, h378, h379, h380, h381, h382, h383, h384, h385, h386, h387, h388, h389, h390, h391, h392, h393, h394, h395, h396, h397, h398, h399, _⟩ := p4
  unfold part5 at p5
  simp only [List.forall_mem_cons, nullary_sat, unary_sat, binary_sat, reshape_sat, ternary_sat, quaternary_sat, nary_sat] at p5
  obtain ⟨h400, h401, h402, h403, h404, h405, h406, h407, h408, h409, h410, h411, h412, h413, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _⟩ := p5
  exact Ops.round h288 h289 h290 h292 h293 h294 h295 h296 h297 h298 h299 h300 h301 h302 h303 h304 h305 h306 h307 h308 h309 h310 h311 h312 h313 h314 h315 h316 h317 h318 h319 h320 h321 h322 h323 h324 h325 h326 h327 h328 h329 h330 h331 h332 h333 h334 h335 h336 h337 h338 h339 h340 h341 h342 h343 h344 h345 h346 h347 h348 h349 h350 h351 h352 h353 h354 h355 h356 h357 h358 h359 h360 h361 h362 h363 h364 h365 h366 h367 h368 h369 h370 h371 h372 h373 h374 h375 h376 h377 h378 h379 h380 h381 h382 h383 h384 h385 h386 h387 h388 h389 h390 h391 h392 h393 h394 h395 h396 h397 h398 h399 h400 h401 h402 h403 h404 h405 h406 h407 h408 h409 h410 h411 h412 h413 hb

end Cert.ReferenceIdeal.Lines
-- ==== Proof.Round3.lean ====
/-
  Round 3 of the reference, from the equations of its operations.
-/
module

public import proofs.«01_k».proof.Proof.RoundEq
public import proofs.«01_k».proof.Proof.LinesB

@[expose] public section

set_option maxRecDepth 16384
set_option maxHeartbeats 4000000

noncomputable section

namespace Cert.ReferenceIdeal.Lines

open Cert.ReferenceIdeal Cert.ReferenceIdeal.Gen Cert.Line Cert.Nms
open Idealize.ShloMosaic Idealize.ShloMosaic.StableHlo Idealize.ShloMosaic.TcCoe Idealize.SL.Sem

/-- Round 3 of the reference: the scores, the boxes and the scores left. -/
theorem round3 (V : Valuation τ sig (Elt Ideal)) (p5 : ∀ op ∈ (part5 (F := Ideal)).1, Sat op V) (p6 : ∀ op ∈ (part6 (F := Ideal)).1, Sat op V)
    (hb : ∀ b : Fin 4, (V (Proc.devRef .tc main_v31) : IVec S4x1 32) (ix2 b 0) = BitVec.ofNat 32 b.val) :
    RoundEq (V (Proc.devRef .tc main_v25) : FVec Ideal S4x20000x4 .f32) (V (Proc.devRef .tc main_v271) : FVec Ideal S4x80x20000 .f32) (V (Proc.devRef .tc main_v293) : FVec Ideal S4x80 .f32)
      (V (Proc.devRef .tc main_v295) : FVec Ideal S4x80x4 .f32) (V (Proc.devRef .tc main_v351) : FVec Ideal S4x80x20000 .f32) := by
  unfold part5 at p5
  simp only [List.forall_mem_cons, nullary_sat, unary_sat, binary_sat, reshape_sat, ternary_sat, quaternary_sat, nary_sat] at p5
  obtain ⟨_, _, _, _, _, _, _, _, _, _, _, _, _, _, h414, h415, h416, _, h418, h419, h420, h421, h422, h423, h424, h425, h426, h427, h428, h429, h430, h431, h432, h433, h434, h435, h436, h437, h438, h439, h440, h441, h442, h443, h444, h445, h446, h447, h448, h449, h450, h451, h452, h453, h454, h455, h456, h457, h458, h459, h460, h461, h462, h463, h464, h465, h466, h467, h468, h469, h470, h471, h472, h473, h474, h475, h476, h477, h478, h479, h480, h481, h482, h483, h484, h485, h486, h487, h488, h489, h490, h491, h492, h493, _⟩ := p5
  unfold part6 at p6
  simp only [List.forall_mem_cons, nullary_sat, unary_sat, binary_sat, reshape_sat, ternary_sat, quaternary_sat, nary_sat] at p6
  obtain ⟨h494, h495, h496, h497, h498, h499, h500, h501, h502, h503, h504, h505, h506, h507, h508, h509, h510, h511, h512, h513, h514, h515, h516, h517, h518, h519, h520, h521, h522, h523, h524, h525, h526, h527, h528, h529, h530, h531, h532, h533, h534, h535, h536, h537, h538, h539, _, _, _, _, _, _, _, _, _, _, _, _, _, _, _, _, _, _, _, _, _, _, _, _, _, _, _, _, _, _, _, _, _, _, _, _, _, _, _, _, _, _, _, _⟩ := p6
  exact Ops.round h414 h415 h416 h418 h419 h420 h421 h422 h423 h424 h425 h426 h427 h428 h429 h430 h431 h432 h433 h434 h435 h436 h437 h438 h439 h440 h441 h442 h443 h444 h445 h446 h447 h448 h449 h450 h451 h452 h453 h454 h455 h456 h457 h458 h459 h460 h461 h462 h463 h464 h465 h466 h467 h468 h469 h470 h471 h472 h473 h474 h475 h476 h477 h478 h479 h480 h481 h482 h483 h484 h485 h486 h487 h488 h489 h490 h491 h492 h493 h494 h495 h496 h497 h498 h499 h500 h501 h502 h503 h504 h505 h506 h507 h508 h509 h510 h511 h512 h513 h514 h515 h516 h517 h518 h519 h520 h521 h522 h523 h524 h525 h526 h527 h528 h529 h530 h531 h532 h533 h534 h535 h536 h537 h538 h539 hb

end Cert.ReferenceIdeal.Lines
-- ==== Proof.LinesC.lean ====
/-
  The reference's program, statements 480 to 659: a straight line of host operations, each of which writes its own buffer.
-/
module

public import proofs.«01_k».proof.Proof.Line
public import proofs.«01_k».proof.Proof.Gen.ReferenceIdeal

@[expose] public section

set_option maxRecDepth 16384
set_option maxHeartbeats 4000000

noncomputable section

namespace Cert.ReferenceIdeal.Lines

open Cert.ReferenceIdeal Cert.ReferenceIdeal.Gen Cert.Line
open Idealize.ShloMosaic Idealize.ShloMosaic.StableHlo Idealize.ShloMosaic.TcCoe Idealize.SL.Sem

variable {F : FTy → Type} [FloatOps F]

/-- The operations of statements 480 to 539, in order. -/
def part8 : {ops : List (HloOp τ sig (Elt F)) // ∀ d, IsSeq (main_part8 (F := F) d) ops} := by
  apply Subtype.mk
  hlo_seq

/-- They write buffers 650, 651, … and read only earlier ones. -/
theorem lined8 : Lined 650 (part8 (F := F)).1 := by
  unfold part8
  repeat' (first | apply And.intro | exact True.intro)
  all_goals first
    | exact unary_at _ _ _ _ _ rfl (by decide +kernel)
    | exact nullary_at _ _ _ rfl
    | exact binary_at _ _ _ _ _ _ _ rfl (by decide +kernel) (by decide +kernel)
    | exact reshape_at _ _ _ _ _ _ rfl (by decide +kernel)
    | exact ternary_at _ _ _ _ _ _ _ _ _ rfl (by decide +kernel) (by decide +kernel) (by decide +kernel)
    | exact quaternary_at _ _ _ _ _ _ _ _ _ _ _ rfl (by decide +kernel) (by decide +kernel) (by decide +kernel) (by decide +kernel)
    | exact nary_at _ _ _ _ _ rfl (by decide +kernel)

theorem length8 : (part8 (F := F)).1.length = 94 := rfl

theorem bufs8 : (part8 (F := F)).1.Forall fun op => op.bufs ⊆ tcRefs τ sig := by unfold part8; simp

theorem fresh8 : (part8 (F := F)).1.Forall fun op => op.fresh = ∅ := forall_fresh_of_map rfl

/-- The operations of statements 540 to 599, in order. -/
def part9 : {ops : List (HloOp τ sig (Elt F)) // ∀ d, IsSeq (main_part9 (F := F) d) ops} := by
  apply Subtype.mk
  hlo_seq

/-- They write buffers 744, 745, … and read only earlier ones. -/
theorem lined9 : Lined 744 (part9 (F := F)).1 := by
  unfold part9
  repeat' (first | apply And.intro | exact True.intro)
  all_goals first
    | exact unary_at _ _ _ _ _ rfl (by decide +kernel)
    | exact nullary_at _ _ _ rfl
    | exact binary_at _ _ _ _ _ _ _ rfl (by decide +kernel) (by decide +kernel)
    | exact reshape_at _ _ _ _ _ _ rfl (by decide +kernel)
    | exact ternary_at _ _ _ _ _ _ _ _ _ rfl (by decide +kernel) (by decide +kernel) (by decide +kernel)
    | exact quaternary_at _ _ _ _ _ _ _ _ _ _ _ rfl (by decide +kernel) (by decide +kernel) (by decide +kernel) (by decide +kernel)
    | exact nary_at _ _ _ _ _ rfl (by decide +kernel)

theorem length9 : (part9 (F := F)).1.length = 89 := rfl

theorem bufs9 : (part9 (F := F)).1.Forall fun op => op.bufs ⊆ tcRefs τ sig := by unfold part9; simp

theorem fresh9 : (part9 (F := F)).1.Forall fun op => op.fresh = ∅ := forall_fresh_of_map rfl

/-- The operations of statements 600 to 659, in order. -/
def part10 : {ops : List (HloOp τ sig (Elt F)) // ∀ d, IsSeq (main_part10 (F := F) d) ops} := by
  apply Subtype.mk
  hlo_seq

/-- They write buffers 833, 834, … and read only earlier ones. -/
theorem lined10 : Lined 833 (part10 (F := F)).1 := by
  unfold part10
  repeat' (first | apply And.intro | exact True.intro)
  all_goals first
    | exact unary_at _ _ _ _ _ rfl (by decide +kernel)
    | exact nullary_at _ _ _ rfl
    | exact binary_at _ _ _ _ _ _ _ rfl (by decide +kernel) (by decide +kernel)
    | exact reshape_at _ _ _ _ _ _ rfl (by decide +kernel)
    | exact ternary_at _ _ _ _ _ _ _ _ _ rfl (by decide +kernel) (by decide +kernel) (by decide +kernel)
    | exact quaternary_at _ _ _ _ _ _ _ _ _ _ _ rfl (by decide +kernel) (by decide +kernel) (by decide +kernel) (by decide +kernel)
    | exact nary_at _ _ _ _ _ rfl (by decide +kernel)

theorem length10 : (part10 (F := F)).1.length = 65 := rfl

theorem bufs10 : (part10 (F := F)).1.Forall fun op => op.bufs ⊆ tcRefs τ sig := by unfold part10; simp

theorem fresh10 : (part10 (F := F)).1.Forall fun op => op.fresh = ∅ := forall_fresh_of_map rfl

end Cert.ReferenceIdeal.Lines
-- ==== Proof.Round4.lean ====
/-
  Round 4 of the reference, from the equations of its operations.
-/
module

public import proofs.«01_k».proof.Proof.RoundEq
public import proofs.«01_k».proof.Proof.LinesB
public import proofs.«01_k».proof.Proof.LinesC

@[expose] public section

set_option maxRecDepth 16384
set_option maxHeartbeats 4000000

noncomputable section

namespace Cert.ReferenceIdeal.Lines

open Cert.ReferenceIdeal Cert.ReferenceIdeal.Gen Cert.Line Cert.Nms
open Idealize.ShloMosaic Idealize.ShloMosaic.StableHlo Idealize.ShloMosaic.TcCoe Idealize.SL.Sem

/-- Round 4 of the reference: the scores, the boxes and the scores left. -/
theorem round4 (V : Valuation τ sig (Elt Ideal)) (p6 : ∀ op ∈ (part6 (F := Ideal)).1, Sat op V) (p7 : ∀ op ∈ (part7 (F := Ideal)).1, Sat op V) (p8 : ∀ op ∈ (part8 (F := Ideal)).1, Sat op V)
    (hb : ∀ b : Fin 4, (V (Proc.devRef .tc main_v31) : IVec S4x1 32) (ix2 b 0) = BitVec.ofNat 32 b.val) :
    RoundEq (V (Proc.devRef .tc main_v25) : FVec Ideal S4x20000x4 .f32) (V (Proc.devRef .tc main_v351) : FVec Ideal S4x80x20000 .f32) (V (Proc.devRef .tc main_v373) : FVec Ideal S4x80 .f32)
      (V (Proc.devRef .tc main_v375) : FVec Ideal S4x80x4 .f32) (V (Proc.devRef .tc main_v431) : FVec Ideal S4x80x20000 .f32) := by
  unfold part6 at p6
  simp only [List.forall_mem_cons, nullary_sat, unary_sat, binary_sat, reshape_sat, ternary_sat, quaternary_sat, nary_sat] at p6
  obtain ⟨_, _, _, _, _, _, _, _, _, _, _, _, _, _, _, _, _, _, _, _, _, _, _, _, _, _, _, _, _, _, _, _, _, _, _, _, _, _, _, _, _, _, _, _, _, _, h540, h541, h542, _, h544, h545, h546, h547, h548, h549, h550, h551, h552, h553, h554, h555, h556, h557, h558, h559, h560, h561, h562, h563, h564, h565, h566, h567, h568, h569, h570, h571, h572, h573, h574, h575, h576, h577, h578, h579, h580, h581, h582, _⟩ := p6
  unfold part7 at p7
  simp only [List.forall_mem_cons, nullary_sat, unary_sat, binary_sat, reshape_sat, ternary_sat, quaternary_sat, nary_sat] at p7
  obtain ⟨h583, h584, h585, h586, h587, h588, h589, h590, h591, h592, h593, h594, h595, h596, h597, h598, h599, h600, h601, h602, h603, h604, h605, h606, h607, h608, h609, h610, h611, h612, h613, h614, h615, h616, h617, h618, h619, h620, h621, h622, h623, h624, h625, h626, h627, h628, h629, h630, h631, h632, h633, h634, h635, h636, h637, h638, h639, h640, h641, h642, h643, h644, h645, h646, h647, _⟩ := p7
  unfold part8 at p8
  simp only [List.forall_mem_cons, nullary_sat, unary_sat, binary_sat, reshape_sat, ternary_sat, quaternary_sat, nary_sat] at p8
  obtain ⟨h648, h649, h650, h651, h652, h653, h654, h655, h656, h657, h658, h659, h660, h661, h662, h663, h664, h665, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _⟩ := p8
  exact Ops.round h540 h541 h542 h544 h545 h546 h547 h548 h549 h550 h551 h552 h553 h554 h555 h556 h557 h558 h559 h560 h561 h562 h563 h564 h565 h566 h567 h568 h569 h570 h571 h572 h573 h574 h575 h576 h577 h578 h579 h580 h581 h582 h583 h584 h585 h586 h587 h588 h589 h590 h591 h592 h593 h594 h595 h596 h597 h598 h599 h600 h601 h602 h603 h604 h605 h606 h607 h608 h609 h610 h611 h612 h613 h614 h615 h616 h617 h618 h619 h620 h621 h622 h623 h624 h625 h626 h627 h628 h629 h630 h631 h632 h633 h634 h635 h636 h637 h638 h639 h640 h641 h642 h643 h644 h645 h646 h647 h648 h649 h650 h651 h652 h653 h654 h655 h656 h657 h658 h659 h660 h661 h662 h663 h664 h665 hb

end Cert.ReferenceIdeal.Lines
-- ==== Proof.Round5.lean ====
/-
  Round 5 of the reference, from the equations of its operations.
-/
module

public import proofs.«01_k».proof.Proof.RoundEq
public import proofs.«01_k».proof.Proof.LinesC

@[expose] public section

set_option maxRecDepth 16384
set_option maxHeartbeats 4000000

noncomputable section

namespace Cert.ReferenceIdeal.Lines

open Cert.ReferenceIdeal Cert.ReferenceIdeal.Gen Cert.Line Cert.Nms
open Idealize.ShloMosaic Idealize.ShloMosaic.StableHlo Idealize.ShloMosaic.TcCoe Idealize.SL.Sem

/-- Round 5 of the reference: the scores, the boxes and the scores left. -/
theorem round5 (V : Valuation τ sig (Elt Ideal)) (p8 : ∀ op ∈ (part8 (F := Ideal)).1, Sat op V) (p9 : ∀ op ∈ (part9 (F := Ideal)).1, Sat op V)
    (hb : ∀ b : Fin 4, (V (Proc.devRef .tc main_v31) : IVec S4x1 32) (ix2 b 0) = BitVec.ofNat 32 b.val) :
    RoundEq (V (Proc.devRef .tc main_v25) : FVec Ideal S4x20000x4 .f32) (V (Proc.devRef .tc main_v431) : FVec Ideal S4x80x20000 .f32) (V (Proc.devRef .tc main_v453) : FVec Ideal S4x80 .f32)
      (V (Proc.devRef .tc main_v455) : FVec Ideal S4x80x4 .f32) (V (Proc.devRef .tc main_v511) : FVec Ideal S4x80x20000 .f32) := by
  unfold part8 at p8
  simp only [List.forall_mem_cons, nullary_sat, unary_sat, binary_sat, reshape_sat, ternary_sat, quaternary_sat, nary_sat] at p8
  obtain ⟨_, _, _, _, _, _, _, _, _, _, _, _, _, _, _, _, _, _, h666, h667, h668, _, h670, h671, h672, h673, h674, h675, h676, h677, h678, h679, h680, h681, h682, h683, h684, h685, h686, h687, h688, h689, h690, h691, h692, h693, h694, h695, h696, h697, h698, h699, h700, h701, h702, h703, h704, h705, h706, h707, h708, h709, h710, h711, h712, h713, h714, h715, h716, h717, h718, h719, h720, h721, h722, h723, h724, h725, h726, h727, h728, h729, h730, h731, h732, h733, h734, h735, h736, h737, h738, h739, h740, h741, _⟩ := p8
  unfold part9 at p9
  simp only [List.forall_mem_cons, nullary_sat, unary_sat, binary_sat, reshape_sat, ternary_sat, quaternary_sat, nary_sat] at p9
  obtain ⟨h742, h743, h744, h745, h746, h747, h748, h749, h750, h751, h752, h753, h754, h755, h756, h757, h758, h759, h760, h761, h762, h763, h764, h765, h766, h767, h768, h769, h770, h771, h772, h773, h774, h775, h776, h777, h778, h779, h780, h781, h782, h783, h784, h785, h786, h787, h788, h789, h790, h791, _, _, _, _, _, _, _, _, _, _, _, _, _, _, _, _, _, _, _, _, _, _, _, _, _, _, _, _, _, _, _, _, _, _, _, _, _, _, _, _⟩ := p9
  exact Ops.round h666 h667 h668 h670 h671 h672 h673 h674 h675 h676 h677 h678 h679 h680 h681 h682 h683 h684 h685 h686 h687 h688 h689 h690 h691 h692 h693 h694 h695 h696 h697 h698 h699 h700 h701 h702 h703 h704 h705 h706 h707 h708 h709 h710 h711 h712 h713 h714 h715 h716 h717 h718 h719 h720 h721 h722 h723 h724 h725 h726 h727 h728 h729 h730 h731 h732 h733 h734 h735 h736 h737 h738 h739 h740 h741 h742 h743 h744 h745 h746 h747 h748 h749 h750 h751 h752 h753 h754 h755 h756 h757 h758 h759 h760 h761 h762 h763 h764 h765 h766 h767 h768 h769 h770 h771 h772 h773 h774 h775 h776 h777 h778 h779 h780 h781 h782 h783 h784 h785 h786 h787 h788 h789 h790 h791 hb

end Cert.ReferenceIdeal.Lines
-- ==== Proof.Round6.lean ====
/-
  Round 6 of the reference, from the equations of its operations.
-/
module

public import proofs.«01_k».proof.Proof.RoundEq
public import proofs.«01_k».proof.Proof.LinesC
public import proofs.«01_k».proof.Proof.LinesD

@[expose] public section

set_option maxRecDepth 16384
set_option maxHeartbeats 4000000

noncomputable section

namespace Cert.ReferenceIdeal.Lines

open Cert.ReferenceIdeal Cert.ReferenceIdeal.Gen Cert.Line Cert.Nms
open Idealize.ShloMosaic Idealize.ShloMosaic.StableHlo Idealize.ShloMosaic.TcCoe Idealize.SL.Sem

/-- Round 6 of the reference: the scores, the boxes and the scores left. -/
theorem round6 (V : Valuation τ sig (Elt Ideal)) (p9 : ∀ op ∈ (part9 (F := Ideal)).1, Sat op V) (p10 : ∀ op ∈ (part10 (F := Ideal)).1, Sat op V) (p11 : ∀ op ∈ (part11 (F := Ideal)).1, Sat op V)
    (hb : ∀ b : Fin 4, (V (Proc.devRef .tc main_v31) : IVec S4x1 32) (ix2 b 0) = BitVec.ofNat 32 b.val) :
    RoundEq (V (Proc.devRef .tc main_v25) : FVec Ideal S4x20000x4 .f32) (V (Proc.devRef .tc main_v511) : FVec Ideal S4x80x20000 .f32) (V (Proc.devRef .tc main_v533) : FVec Ideal S4x80 .f32)
      (V (Proc.devRef .tc main_v535) : FVec Ideal S4x80x4 .f32) (V (Proc.devRef .tc main_v591) : FVec Ideal S4x80x20000 .f32) := by
  unfold part9 at p9
  simp only [List.forall_mem_cons, nullary_sat, unary_sat, binary_sat, reshape_sat, ternary_sat, quaternary_sat, nary_sat] at p9
  obtain ⟨_, _, _, _, _, _, _, _, _, _, _, _, _, _, _, _, _, _, _, _, _, _, _, _, _, _, _, _, _, _, _, _, _, _, _, _, _, _, _, _, _, _, _, _, _, _, _, _, _, _, h792, h793, h794, _, h796, h797, h798, h799, h800, h801, h802, h803, h804, h805, h806, h807, h808, h809, h810, h811, h812, h813, h814, h815, h816, h817, h818, h819, h820, h821, h822, h823, h824, h825, h826, h827, h828, h829, h830, _⟩ := p9
  unfold part10 at p10
  simp only [List.forall_mem_cons, nullary_sat, unary_sat, binary_sat, reshape_sat, ternary_sat, quaternary_sat, nary_sat] at p10
  obtain ⟨h831, h832, h833, h834, h835, h836, h837, h838, h839, h840, h841, h842, h843, h844, h845, h846, h847, h848, h849, h850, h851, h852, h853, h854, h855, h856, h857, h858, h859, h860, h861, h862, h863, h864, h865, h866, h867, h868, h869, h870, h871, h872, h873, h874, h875, h876, h877, h878, h879, h880, h881, h882, h883, h884, h885, h886, h887, h888, h889, h890, h891, h892, h893, h894, h895, _⟩ := p10
  unfold part11 at p11
  simp only [List.forall_mem_cons, nullary_sat, unary_sat, binary_sat, reshape_sat, ternary_sat, quaternary_sat, nary_sat] at p11
  obtain ⟨h896, h897, h898, h899, h900, h901, h902, h903, h904, h905, h906, h907, h908, h909, h910, h911, h912, h913, h914, h915, h916, h917, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _⟩ := p11
  exact Ops.round h792 h793 h794 h796 h797 h798 h799 h800 h801 h802 h803 h804 h805 h806 h807 h808 h809 h810 h811 h812 h813 h814 h815 h816 h817 h818 h819 h820 h821 h822 h823 h824 h825 h826 h827 h828 h829 h830 h831 h832 h833 h834 h835 h836 h837 h838 h839 h840 h841 h842 h843 h844 h845 h846 h847 h848 h849 h850 h851 h852 h853 h854 h855 h856 h857 h858 h859 h860 h861 h862 h863 h864 h865 h866 h867 h868 h869 h870 h871 h872 h873 h874 h875 h876 h877 h878 h879 h880 h881 h882 h883 h884 h885 h886 h887 h888 h889 h890 h891 h892 h893 h894 h895 h896 h897 h898 h899 h900 h901 h902 h903 h904 h905 h906 h907 h908 h909 h910 h911 h912 h913 h914 h915 h916 h917 hb

end Cert.ReferenceIdeal.Lines
-- ==== Proof.Round7.lean ====
/-
  Round 7 of the reference, from the equations of its operations.
-/
module

public import proofs.«01_k».proof.Proof.RoundEq
public import proofs.«01_k».proof.Proof.LinesD

@[expose] public section

set_option maxRecDepth 16384
set_option maxHeartbeats 4000000

noncomputable section

namespace Cert.ReferenceIdeal.Lines

open Cert.ReferenceIdeal Cert.ReferenceIdeal.Gen Cert.Line Cert.Nms
open Idealize.ShloMosaic Idealize.ShloMosaic.StableHlo Idealize.ShloMosaic.TcCoe Idealize.SL.Sem

/-- Round 7 of the reference: the scores, the boxes and the scores left. -/
theorem round7 (V : Valuation τ sig (Elt Ideal)) (p11 : ∀ op ∈ (part11 (F := Ideal)).1, Sat op V) (p12 : ∀ op ∈ (part12 (F := Ideal)).1, Sat op V)
    (hb : ∀ b : Fin 4, (V (Proc.devRef .tc main_v31) : IVec S4x1 32) (ix2 b 0) = BitVec.ofNat 32 b.val) :
    RoundEq (V (Proc.devRef .tc main_v25) : FVec Ideal S4x20000x4 .f32) (V (Proc.devRef .tc main_v591) : FVec Ideal S4x80x20000 .f32) (V (Proc.devRef .tc main_v613) : FVec Ideal S4x80 .f32)
      (V (Proc.devRef .tc main_v615) : FVec Ideal S4x80x4 .f32) (V (Proc.devRef .tc main_v671) : FVec Ideal S4x80x20000 .f32) := by
  unfold part11 at p11
  simp only [List.forall_mem_cons, nullary_sat, unary_sat, binary_sat, reshape_sat, ternary_sat, quaternary_sat, nary_sat] at p11
  obtain ⟨_, _, _, _, _, _, _, _, _, _, _, _, _, _, _, _, _, _, _, _, _, _, h918, h919, h920, _, h922, h923, h924, h925, h926, h927, h928, h929, h930, h931, h932, h933, h934, h935, h936, h937, h938, h939, h940, h941, h942, h943, h944, h945, h946, h947, h948, h949, h950, h951, h952, h953, h954, h955, h956, h957, h958, h959, h960, h961, h962, h963, h964, h965, h966, h967, h968, h969, h970, h971, h972, h973, h974, h975, h976, h977, h978, h979, h980, h981, h982, h983, h984, h985, h986, h987, h988, h989, _⟩ := p11
  unfold part12 at p12
  simp only [List.forall_mem_cons, nullary_sat, unary_sat, binary_sat, reshape_sat, ternary_sat, quaternary_sat, nary_sat] at p12
  obtain ⟨h990, h991, h992, h993, h994, h995, h996, h997, h998, h999, h1000, h1001, h1002, h1003, h1004, h1005, h1006, h1007, h1008, h1009, h1010, h1011, h1012, h1013, h1014, h1015, h1016, h1017, h1018, h1019, h1020, h1021, h1022, h1023, h1024, h1025, h1026, h1027, h1028, h1029, h1030, h1031, h1032, h1033, h1034, h1035, h1036, h1037, h1038, h1039, h1040, h1041, h1042, h1043, _, _, _, _, _, _, _, _, _, _, _⟩ := p12
  exact Ops.round h918 h919 h920 h922 h923 h924 h925 h926 h927 h928 h929 h930 h931 h932 h933 h934 h935 h936 h937 h938 h939 h940 h941 h942 h943 h944 h945 h946 h947 h948 h949 h950 h951 h952 h953 h954 h955 h956 h957 h958 h959 h960 h961 h962 h963 h964 h965 h966 h967 h968 h969 h970 h971 h972 h973 h974 h975 h976 h977 h978 h979 h980 h981 h982 h983 h984 h985 h986 h987 h988 h989 h990 h991 h992 h993 h994 h995 h996 h997 h998 h999 h1000 h1001 h1002 h1003 h1004 h1005 h1006 h1007 h1008 h1009 h1010 h1011 h1012 h1013 h1014 h1015 h1016 h1017 h1018 h1019 h1020 h1021 h1022 h1023 h1024 h1025 h1026 h1027 h1028 h1029 h1030 h1031 h1032 h1033 h1034 h1035 h1036 h1037 h1038 h1039 h1040 h1041 h1042 h1043 hb

end Cert.ReferenceIdeal.Lines
-- ==== Proof.RefRun.lean ====
/-
  The reference's run: what its results end as, from the contents of its arguments.
-/
module

public import proofs.«01_k».proof.Proof.RefValue
public import proofs.«01_k».proof.Proof.Round0
public import proofs.«01_k».proof.Proof.Round1
public import proofs.«01_k».proof.Proof.Round2
public import proofs.«01_k».proof.Proof.Round3
public import proofs.«01_k».proof.Proof.Round4
public import proofs.«01_k».proof.Proof.Round5
public import proofs.«01_k».proof.Proof.Round6
public import proofs.«01_k».proof.Proof.Round7
public import Idealize.ShloMosaic.Lib.Quiescent

@[expose] public section

set_option maxRecDepth 16384
set_option maxHeartbeats 4000000

noncomputable section

namespace Cert.ReferenceIdeal.Lines

open Cert.ReferenceIdeal Cert.ReferenceIdeal.Gen Cert.Line Cert.Nms
open Idealize.ShloMosaic Idealize.ShloMosaic.StableHlo Idealize.ShloMosaic.TcCoe Idealize.SL.Sem

/-- The reference's operations, in order. -/
def line : List (HloOp τ sig (Elt Ideal)) :=
  (part0 (F := Ideal)).1 ++ ((part1 (F := Ideal)).1 ++ ((part2 (F := Ideal)).1 ++ ((part3 (F := Ideal)).1 ++ ((part4 (F := Ideal)).1 ++ ((part5 (F := Ideal)).1 ++ ((part6 (F := Ideal)).1 ++ ((part7 (F := Ideal)).1 ++ ((part8 (F := Ideal)).1 ++ ((part9 (F := Ideal)).1 ++ ((part10 (F := Ideal)).1 ++ ((part11 (F := Ideal)).1 ++ ((part12 (F := Ideal)).1 ++ (part13 (F := Ideal)).1))))))))))))

theorem isSeq_line (d : Dev nD) : IsSeq (main (F := Ideal) d) line :=
  isSeq_append (part0.2 d) (isSeq_append (part1.2 d) (isSeq_append (part2.2 d) (isSeq_append (part3.2 d) (isSeq_append (part4.2 d) (isSeq_append (part5.2 d) (isSeq_append (part6.2 d) (isSeq_append (part7.2 d) (isSeq_append (part8.2 d) (isSeq_append (part9.2 d) (isSeq_append (part10.2 d) (isSeq_append (part11.2 d) (isSeq_append (part12.2 d) (part13.2 d)))))))))))))

/-- They write buffers 2, 3, … and read only earlier ones. -/
theorem lined_line : Lined 2 line := by
  unfold line
  refine Lined.append lined0 ?_
  rw [length0]
  refine Lined.append lined1 ?_
  rw [length1]
  refine Lined.append lined2 ?_
  rw [length2]
  refine Lined.append lined3 ?_
  rw [length3]
  refine Lined.append lined4 ?_
  rw [length4]
  refine Lined.append lined5 ?_
  rw [length5]
  refine Lined.append lined6 ?_
  rw [length6]
  refine Lined.append lined7 ?_
  rw [length7]
  refine Lined.append lined8 ?_
  rw [length8]
  refine Lined.append lined9 ?_
  rw [length9]
  refine Lined.append lined10 ?_
  rw [length10]
  refine Lined.append lined11 ?_
  rw [length11]
  refine Lined.append lined12 ?_
  rw [length12]
  exact lined13

theorem bufs_line : line.Forall fun op => op.bufs ⊆ tcRefs τ sig := by
  unfold line
  refine List.forall_append.mpr ⟨bufs0, ?_⟩
  refine List.forall_append.mpr ⟨bufs1, ?_⟩
  refine List.forall_append.mpr ⟨bufs2, ?_⟩
  refine List.forall_append.mpr ⟨bufs3, ?_⟩
  refine List.forall_append.mpr ⟨bufs4, ?_⟩
  refine List.forall_append.mpr ⟨bufs5, ?_⟩
  refine List.forall_append.mpr ⟨bufs6, ?_⟩
  refine List.forall_append.mpr ⟨bufs7, ?_⟩
  refine List.forall_append.mpr ⟨bufs8, ?_⟩
  refine List.forall_append.mpr ⟨bufs9, ?_⟩
  refine List.forall_append.mpr ⟨bufs10, ?_⟩
  refine List.forall_append.mpr ⟨bufs11, ?_⟩
  refine List.forall_append.mpr ⟨bufs12, ?_⟩
  exact bufs13

theorem fresh_line : line.Forall fun op => op.fresh = ∅ := by
  unfold line
  refine List.forall_append.mpr ⟨fresh0, ?_⟩
  refine List.forall_append.mpr ⟨fresh1, ?_⟩
  refine List.forall_append.mpr ⟨fresh2, ?_⟩
  refine List.forall_append.mpr ⟨fresh3, ?_⟩
  refine List.forall_append.mpr ⟨fresh4, ?_⟩
  refine List.forall_append.mpr ⟨fresh5, ?_⟩
  refine List.forall_append.mpr ⟨fresh6, ?_⟩
  refine List.forall_append.mpr ⟨fresh7, ?_⟩
  refine List.forall_append.mpr ⟨fresh8, ?_⟩
  refine List.forall_append.mpr ⟨fresh9, ?_⟩
  refine List.forall_append.mpr ⟨fresh10, ?_⟩
  refine List.forall_append.mpr ⟨fresh11, ?_⟩
  refine List.forall_append.mpr ⟨fresh12, ?_⟩
  exact fresh13

/-- The results a batch of boxes and scores has: the reference's four result arrays. -/
def Results (a0 : FVec Ideal S4x20000x1x4 .f32) (a1 : FVec Ideal S4x20000x80 .f32) (box : FVec Ideal S4x8x4 .f32)
    (score : FVec Ideal S4x8 .f32) (cls : IVec S4x8 32) (valid : IVec S4 32) : Prop :=
  (∀ b r e, box (ix3 b r e) = outBox (boxesOf a0 b).supR (boxesOf a0 b) (scoresOf a1 b) r e) ∧
  (∀ b r, score (ix2 b r) = outScore (boxesOf a0 b).supR (scoresOf a1 b) r) ∧
  (∀ b r, cls (ix2 b r) = outClass (boxesOf a0 b).supR (scoresOf a1 b) r) ∧
  ∀ b, valid (ix1 b) = outValid (boxesOf a0 b).supR (scoresOf a1 b)

/-- Contents of which every operation's equation holds hold the results of the arguments they hold. -/
theorem results_of_sat (V : Valuation τ sig (Elt Ideal)) (h : ∀ op ∈ line, Sat op V) :
    Results (V (Proc.devRef .tc main_arg0) : FVec Ideal S4x20000x1x4 .f32) (V (Proc.devRef .tc main_arg1) : FVec Ideal S4x20000x80 .f32)
      (V (Proc.devRef .tc main_v705) : FVec Ideal S4x8x4 .f32) (V (Proc.devRef .tc main_v706) : FVec Ideal S4x8 .f32) (V (Proc.devRef .tc main_v707) : IVec S4x8 32) (V (Proc.devRef .tc main_v709) : IVec S4 32) := by
  unfold line at h
  have p0 := fun op ho => h op (List.mem_append_left _ ho)
  replace h := fun op ho => h op (List.mem_append_right _ ho)
  have p1 := fun op ho => h op (List.mem_append_left _ ho)
  replace h := fun op ho => h op (List.mem_append_right _ ho)
  have p2 := fun op ho => h op (List.mem_append_left _ ho)
  replace h := fun op ho => h op (List.mem_append_right _ ho)
  have p3 := fun op ho => h op (List.mem_append_left _ ho)
  replace h := fun op ho => h op (List.mem_append_right _ ho)
  have p4 := fun op ho => h op (List.mem_append_left _ ho)
  replace h := fun op ho => h op (List.mem_append_right _ ho)
  have p5 := fun op ho => h op (List.mem_append_left _ ho)
  replace h := fun op ho => h op (List.mem_append_right _ ho)
  have p6 := fun op ho => h op (List.mem_append_left _ ho)
  replace h := fun op ho => h op (List.mem_append_right _ ho)
  have p7 := fun op ho => h op (List.mem_append_left _ ho)
  replace h := fun op ho => h op (List.mem_append_right _ ho)
  have p8 := fun op ho => h op (List.mem_append_left _ ho)
  replace h := fun op ho => h op (List.mem_append_right _ ho)
  have p9 := fun op ho => h op (List.mem_append_left _ ho)
  replace h := fun op ho => h op (List.mem_append_right _ ho)
  have p10 := fun op ho => h op (List.mem_append_left _ ho)
  replace h := fun op ho => h op (List.mem_append_right _ ho)
  have p11 := fun op ho => h op (List.mem_append_left _ ho)
  replace h := fun op ho => h op (List.mem_append_right _ ho)
  have p12 := fun op ho => h op (List.mem_append_left _ ho)
  replace h := fun op ho => h op (List.mem_append_right _ ho)
  have p13 := h
  clear h
  have hp := pre V p0
  have hb := hp.2.2
  have h0 := round0 V p0 p1 p2 hb
  have h1 := round1 V p2 p3 hb
  have h2 := round2 V p3 p4 p5 hb
  have h3 := round3 V p5 p6 hb
  have h4 := round4 V p6 p7 p8 hb
  have h5 := round5 V p8 p9 hb
  have h6 := round6 V p9 p10 p11 hb
  have h7 := round7 V p11 p12 hb
  exact value hp h0 h1 h2 h3 h4 h5 h6 h7 (post V p12 p13)

/-- The reference runs; its results are those of its arguments, its arguments end unchanged, and its counters end at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      Results (m ((c.tc : Thread nD τ).loc main_arg0)) (m ((c.tc : Thread nD τ).loc main_arg1)) (r.2.mem ((c.tc : Thread nD τ).loc main_v705))
        (r.2.mem ((c.tc : Thread nD τ).loc main_v706)) (r.2.mem ((c.tc : Thread nD τ).loc main_v707)) (r.2.mem ((c.tc : Thread nD τ).loc main_v709))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 := by
  refine θ_run_mono (run_hlo (defs (F := Ideal)) (main (F := Ideal)) isSeq_line (by decide) (by decide) bufs_line
    (List.forall_iff_forall_mem.mp fresh_line) m ρ) fun r h => ⟨fun c => ?_, sem_eq_zero_of_no_sems rfl _⟩
  have k0 : after line (launchContents m c) (Proc.devRef .tc main_arg0) = m ((c.tc : Thread nD τ).loc main_arg0) :=
    lined_line.keep (launchContents m c) main_arg0 (by decide)
  have k1 : after line (launchContents m c) (Proc.devRef .tc main_arg1) = m ((c.tc : Thread nD τ).loc main_arg1) :=
    lined_line.keep (launchContents m c) main_arg1 (by decide)
  have hr := results_of_sat (after line (launchContents m c)) (lined_line.sat _)
  rw [k0, k1] at hr
  rw [h c main_v705, h c main_v706, h c main_v707, h c main_v709, h c main_arg0, h c main_arg1]
  exact ⟨hr, k0, k1⟩

end Cert.ReferenceIdeal.Lines
-- ==== Proof.Agree.lean ====
/-
  The two programs' results are the same: on finite boxes the kernel's test of suppression is the reference's.
-/
module

public import proofs.«01_k».proof.Proof.KernelRun
public import proofs.«01_k».proof.Proof.RefRun
public import proofs.«01_k».proof.Proof.Scalars
public import proofs.«01_k».proof.Defs

@[expose] public section

set_option maxRecDepth 16384

noncomputable section

namespace Cert.Agree

open Idealize.ShloMosaic Idealize.ShloMosaic.TcCoe Idealize.SL.Sem
open Cert.Nms
open Cert.ReferenceIdeal.Lines (boxesOf scoresOf Results)
open Cert.KernelIdeal.Arrays (boxIn scoreIn kboxes kscores res5 res6 res7 res8)

/-- The side conditions of the precondition. -/
theorem preFacts : Cert.Pre_finite_boxes.Facts := ⟨by decide⟩

/-- The precondition says of each coordinate that it is neither infinity. -/
theorem finite_of_pre [Cert.Pre_finite_boxes.Facts] (a0 : FVec Ideal Cert.Pre_finite_boxes.S4x20000x1x4 .f32)
    (a1 : FVec Ideal Cert.Pre_finite_boxes.S4x20000x80 .f32)
    (h : Cert.Pre_finite_boxes.fn (F := Ideal) a0 a1 = fun _ => 1#1) (i : Cert.Pre_finite_boxes.S4x20000x1x4.Idx) :
    (a0 i : EReal) ≠ ⊤ ∧ (a0 i : EReal) ≠ ⊥ := by
  have e : IntOp.andi (BitVec.ofBool (decide ((Ideal.ofBits .f32 0xFF800000#32 : EReal) < a0 i)))
      (BitVec.ofBool (decide ((a0 i : EReal) < Ideal.ofBits .f32 0x7F800000#32))) = 1#1 := congrFun h i
  rw [lit_bot, lit_top] at e
  have key : ∀ p q : Bool, IntOp.andi (BitVec.ofBool p) (BitVec.ofBool q) = 1#1 → p = true ∧ q = true := by decide
  obtain ⟨h₁, h₂⟩ := key _ _ e
  exact ⟨(of_decide_eq_true h₂).ne, (of_decide_eq_true h₁).ne'⟩

variable (m : (ℓ : Loc Cert.KernelIdeal.nD Cert.KernelIdeal.τ Cert.KernelIdeal.sig) → Buf (Elt Ideal) ℓ)
variable (c : Dev Cert.KernelIdeal.nD)

/-- The kernel's argument arrays. -/
def arg0 : FVec Ideal Cert.ReferenceIdeal.S4x20000x1x4 .f32 :=
  m ((c.tc : Thread Cert.KernelIdeal.nD Cert.KernelIdeal.τ).loc Cert.KernelIdeal.main_arg0)
def arg1 : FVec Ideal Cert.ReferenceIdeal.S4x20000x80 .f32 :=
  m ((c.tc : Thread Cert.KernelIdeal.nD Cert.KernelIdeal.τ).loc Cert.KernelIdeal.main_arg1)

theorem boxes_eq (b : Fin 4) : kboxes (boxIn m c) b = boxesOf (arg0 m c) b := by
  unfold kboxes boxesOf
  refine congrArg canon ?_
  funext j e
  exact Cert.KernelIdeal.Arrays.boxIn_at m c b e j

theorem scores_eq (b : Fin 4) : kscores (scoreIn m c) b = scoresOf (arg1 m c) b := by
  funext k j
  exact Cert.KernelIdeal.Arrays.scoreIn_at m c b k j

/-- On finite boxes the two tests of suppression are one. -/
theorem sup_eq (hf : ∀ i, (arg0 m c i : EReal) ≠ ⊤ ∧ (arg0 m c i : EReal) ≠ ⊥) (b : Fin 4) :
    (kboxes (boxIn m c) b).supK = (boxesOf (arg0 m c) b).supR := by
  rw [boxes_eq]
  exact table_congr fun i j => supK_iff_supR (fun j e => arg0 m c (ix4 b j 0 e)) (fun j e => hf _) i j

variable {m c}

/-- Arrays that are the reference's results are the kernel's. -/
theorem results_eq (hf : ∀ i, (arg0 m c i : EReal) ≠ ⊤ ∧ (arg0 m c i : EReal) ≠ ⊥)
    {box : FVec Ideal Cert.ReferenceIdeal.S4x8x4 .f32} {score : FVec Ideal Cert.ReferenceIdeal.S4x8 .f32}
    {cls : IVec Cert.ReferenceIdeal.S4x8 32} {valid : IVec Cert.ReferenceIdeal.S4 32}
    (h : Results (arg0 m c) (arg1 m c) box score cls valid) :
    box = res5 (boxIn m c) (scoreIn m c) ∧
    score = shapeCast Cert.KernelIdeal.S4x8 (res6 (boxIn m c) (scoreIn m c)) Cert.KernelIdeal.Gen.shapeCasts_S4x1x8_S4x8 ∧
    cls = shapeCast Cert.KernelIdeal.S4x8 (res7 (boxIn m c) (scoreIn m c)) Cert.KernelIdeal.Gen.shapeCasts_S4x1x8_S4x8 ∧
    valid = shapeCast Cert.KernelIdeal.S4 (res8 (boxIn m c) (scoreIn m c)) Cert.KernelIdeal.Gen.shapeCasts_S4x1x1_S4 := by
  obtain ⟨h5, h6, h7, h8⟩ := h
  refine ⟨funext fun i => ?_, funext fun i => ?_, funext fun i => ?_, funext fun i => ?_⟩
  · obtain ⟨b, r, e, rfl⟩ : ∃ (b : Fin 4) (r : Fin 8) (e : Fin 4), i = ix3 b r e := ⟨i 0, i 1, i 2, eq_ix3 i⟩
    rw [h5, ← sup_eq m c hf, ← boxes_eq, ← scores_eq]
    rfl
  · obtain ⟨b, r, rfl⟩ : ∃ (b : Fin 4) (r : Fin 8), i = ix2 b r := ⟨i 0, i 1, eq_ix2 i⟩
    refine Eq.trans ?_ (Cert.KernelIdeal.Arrays.cast8 (res6 (boxIn m c) (scoreIn m c)) b r).symm
    rw [h6, ← sup_eq m c hf, ← scores_eq]
    rfl
  · obtain ⟨b, r, rfl⟩ : ∃ (b : Fin 4) (r : Fin 8), i = ix2 b r := ⟨i 0, i 1, eq_ix2 i⟩
    refine Eq.trans ?_ (Cert.KernelIdeal.Arrays.cast8 (res7 (boxIn m c) (scoreIn m c)) b r).symm
    rw [h7, ← sup_eq m c hf, ← scores_eq]
    rfl
  · obtain ⟨b, rfl⟩ : ∃ b : Fin 4, i = ix1 b := ⟨i 0, eq_ix1 i⟩
    refine Eq.trans ?_ (Cert.KernelIdeal.Arrays.cast1 (res8 (boxIn m c) (scoreIn m c)) b).symm
    rw [h8, ← sup_eq m c hf, ← scores_eq]
    rfl

end Cert.Agree
-- ==== Proof.lean ====
/-
  The proof of `Cert.Claim`: the three frames, that the kernel's idealization preserves it, and that on finite boxes it computes
  what the reference computes.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Agree
public import Idealize.ShloMosaic.Adequacy
public import Idealize.ShloMosaic.Init

@[expose] public section

noncomputable section

namespace Cert.Proof

open Idealize.ShloMosaic Idealize.SL.Sem

/-- The reference runs, its arguments end unchanged and its counters at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun _ h => ⟨fun c => (h.1 c).2, h.2⟩) (Cert.ReferenceIdeal.Lines.run m g)

/-- On finite boxes the kernel and the reference, from the same arguments, end with the same four results. -/
theorem algebraic : Cert.algebraic_KernelIdeal_ReferenceIdeal_pre_finite_boxes (hKernelIdeal := Cert.KernelIdeal.Gen.facts)
    (hReferenceIdeal := Cert.ReferenceIdeal.Gen.facts) (hPre_finite_boxes := Cert.Agree.preFacts) := by
  intro m g m' g' hpre hargs
  refine ⟨fun c => Cert.KernelIdeal.Arrays.res5 (Cert.KernelIdeal.Arrays.boxIn m c) (Cert.KernelIdeal.Arrays.scoreIn m c),
    fun c => shapeCast Cert.KernelIdeal.S4x8 (Cert.KernelIdeal.Arrays.res6 (Cert.KernelIdeal.Arrays.boxIn m c) (Cert.KernelIdeal.Arrays.scoreIn m c)) Cert.KernelIdeal.Gen.shapeCasts_S4x1x8_S4x8,
    fun c => shapeCast Cert.KernelIdeal.S4x8 (Cert.KernelIdeal.Arrays.res7 (Cert.KernelIdeal.Arrays.boxIn m c) (Cert.KernelIdeal.Arrays.scoreIn m c)) Cert.KernelIdeal.Gen.shapeCasts_S4x1x8_S4x8,
    fun c => shapeCast Cert.KernelIdeal.S4 (Cert.KernelIdeal.Arrays.res8 (Cert.KernelIdeal.Arrays.boxIn m c) (Cert.KernelIdeal.Arrays.scoreIn m c)) Cert.KernelIdeal.Gen.shapeCasts_S4x1x1_S4,
    Cert.KernelIdeal.Arrays.run m g, (θ_run _ _ _).mono (fun r h c => ?_) (Cert.ReferenceIdeal.Lines.run m' g')⟩
  obtain ⟨hr, k0, k1⟩ := h.1 c
  obtain ⟨e0, e1⟩ := hargs c
  rw [e0, e1] at hr
  letI := Cert.Agree.preFacts
  obtain ⟨h5, h6, h7, h8⟩ := Cert.Agree.results_eq (m := m) (c := c) (fun i => Cert.Agree.finite_of_pre _ _ (hpre c) i) hr
  exact ⟨h5, h6, h7, h8, k0, k1⟩

theorem claim : Cert.Claim :=
  ⟨Cert.Kernel.Gen.facts, Cert.KernelIdeal.Gen.facts, Cert.ReferenceIdeal.Gen.facts, Cert.Agree.preFacts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ, trivial, algebraic⟩

end Cert.Proof

end
